-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xC1F00000#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 8192, 8, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 8192, 8, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x2048x1024 : Shape := ⟨3, ![1, 2048, 1024]⟩
abbrev S1024x1024 : Shape := ⟨2, ![1024, 1024]⟩
abbrev S1x2048x8x128 : Shape := ⟨4, ![1, 2048, 8, 128]⟩
abbrev S_ : Shape := ⟨0, ![]⟩

class Facts : Prop where
  bcast_S_S1x2048x1024 : S_.BroadcastsInDim S1x2048x1024 (![] : Fin 0 → Fin S1x2048x1024.rank)
  bcast_S_S1024x1024 : S_.BroadcastsInDim S1024x1024 (![] : Fin 0 → Fin S1024x1024.rank)
  bcast_S_S1x2048x8x128 : S_.BroadcastsInDim S1x2048x8x128 (![] : Fin 0 → Fin S1x2048x8x128.rank)

variable [Facts]

def fn {F : FTy → Type} [FloatOps F] (main_arg0 : FVec F S1x2048x1024 .f32) (main_arg1 : FVec F S1024x1024 .f32) (main_arg2 : FVec F S1x2048x8x128 .f32) (main_arg3 : FVec F S1x2048x8x128 .f32) (main_arg4 : FVec F S1024x1024 .f32) : IVec S1x2048x1024 1 × IVec S1024x1024 1 × IVec S1x2048x8x128 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x2048x8x128 .f32 := Host.absf main_arg2
  let main_cst_1 : FVec F S_ .f32 := constant S_ .f32 0x7F800000#32
  let main_v7 : FVec F S1x2048x8x128 .f32 := broadcastInDim S1x2048x8x128 ![] bcast_S_S1x2048x8x128 main_cst_1
  let main_v8 : IVec S1x2048x8x128 1 := cmpf .olt main_v6 main_v7
  (main_v2, main_v5, main_v8)
-- ==== Pre_finite_ReferenceIdeal.lean ====
abbrev S1x2048x1024 : Shape := ⟨3, ![1, 2048, 1024]⟩
abbrev S1024x1024 : Shape := ⟨2, ![1024, 1024]⟩
abbrev S1x8192x8x128 : Shape := ⟨4, ![1, 8192, 8, 128]⟩
abbrev S_ : Shape := ⟨0, ![]⟩

class Facts : Prop where
  bcast_S_S1x2048x1024 : S_.BroadcastsInDim S1x2048x1024 (![] : Fin 0 → Fin S1x2048x1024.rank)
  bcast_S_S1024x1024 : S_.BroadcastsInDim S1024x1024 (![] : Fin 0 → Fin S1024x1024.rank)
  bcast_S_S1x8192x8x128 : S_.BroadcastsInDim S1x8192x8x128 (![] : Fin 0 → Fin S1x8192x8x128.rank)

variable [Facts]

def fn {F : FTy → Type} [FloatOps F] (main_arg0 : FVec F S1x2048x1024 .f32) (main_arg1 : FVec F S1024x1024 .f32) (main_arg2 : FVec F S1x8192x8x128 .f32) (main_arg3 : FVec F S1x8192x8x128 .f32) (main_arg4 : FVec F S1024x1024 .f32) : IVec S1x2048x1024 1 × IVec S1024x1024 1 × IVec S1x8192x8x128 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x8192x8x128 .f32 := Host.absf main_arg2
  let main_cst_1 : FVec F S_ .f32 := constant S_ .f32 0x7F800000#32
  let main_v7 : FVec F S1x8192x8x128 .f32 := broadcastInDim S1x8192x8x128 ![] bcast_S_S1x8192x8x128 main_cst_1
  let main_v8 : IVec S1x8192x8x128 1 := cmpf .olt main_v6 main_v7
  (main_v2, main_v5, main_v8)
-- ==== Kernel.lean ====
abbrev S1x2048x1024 : Shape := ⟨3, ![1, 2048, 1024]⟩
abbrev S1024x1024 : Shape := ⟨2, ![1024, 1024]⟩
abbrev S1x2048x8x128 : Shape := ⟨4, ![1, 2048, 8, 128]⟩
abbrev S2176x1024 : Shape := ⟨2, ![2176, 1024]⟩
abbrev S2048x1024 : Shape := ⟨2, ![2048, 1024]⟩
abbrev S2x512x1024 : Shape := ⟨3, ![2, 512, 1024]⟩
abbrev S512x1024 : Shape := ⟨2, ![512, 1024]⟩
abbrev S128x1024 : Shape := ⟨2, ![128, 1024]⟩
abbrev S2x512x8x128 : Shape := ⟨4, ![2, 512, 8, 128]⟩
abbrev S2 : Shape := ⟨1, ![2]⟩
abbrev S4x4 : Shape := ⟨2, ![4, 4]⟩
abbrev S4x2 : Shape := ⟨2, ![4, 2]⟩
abbrev S4 : Shape := ⟨1, ![4]⟩
abbrev S_ : Shape := ⟨0, ![]⟩
abbrev S1 : Shape := ⟨1, ![1]⟩
abbrev S1x512x8x128 : Shape := ⟨4, ![1, 512, 8, 128]⟩
abbrev S512x8x128 : Shape := ⟨3, ![512, 8, 128]⟩
abbrev S1x512x1024 : Shape := ⟨3, ![1, 512, 1024]⟩
abbrev S512x768 : Shape := ⟨2, ![512, 768]⟩
abbrev S512x128 : Shape := ⟨2, ![512, 128]⟩
abbrev S768x128 : Shape := ⟨2, ![768, 128]⟩
abbrev S512 : Shape := ⟨1, ![512]⟩
abbrev S512x1 : Shape := ⟨2, ![512, 1]⟩
abbrev S1x1 : Shape := ⟨2, ![1, 1]⟩
abbrev S256x1024 : Shape := ⟨2, ![256, 1024]⟩
abbrev S1x128x8x128 : Shape := ⟨4, ![1, 128, 8, 128]⟩
abbrev S128x8x128 : Shape := ⟨3, ![128, 8, 128]⟩
abbrev S1x256x1024 : Shape := ⟨3, ![1, 256, 1024]⟩

abbrev nBuf : Space → Nat
  | .hbm => 6
  | .vmem => 11
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1x2048x8x128, .f32⟩
  | .hbm, ⟨3, _⟩ => ⟨S1x2048x8x128, .f32⟩
  | .hbm, ⟨4, _⟩ => ⟨S1024x1024, .f32⟩
  | .hbm, ⟨5, _⟩ => ⟨S1x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1x2048x1024, .f32⟩
  | .local _ .vmem, ⟨3, _⟩ => ⟨S2176x1024, .bf16⟩
  | .local _ .vmem, ⟨4, _⟩ => ⟨S2176x1024, .bf16⟩
  | .local _ .vmem, ⟨5, _⟩ => ⟨S2048x1024, .bf16⟩
  | .local _ .vmem, ⟨6, _⟩ => ⟨S2x512x1024, .f32⟩
  | .local _ .vmem, ⟨7, _⟩ => ⟨S512x1024, .bf16⟩
  | .local _ .vmem, ⟨8, _⟩ => ⟨S128x1024, .bf16⟩
  | .local _ .vmem, ⟨9, _⟩ => ⟨S128x1024, .bf16⟩
  | .local _ .vmem, ⟨10, _⟩ => ⟨S2x512x8x128, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 1 43 bufScoped semScoped dmaSemScoped tileCredit tileCredit_eq_zero tileCredit_pos).withBarriers [(7, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_sem0_0 : DmaSem sig := 0
abbrev cc0_sem1_0 : DmaSem sig := 1
abbrev cc0_sem2_0 : DmaSem sig := 2
abbrev barrier7 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_28 : BitVec 32 := 0#32
  let v43 : BitVec 1 := Scalar.cmpi .eq v2 c0_i32_28
  let v44 : BitVec 32 := Scalar.extui v43
  let c0_i32_29 : BitVec 32 := 0#32
  let v45 : BitVec 1 := Scalar.cmpi .ne v44 c0_i32_29
  v45

def k0_dev4 : Nat :=
  let c0_i32_344 : BitVec 32 := 0#32
  let c1_i32_342 : BitVec 32 := 1#32
  let c1_i32_343 : BitVec 32 := 1#32
  let v406 : BitVec 32 := Scalar.muli c1_i32_342 c1_i32_343
  let v407 : BitVec 32 := Scalar.addi c0_i32_344 v406
  v407.toNat
def k0_dev5 : Nat :=
  let c0_i32_355 : BitVec 32 := 0#32
  let c3_i32_353 : BitVec 32 := 3#32
  let c1_i32_354 : BitVec 32 := 1#32
  let v414 : BitVec 32 := Scalar.muli c3_i32_353 c1_i32_354
  let v415 : BitVec 32 := Scalar.addi c0_i32_355 v414
  v415.toNat
def k0_dev6 : Nat :=
  let c0_i32_366 : BitVec 32 := 0#32
  let c1_i32_364 : BitVec 32 := 1#32
  let c1_i32_365 : BitVec 32 := 1#32
  let v422 : BitVec 32 := Scalar.muli c1_i32_364 c1_i32_365
  let v423 : BitVec 32 := Scalar.addi c0_i32_366 v422
  v423.toNat
def k0_dev7 : Nat :=
  let c0_i32_376 : BitVec 32 := 0#32
  let c3_i32_374 : BitVec 32 := 3#32
  let c1_i32_375 : BitVec 32 := 1#32
  let v430 : BitVec 32 := Scalar.muli c3_i32_374 c1_i32_375
  let v431 : BitVec 32 := Scalar.addi c0_i32_376 v430
  v431.toNat
def k0_dev8 : Nat :=
  let c0_i32_504 : BitVec 32 := 0#32
  let c1_i32_502 : BitVec 32 := 1#32
  let c1_i32_503 : BitVec 32 := 1#32
  let v628 : BitVec 32 := Scalar.muli c1_i32_502 c1_i32_503
  let v629 : BitVec 32 := Scalar.addi c0_i32_504 v628
  v629.toNat
def k0_dev9 : Nat :=
  let c0_i32_515 : BitVec 32 := 0#32
  let c3_i32_513 : BitVec 32 := 3#32
  let c1_i32_514 : BitVec 32 := 1#32
  let v636 : BitVec 32 := Scalar.muli c3_i32_513 c1_i32_514
  let v637 : BitVec 32 := Scalar.addi c0_i32_515 v636
  v637.toNat
def k0_dev10 : Nat :=
  let c0_i32_526 : BitVec 32 := 0#32
  let c1_i32_524 : BitVec 32 := 1#32
  let c1_i32_525 : BitVec 32 := 1#32
  let v644 : BitVec 32 := Scalar.muli c1_i32_524 c1_i32_525
  let v645 : BitVec 32 := Scalar.addi c0_i32_526 v644
  v645.toNat
def k0_dev11 : Nat :=
  let c0_i32_536 : BitVec 32 := 0#32
  let c3_i32_534 : BitVec 32 := 3#32
  let c1_i32_535 : BitVec 32 := 1#32
  let v652 : BitVec 32 := Scalar.muli c3_i32_534 c1_i32_535
  let v653 : BitVec 32 := Scalar.addi c0_i32_536 v652
  v653.toNat
def k0_dev12 : Nat :=
  let c0_i32_664 : BitVec 32 := 0#32
  let c1_i32_662 : BitVec 32 := 1#32
  let c1_i32_663 : BitVec 32 := 1#32
  let v850 : BitVec 32 := Scalar.muli c1_i32_662 c1_i32_663
  let v851 : BitVec 32 := Scalar.addi c0_i32_664 v850
  v851.toNat
def k0_dev13 : Nat :=
  let c0_i32_675 : BitVec 32 := 0#32
  let c3_i32_673 : BitVec 32 := 3#32
  let c1_i32_674 : BitVec 32 := 1#32
  let v858 : BitVec 32 := Scalar.muli c3_i32_673 c1_i32_674
  let v859 : BitVec 32 := Scalar.addi c0_i32_675 v858
  v859.toNat
def k0_dev14 : Nat :=
  let c0_i32_686 : BitVec 32 := 0#32
  let c1_i32_684 : BitVec 32 := 1#32
  let c1_i32_685 : BitVec 32 := 1#32
  let v866 : BitVec 32 := Scalar.muli c1_i32_684 c1_i32_685
  let v867 : BitVec 32 := Scalar.addi c0_i32_686 v866
  v867.toNat
def k0_dev15 : Nat :=
  let c0_i32_696 : BitVec 32 := 0#32
  let c3_i32_694 : BitVec 32 := 3#32
  let c1_i32_695 : BitVec 32 := 1#32
  let v874 : BitVec 32 := Scalar.muli c3_i32_694 c1_i32_695
  let v875 : BitVec 32 := Scalar.addi c0_i32_696 v874
  v875.toNat
def k0_dev16 : Nat :=
  let c0_i32_829 : BitVec 32 := 0#32
  let c1_i32_827 : BitVec 32 := 1#32
  let c1_i32_828 : BitVec 32 := 1#32
  let v1076 : BitVec 32 := Scalar.muli c1_i32_827 c1_i32_828
  let v1077 : BitVec 32 := Scalar.addi c0_i32_829 v1076
  v1077.toNat
def k0_dev17 : Nat :=
  let c0_i32_840 : BitVec 32 := 0#32
  let c3_i32_838 : BitVec 32 := 3#32
  let c1_i32_839 : BitVec 32 := 1#32
  let v1084 : BitVec 32 := Scalar.muli c3_i32_838 c1_i32_839
  let v1085 : BitVec 32 := Scalar.addi c0_i32_840 v1084
  v1085.toNat
def k0_dev18 : Nat :=
  let c0_i32_851 : BitVec 32 := 0#32
  let c1_i32_849 : BitVec 32 := 1#32
  let c1_i32_850 : BitVec 32 := 1#32
  let v1092 : BitVec 32 := Scalar.muli c1_i32_849 c1_i32_850
  let v1093 : BitVec 32 := Scalar.addi c0_i32_851 v1092
  v1093.toNat
def k0_dev19 : Nat :=
  let c0_i32_861 : BitVec 32 := 0#32
  let c3_i32_859 : BitVec 32 := 3#32
  let c1_i32_860 : BitVec 32 := 1#32
  let v1100 : BitVec 32 := Scalar.muli c3_i32_859 c1_i32_860
  let v1101 : BitVec 32 := Scalar.addi c0_i32_861 v1100
  v1101.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_30 : BitVec 32 := 1#32
  let v46 : BitVec 1 := Scalar.cmpi .eq v2 c1_i32_30
  let v47 : BitVec 32 := Scalar.extui v46
  let c0_i32_31 : BitVec 32 := 0#32
  let v48 : BitVec 1 := Scalar.cmpi .ne v47 c0_i32_31
  v48

def k0_dev20 : Nat :=
  let c0_i32_87 : BitVec 32 := 0#32
  let c0_i32_85 : BitVec 32 := 0#32
  let c1_i32_86 : BitVec 32 := 1#32
  let v93 : BitVec 32 := Scalar.muli c0_i32_85 c1_i32_86
  let v94 : BitVec 32 := Scalar.addi c0_i32_87 v93
  v94.toNat
def k0_dev21 : Nat :=
  let c0_i32_93 : BitVec 32 := 0#32
  let c0_i32_91 : BitVec 32 := 0#32
  let c1_i32_92 : BitVec 32 := 1#32
  let v100 : BitVec 32 := Scalar.muli c0_i32_91 c1_i32_92
  let v101 : BitVec 32 := Scalar.addi c0_i32_93 v100
  v101.toNat
def k0_dev22 : Nat :=
  let c0_i32_112 : BitVec 32 := 0#32
  let c2_i32_110 : BitVec 32 := 2#32
  let c1_i32_111 : BitVec 32 := 1#32
  let v113 : BitVec 32 := Scalar.muli c2_i32_110 c1_i32_111
  let v114 : BitVec 32 := Scalar.addi c0_i32_112 v113
  v114.toNat
def k0_dev23 : Nat :=
  let c0_i32_151 : BitVec 32 := 0#32
  let c2_i32_149 : BitVec 32 := 2#32
  let c1_i32_150 : BitVec 32 := 1#32
  let v143 : BitVec 32 := Scalar.muli c2_i32_149 c1_i32_150
  let v144 : BitVec 32 := Scalar.addi c0_i32_151 v143
  v144.toNat
def k0_dev24 : Nat :=
  let c0_i32_189 : BitVec 32 := 0#32
  let c2_i32_187 : BitVec 32 := 2#32
  let c1_i32_188 : BitVec 32 := 1#32
  let v173 : BitVec 32 := Scalar.muli c2_i32_187 c1_i32_188
  let v174 : BitVec 32 := Scalar.addi c0_i32_189 v173
  v174.toNat
def k0_dev25 : Nat :=
  let c0_i32_227 : BitVec 32 := 0#32
  let c2_i32_225 : BitVec 32 := 2#32
  let c1_i32_226 : BitVec 32 := 1#32
  let v203 : BitVec 32 := Scalar.muli c2_i32_225 c1_i32_226
  let v204 : BitVec 32 := Scalar.addi c0_i32_227 v203
  v204.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_32 : BitVec 32 := 3#32
  let v49 : BitVec 1 := Scalar.cmpi .eq v2 c3_i32_32
  let v50 : BitVec 32 := Scalar.extui v49
  let c0_i32_33 : BitVec 32 := 0#32
  let v51 : BitVec 1 := Scalar.cmpi .ne v50 c0_i32_33
  v51

def k0_dev26 : Nat :=
  let c0_i32_51 : BitVec 32 := 0#32
  let c2_i32_49 : BitVec 32 := 2#32
  let c1_i32_50 : BitVec 32 := 1#32
  let v61 : BitVec 32 := Scalar.muli c2_i32_49 c1_i32_50
  let v62 : BitVec 32 := Scalar.addi c0_i32_51 v61
  v62.toNat
def k0_dev27 : Nat :=
  let c0_i32_90 : BitVec 32 := 0#32
  let c2_i32_88 : BitVec 32 := 2#32
  let c1_i32_89 : BitVec 32 := 1#32
  let v91 : BitVec 32 := Scalar.muli c2_i32_88 c1_i32_89
  let v92 : BitVec 32 := Scalar.addi c0_i32_90 v91
  v92.toNat
def k0_dev28 : Nat :=
  let c0_i32_128 : BitVec 32 := 0#32
  let c2_i32_126 : BitVec 32 := 2#32
  let c1_i32_127 : BitVec 32 := 1#32
  let v121 : BitVec 32 := Scalar.muli c2_i32_126 c1_i32_127
  let v122 : BitVec 32 := Scalar.addi c0_i32_128 v121
  v122.toNat
def k0_dev29 : Nat :=
  let c0_i32_166 : BitVec 32 := 0#32
  let c2_i32_164 : BitVec 32 := 2#32
  let c1_i32_165 : BitVec 32 := 1#32
  let v151 : BitVec 32 := Scalar.muli c2_i32_164 c1_i32_165
  let v152 : BitVec 32 := Scalar.addi c0_i32_166 v151
  v152.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1024x1024 : Shape := ⟨2, ![1024, 1024]⟩
abbrev S1x8192x8x128 : Shape := ⟨4, ![1, 8192, 8, 128]⟩
abbrev S1x2048x8x128 : Shape := ⟨4, ![1, 2048, 8, 128]⟩
abbrev S2048 : Shape := ⟨1, ![2048]⟩
abbrev S2048x1 : Shape := ⟨2, ![2048, 1]⟩
abbrev S8192 : Shape := ⟨1, ![8192]⟩
abbrev S1x8192 : Shape := ⟨2, ![1, 8192]⟩
abbrev S2048x8192 : Shape := ⟨2, ![2048, 8192]⟩
abbrev S_ : Shape := ⟨0, ![]⟩
abbrev S1x8x2048x8192 : Shape := ⟨4, ![1, 8, 2048, 8192]⟩
abbrev S1x1x2048x8192 : Shape := ⟨4, ![1, 1, 2048, 8192]⟩
abbrev S1x8x2048 : Shape := ⟨3, ![1, 8, 2048]⟩
abbrev S1x8x2048x1 : Shape := ⟨4, ![1, 8, 2048, 1]⟩
abbrev S1x1x2048x1 : Shape := ⟨4, ![1, 1, 2048, 1]⟩
abbrev S1x8x128x2048 : Shape := ⟨4, ![1, 8, 128, 2048]⟩

abbrev nBuf : Space → Nat
  | .hbm => 57
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1x8192x8x128, .f32⟩
  | .hbm, ⟨3, _⟩ => ⟨S1x8192x8x128, .f32⟩
  | .hbm, ⟨4, _⟩ => ⟨S1024x1024, .f32⟩
  | .hbm, ⟨5, _⟩ => ⟨S1x2048x1024, .f32⟩
  | .hbm, ⟨6, _⟩ => ⟨S1x2048x8x128, .f32⟩
  | .hbm, ⟨7, _⟩ => ⟨S2048, .i32⟩
  | .hbm, ⟨8, _⟩ => ⟨S2048x1, .i32⟩
  | .hbm, ⟨9, _⟩ => ⟨S8192, .i32⟩
  | .hbm, ⟨10, _⟩ => ⟨S1x8192, .i32⟩
  | .hbm, ⟨11, _⟩ => ⟨S2048x8192, .i32⟩
  | .hbm, ⟨12, _⟩ => ⟨S2048x8192, .i32⟩
  | .hbm, ⟨13, _⟩ => ⟨S2048x8192, .i32⟩
  | .hbm, ⟨14, _⟩ => ⟨S2048x8192, .i32⟩
  | .hbm, ⟨15, _⟩ => ⟨S_, .i32⟩
  | .hbm, ⟨16, _⟩ => ⟨S2048x8192, .i32⟩
  | .hbm, ⟨17, _⟩ => ⟨S2048x8192, .i1⟩
  | .hbm, ⟨18, _⟩ => ⟨S1x8x2048x8192, .f32⟩
  | .hbm, ⟨19, _⟩ => ⟨S_, .f32⟩
  | .hbm, ⟨20, _⟩ => ⟨S1x8x2048x8192, .f32⟩
  | .hbm, ⟨21, _⟩ => ⟨S1x8x2048x8192, .f32⟩
  | .hbm, ⟨22, _⟩ => ⟨S1x1x2048x8192, .i1⟩
  | .hbm, ⟨23, _⟩ => ⟨S_, .f32⟩
  | .hbm, ⟨24, _⟩ => ⟨S_, .f32⟩
  | .hbm, ⟨25, _⟩ => ⟨S1x8x2048x8192, .i1⟩
  | .hbm, ⟨26, _⟩ => ⟨S1x8x2048x8192, .f32⟩
  | .hbm, ⟨27, _⟩ => ⟨S1x8x2048x8192, .f32⟩
  | .hbm, ⟨28, _⟩ => ⟨S_, .f32⟩
  | .hbm, ⟨29, _⟩ => ⟨S1x8x2048, .f32⟩
  | .hbm, ⟨30, _⟩ => ⟨S1x8x2048x1, .f32⟩
  | .hbm, ⟨31, _⟩ => ⟨S1x8x2048x8192, .f32⟩
  | .hbm, ⟨32, _⟩ => ⟨S1x8x2048x8192, .f32⟩
  | .hbm, ⟨33, _⟩ => ⟨S1x8x2048x8192, .f32⟩
  | .hbm, ⟨34, _⟩ => ⟨S_, .i1⟩
  | .hbm, ⟨35, _⟩ => ⟨S2048, .i1⟩
  | .hbm, ⟨36, _⟩ => ⟨S1x1x2048x1, .i1⟩
  | .hbm, ⟨37, _⟩ => ⟨S_, .f32⟩
  | .hbm, ⟨38, _⟩ => ⟨S1x8x2048, .f32⟩
  | .hbm, ⟨39, _⟩ => ⟨S1x8x2048x1, .f32⟩
  | .hbm, ⟨40, _⟩ => ⟨S_, .f32⟩
  | .hbm, ⟨41, _⟩ => ⟨S_, .f32⟩
  | .hbm, ⟨42, _⟩ => ⟨S1x8x2048x1, .i1⟩
  | .hbm, ⟨43, _⟩ => ⟨S1x8x2048x1, .f32⟩
  | .hbm, ⟨44, _⟩ => ⟨S1x8x2048x1, .f32⟩
  | .hbm, ⟨45, _⟩ => ⟨S1x8x2048x8192, .f32⟩
  | .hbm, ⟨46, _⟩ => ⟨S1x8x2048x8192, .f32⟩
  | .hbm, ⟨47, _⟩ => ⟨S1x1x2048x1, .i1⟩
  | .hbm, ⟨48, _⟩ => ⟨S_, .f32⟩
  | .hbm, ⟨49, _⟩ => ⟨S_, .f32⟩
  | .hbm, ⟨50, _⟩ => ⟨S1x8x2048x8192, .i1⟩
  | .hbm, ⟨51, _⟩ => ⟨S1x8x2048x8192, .f32⟩
  | .hbm, ⟨52, _⟩ => ⟨S1x8x2048x8192, .f32⟩
  | .hbm, ⟨53, _⟩ => ⟨S1x8x128x2048, .f32⟩
  | .hbm, ⟨54, _⟩ => ⟨S1x2048x8x128, .f32⟩
  | .hbm, ⟨55, _⟩ => ⟨S1x2048x1024, .f32⟩
  | .hbm, ⟨56, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.KI.Values.lean ====
/-
# The values the kernel leaves, as functions of its arrays

Device 0 narrows its key and value rows to bf16 and appends the first 128 rows of device 1 (`kbV`). For each chunk of
512 rows it projects the rows of `x` (`qC`), forms one attention head at a time over a window of 768 key rows (`head`),
lays the eight heads side by side (`ctxC`), and projects them to the output (`oc`). Device 0 stores `oc` itself; the
other devices receive its bf16 rounding (`obV`) and widen it.
-/
module

public import proofs.«01_k».proof.Proof.Gen.KernelIdeal
public import proofs.«01_k».proof.Proof.Gen.KernelIdeal.Skeleton
public import Idealize.ShloMosaic.Lib.ValueLayout
public import Idealize.ShloMosaic.Lib.WritesUnit
public import Idealize.ShloMosaic.Lib.Tactic

@[expose] public section

noncomputable section

namespace Cert.KIProof

open Cert.KernelIdeal Cert.KernelIdeal.Gen
open Idealize.ShloMosaic Idealize.ShloMosaic.ValueIdx

variable {F : FTy → Type} [FloatOps F] [Named F]

/-- Element `(r, e)` of the narrowed key or value array made of the whole of `A` and the first rows of `B`: row `r`,
    head `e / 128`, lane `e % 128`. -/
def kbV (A B : Vec F S1x2048x8x128 .f32) : Vec F S2176x1024 .bf16 := fun i =>
  FloatOps.truncf .bf16 bitsLt_bf16_f32
    (if h : (i 0).val < 2048 then
      A (ix4 0 ⟨(i 0).val, h⟩ ⟨(i 1).val / 128, Nat.div_lt_of_lt_mul (i 1).isLt⟩ ⟨(i 1).val % 128, Nat.mod_lt _ (by decide)⟩)
    else
      B (ix4 0 ⟨(i 0).val - 2048, lt_of_le_of_lt (Nat.sub_le_sub_right (Nat.le_of_lt (i 0).isLt) 2048) (by decide)⟩
        ⟨(i 1).val / 128, Nat.div_lt_of_lt_mul (i 1).isLt⟩ ⟨(i 1).val % 128, Nat.mod_lt _ (by decide)⟩))

/-- The narrowed first 128 rows of `B`: what device 1 sends device 0. -/
def haloV (B : Vec F S1x2048x8x128 .f32) : Vec F S128x1024 .bf16 := fun i =>
  FloatOps.truncf .bf16 bitsLt_bf16_f32
    (B (ix4 0 ⟨(i 0).val, lt_trans (i 0).isLt (by decide)⟩ ⟨(i 1).val / 128, Nat.div_lt_of_lt_mul (i 1).isLt⟩
      ⟨(i 1).val % 128, Nat.mod_lt _ (by decide)⟩))

/-- The rows `512 c … 512 c + 511` of `x`. -/
def xC (x : Vec F S1x2048x1024 .f32) (c : Fin 4) : Vec F S1x512x1024 .f32 := fun j =>
  x (ix3 0 ⟨512 * c.val + (j 1).val, by have := c.isLt; have h : (j 1).val < 512 := (j 1).isLt; omega⟩ (j 2))

/-- The first key row of chunk `c`'s window: `max (512 c - 128) 0`. -/
def ks (c : Fin 4) : ℕ := 512 * c.val - 128

/-- The scaled queries of chunk `c`, all heads. -/
def qC (x : Vec F S1x2048x1024 .f32) (Wq : Vec F S1024x1024 .f32) (c : Fin 4) : FVec F S512x1024 .bf16 :=
  k0_pay14 (k0_pay3 Wq) (xC x c)

/-- Head `h`'s lanes of the queries. -/
def qh (q : FVec F S512x1024 .bf16) (h : Fin 8) : FVec F S512x128 .bf16 := fun j =>
  q (ix2 (j 0) ⟨128 * h.val + (j 1).val, by have := h.isLt; have h' : (j 1).val < 128 := (j 1).isLt; omega⟩)

/-- Chunk `c`'s window of head `h`'s lanes of the narrowed keys or values. -/
def kh (kb : Vec F S2176x1024 .bf16) (c : Fin 4) (h : Fin 8) : Vec F S768x128 .bf16 := fun j =>
  kb (ix2 ⟨ks c + (j 0).val, by unfold ks; have := c.isLt; have h' : (j 0).val < 768 := (j 0).isLt; omega⟩
    ⟨128 * h.val + (j 1).val, by have := h.isLt; have h' : (j 1).val < 128 := (j 1).isLt; omega⟩)

/-- Which keys of a window starting at row `k0` a query row of a chunk starting at row `q0` may look at. -/
def maskW (q0 k0 : BitVec 32) : IVec S512x768 1 :=
  cmpi .sle (absi (subi (addi (broadcast S512x768 q0) (iota .tc S512x768 32 [0] iota_S512x768_d0_w32))
    (addi (broadcast S512x768 k0) (iota .tc S512x768 32 [1] iota_S512x768_d1_w32)))) (broadcast S512x768 128#32)

def maskC (c : Fin 4) : IVec S512x768 1 := maskW (BitVec.ofNat 32 (512 * c.val)) (BitVec.ofNat 32 (ks c))

/-- One attention head of chunk `c`. -/
def head (q : FVec F S512x1024 .bf16) (kb vb : Vec F S2176x1024 .bf16) (c : Fin 4) (h : Fin 8) : FVec F S512x128 .bf16 :=
  k0_pay18 (maskC c) (qh q h) (kh kb c h) (kh vb c h)

/-- The eight heads side by side. -/
def ctxC (q : FVec F S512x1024 .bf16) (kb vb : Vec F S2176x1024 .bf16) (c : Fin 4) : Vec F S512x1024 .bf16 := fun i =>
  head q kb vb c ⟨(i 1).val / 128, Nat.div_lt_of_lt_mul (i 1).isLt⟩ (ix2 (i 0) ⟨(i 1).val % 128, Nat.mod_lt _ (by decide)⟩)

/-- Chunk `c`'s output rows, in f32. -/
def oc (x : Vec F S1x2048x1024 .f32) (Wq : Vec F S1024x1024 .f32) (kb vb : Vec F S2176x1024 .bf16) (Wo : Vec F S1024x1024 .f32)
    (c : Fin 4) : FVec F S512x1024 .f32 :=
  matmul dot_S512x1024_S1024x1024_S512x1024_1_0_0_1_n_n none (ctxC (qC x Wq c) kb vb c) (k0_pay4 Wo) (constant S512x1024 .f32 0x00000000#32)

/-- The output rows, in f32, all chunks. -/
def ocV (x : Vec F S1x2048x1024 .f32) (Wq : Vec F S1024x1024 .f32) (kb vb : Vec F S2176x1024 .bf16) (Wo : Vec F S1024x1024 .f32)
    (r : Fin 2048) (e : Fin 1024) : F .f32 :=
  oc x Wq kb vb Wo ⟨r.val / 512, Nat.div_lt_of_lt_mul r.isLt⟩ (ix2 ⟨r.val % 512, Nat.mod_lt _ (by decide)⟩ e)

/-- Their bf16 rounding: what device 0 sends. -/
def obV (x : Vec F S1x2048x1024 .f32) (Wq : Vec F S1024x1024 .f32) (kb vb : Vec F S2176x1024 .bf16) (Wo : Vec F S1024x1024 .f32) :
    Vec F S2048x1024 .bf16 := fun i => FloatOps.truncf .bf16 bitsLt_bf16_f32 (ocV x Wq kb vb Wo (i 0) (i 1))

/-- Device 0's result. -/
def out0V (x : Vec F S1x2048x1024 .f32) (Wq : Vec F S1024x1024 .f32) (kb vb : Vec F S2176x1024 .bf16) (Wo : Vec F S1024x1024 .f32) :
    Vec F S1x2048x1024 .f32 := fun i => ocV x Wq kb vb Wo (i 1) (i 2)

/-- The other devices' result: the received rows, widened. -/
def outNV (ob : Vec F S2048x1024 .bf16) : Vec F S1x2048x1024 .f32 := fun i => FloatOps.extf .f32 bitsLt_bf16_f32 (ob (ix2 (i 1) (i 2)))

end Cert.KIProof

end
-- ==== Proof.KI.Protocol.lean ====
/-
# The protocol: who signals, who waits, what each landing hands over

Every cell has one round. The barrier cell of a device has a duty for each other device, of one unit; with it that
device hands over the memory that the owner will copy into:
  device 0 hands device 1 the last 128 rows of its narrowed keys and values;
  devices 1 and 3 hand device 0 their whole received-rows buffer, in eight pieces of 256 rows;
  device 2 hands device 1 the even pieces of its buffer and device 3 the odd ones.
A copy has a duty at the sender's departure cell (the source comes back) and one at the receiver's arrival cell (the
destination arrives, holding known contents):
  device 1 sends its first 128 narrowed key and value rows to device 0 (cells 5, 6 there, 3, 4 here);
  device 0 sends piece `j` to device 1 (cells `7 + 2 j`, arrival `23 + j`) and to device 3 (cells `8 + 2 j`, arrival `23 + j`);
  device 1 forwards the even pieces to device 2 (cell `7 + 4 i`, arrival `31 + i`), device 3 the odd ones (`8 + 4 i`, `35 + i`).
Levels: departures 0, barriers 1, the arrivals at device 0 at 2, those at devices 1 and 3 at 3, those at device 2 at 4.
-/
module

public import proofs.«01_k».proof.Proof.KI.Values
public import proofs.«01_k».proof.Proof.Gen.KernelIdeal.Launch
public import Idealize.ShloMosaic.Lib.Pipeline.Launch
public import Idealize.ShloMosaic.Lib.Pipeline.Kit
public import Idealize.ShloMosaic.Lib.Transfers

@[expose] public section

noncomputable section

namespace Cert.KIProof

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline library's copy, the protocol's, whose duties are named by the payer, and counters -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The protocol's copy: the left half of the right factor. The right half counts the copies that stay on a device. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
omit [FloatOps F] [Named F] in
instance ER_landsIn : (ER : Emb UB 𝕄).LandsIn (upEmb : UEmb _ 𝕄) := by unfold ER; infer_instance
abbrev EC : UEmb Counters (MT nD τ sig Unit (Elt F) ℕ UU ℕ) := countersEmb

variable (m : (ℓ : Loc nD τ sig) → Buf (Elt F) ℓ) (ρ : Dev nD → PrngReg)

/-! ## Contents -/

def xA : Vec F S1x2048x1024 .f32 := m (((0 : Dev nD) : Thread nD τ).loc main_arg0)
def wqA : Vec F S1024x1024 .f32 := m (((0 : Dev nD) : Thread nD τ).loc main_arg1)
def kA (c : Dev nD) : Vec F S1x2048x8x128 .f32 := m ((c : Thread nD τ).loc main_arg2)
def vA (c : Dev nD) : Vec F S1x2048x8x128 .f32 := m ((c : Thread nD τ).loc main_arg3)
def woA : Vec F S1024x1024 .f32 := m (((0 : Dev nD) : Thread nD τ).loc main_arg4)

/-- The narrowed keys and values of device 0 and the head of device 1's. -/
def kbA : Vec F S2176x1024 .bf16 := kbV (kA m 0) (kA m 1)
def vbA : Vec F S2176x1024 .bf16 := kbV (vA m 0) (vA m 1)
/-- The rows device 0 sends. -/
def obA : Vec F S2048x1024 .bf16 := obV (xA m) (wqA m) (kbA m) (vbA m) (woA m)
/-- What device `c`'s result array ends with. -/
def outA (c : Dev nD) : Vec F S1x2048x1024 .f32 :=
  if c = 0 then out0V (xA m) (wqA m) (kbA m) (vbA m) (woA m) else outNV (obA m)

/-! ## Memrefs and cells -/

abbrev kbM : Memref sig .tc .vmem S2176x1024 .bf16 := Memref.whole cc0_scratch0
abbrev vbM : Memref sig .tc .vmem S2176x1024 .bf16 := Memref.whole cc0_scratch1
abbrev obM : Memref sig .tc .vmem S2048x1024 .bf16 := Memref.whole cc0_scratch2
abbrev hkM : Memref sig .tc .vmem S128x1024 .bf16 := Memref.whole cc0_scratch5
abbrev hvM : Memref sig .tc .vmem S128x1024 .bf16 := Memref.whole cc0_scratch6

/-- The rows 2048 … 2175 of the narrowed keys and values, where device 1's rows land. -/
abbrev kbH : Memref sig .tc .vmem S128x1024 .bf16 :=
  kbM.slice (Rect.unit (s := S2176x1024) ![2048, 0] S128x1024.size inb_S2176x1024_S128x1024_2048_0) (fun _ => rfl)
abbrev vbH : Memref sig .tc .vmem S128x1024 .bf16 :=
  vbM.slice (Rect.unit (s := S2176x1024) ![2048, 0] S128x1024.size inb_S2176x1024_S128x1024_2048_0) (fun _ => rfl)
/-- The 256 rows from row `o` on of the rows buffer. -/
abbrev obS (o : ℕ) (h : ∀ a, (![o, 0] : Fin 2 → ℕ) a + S256x1024.size a ≤ S2048x1024.size a) : Memref sig .tc .vmem S256x1024 .bf16 :=
  obM.slice (Rect.unit (s := S2048x1024) ![o, 0] S256x1024.size h) (fun _ => rfl)
abbrev oB0 := obS 0 inb_S2048x1024_S256x1024_0_0
abbrev oB1 := obS 256 inb_S2048x1024_S256x1024_256_0
abbrev oB2 := obS 512 inb_S2048x1024_S256x1024_512_0
abbrev oB3 := obS 768 inb_S2048x1024_S256x1024_768_0
abbrev oB4 := obS 1024 inb_S2048x1024_S256x1024_1024_0
abbrev oB5 := obS 1280 inb_S2048x1024_S256x1024_1280_0
abbrev oB6 := obS 1536 inb_S2048x1024_S256x1024_1536_0
abbrev oB7 := obS 1792 inb_S2048x1024_S256x1024_1792_0

theorem obS_inb {j : ℕ} (h : j < 8) : ∀ a, (![256 * j, 0] : Fin 2 → ℕ) a + S256x1024.size a ≤ S2048x1024.size a := by
  intro a
  match a with
  | ⟨0, _⟩ => show 256 * j + 256 ≤ 2048; omega
  | ⟨1, _⟩ => show 0 + 1024 ≤ 1024; omega

abbrev barS : Sem sig := (SemArray.scalar (sig.barrier 7 rfl) : Sems sig S_).sem
abbrev barCell (c : Dev nD) : GSem nD τ sig := ((c : Thread nD τ), .reg barS)
abbrev dCell (c : Dev nD) (q : DmaSem sig) : GSem nD τ sig := ((c : Thread nD τ), .dma q)

/-- The credit of a copy of 128 rows, and of 256. -/
def NH : ℕ := (hkM : Memref sig .tc .vmem S128x1024 .bf16).view.dmaCredit
def NO : ℕ := (obS 0 inb_S2048x1024_S256x1024_0_0 : Memref sig .tc .vmem S256x1024 .bf16).view.dmaCredit

abbrev obQ (r : Memref sig .tc .vmem S256x1024 .bf16) (c : Dev nD) (q : PosShare TreeShare) (f : Buf (Elt F) (r.view.loc (c : Thread nD τ))) : sProp 𝕄 :=
  r.view.loc (c : Thread nD τ) ↦[r.view.set]{q} f

/-- Piece `j` of device `c`'s rows buffer, at share `q`, holding `f`. -/
def obP (c : Dev nD) (j : ℕ) (q : PosShare TreeShare) (f : Vec F S2048x1024 .bf16) : sProp 𝕄 :=
  if h : j < 8 then
    (obS (256 * j) (obS_inb h)).view.loc (c : Thread nD τ) ↦[(obS (256 * j) (obS_inb h)).view.set]{q} f
  else iprop(emp)

def kbHP (f : Vec F S2176x1024 .bf16) : sProp 𝕄 := kbH.view.loc ((0 : Dev nD) : Thread nD τ) ↦[kbH.view.set]{fullShare} f
def vbHP (f : Vec F S2176x1024 .bf16) : sProp 𝕄 := vbH.view.loc ((0 : Dev nD) : Thread nD τ) ↦[vbH.view.set]{fullShare} f
def hkP (f : Vec F S128x1024 .bf16) : sProp 𝕄 := hkM.view.loc ((1 : Dev nD) : Thread nD τ) ↦[hkM.view.set]{fullShare} f
def hvP (f : Vec F S128x1024 .bf16) : sProp 𝕄 := hvM.view.loc ((1 : Dev nD) : Thread nD τ) ↦[hvM.view.set]{fullShare} f

omit [FloatOps F] [Named F] in
instance obP_storable (c : Dev nD) (j) (q) (f) : BI.Storable (upEmb : UEmb _ 𝕄) (obP (F := F) c j q f) := by
  unfold obP; split <;> infer_instance
omit [FloatOps F] [Named F] in
instance kbHP_storable (f) : BI.Storable (upEmb : UEmb _ 𝕄) (kbHP (F := F) f) := by unfold kbHP; infer_instance
omit [FloatOps F] [Named F] in
instance vbHP_storable (f) : BI.Storable (upEmb : UEmb _ 𝕄) (vbHP (F := F) f) := by unfold vbHP; infer_instance
omit [FloatOps F] [Named F] in
instance hkP_storable (f) : BI.Storable (upEmb : UEmb _ 𝕄) (hkP (F := F) f) := by unfold hkP; infer_instance
omit [FloatOps F] [Named F] in
instance hvP_storable (f) : BI.Storable (upEmb : UEmb _ 𝕄) (hvP (F := F) f) := by unfold hvP; infer_instance

/-! ## The schedule -/

/-- Piece `j` of device `c`'s buffer, whatever it holds. -/
def obAny (c : Dev nD) (j : ℕ) : sProp 𝕄 := iprop(∃ f, obP c j fullShare f)

/-- What device `d`'s signal to device `c`'s barrier hands over. -/
def barPay (c d : Dev nD) : sProp 𝕄 :=
  if c = 0 ∧ (d = 1 ∨ d = 3) then
    iprop(obAny d 0 ∗ obAny d 1 ∗ obAny d 2 ∗ obAny d 3 ∗ obAny d 4 ∗ obAny d 5 ∗ obAny d 6 ∗ obAny d 7)
  else if c = 1 ∧ d = 0 then iprop((∃ f, kbHP f) ∗ ∃ f, vbHP f)
  else if c = 1 ∧ d = 2 then iprop(obAny 2 0 ∗ obAny 2 2 ∗ obAny 2 4 ∗ obAny 2 6)
  else if c = 3 ∧ d = 2 then iprop(obAny 2 1 ∗ obAny 2 3 ∗ obAny 2 5 ∗ obAny 2 7)
  else iprop(emp)

/-- What the copy that credits device `c`'s DMA semaphore `q` hands over. -/
def dmaPay (c : Dev nD) (q : ℕ) : sProp 𝕄 :=
  if c = 0 then
    if q = 3 then kbHP (kbA m) else if q = 4 then vbHP (vbA m)
    else if q < 7 then iprop(emp)
    else if q < 23 then obP 0 ((q - 7) / 2) (if (q - 7) % 2 = 0 then fullShare.left else fullShare.right) (obA m)
    else iprop(emp)
  else if c = 2 then
    if q < 31 then iprop(emp)
    else if q < 35 then obP 2 (2 * (q - 31)) fullShare (obA m)
    else if q < 39 then obP 2 (2 * (q - 35) + 1) fullShare (obA m)
    else iprop(emp)
  else
    if q < 5 then iprop(emp)
    else if q = 5 then hkP (haloV (kA m 1)) else if q = 6 then hvP (haloV (vA m 1))
    else if q < 23 then obP c (if c = 1 then (q - 7) / 2 else (q - 7) / 2 + 1) fullShare.left (obA m)
    else if q < 31 then obP c (q - 23) fullShare (obA m)
    else iprop(emp)

/-- The device whose copy credits device `c`'s DMA semaphore `q`, if one does. -/
def payer (c : Dev nD) (q : DmaSem sig) : Option (Dev nD) :=
  if c = 0 then if q.val = 3 ∨ q.val = 4 then some 1 else if 7 ≤ q.val ∧ q.val < 23 then some 0 else none
  else if c = 1 then
    if q.val = 5 ∨ q.val = 6 then some 1 else if 7 ≤ q.val ∧ q.val < 23 ∧ q.val % 4 = 3 then some 1
    else if 23 ≤ q.val ∧ q.val < 31 then some 0 else none
  else if c = 2 then
    if 31 ≤ q.val ∧ q.val < 35 then some 1 else if 35 ≤ q.val ∧ q.val < 39 then some 3 else none
  else
    if 7 ≤ q.val ∧ q.val < 23 ∧ q.val % 4 = 0 then some 3 else if 23 ≤ q.val ∧ q.val < 31 then some 0 else none

def dutyOf (c : Dev nD) : SemLoc sig → Finset (Dev nD)
  | .reg _ => Finset.univ.erase c
  | .dma q => (payer c q).elim ∅ fun d => {d}

def amtD (q : ℕ) : ℕ := if q < 7 then NH else NO

def kRd : Rounds.Schedule (GSem nD τ sig) (Dev nD) 𝕄 where
  duties g r := if r = 0 ∧ g.1.2 = .tc then dutyOf g.1.1 g.2 else ∅
  unitless _ := False
  amount g _ _ := match g.2 with
    | .reg _ => 1
    | .dma q => amtD q.val
  payload g _ d := match g.2 with
    | .reg _ => barPay g.1.1 d
    | .dma q => dmaPay m g.1.1 q.val
  amount_pos g _ _ _ := by
    rcases g with ⟨t, sm⟩
    cases sm with
    | reg s => exact Nat.one_pos
    | dma q => show 0 < amtD q.val; unfold amtD NH NO; split <;> exact View.dmaCredit_pos _ (by decide)

omit [FloatOps F] [Named F] in
instance obAny_storable (c : Dev nD) (j) : BI.Storable (upEmb : UEmb _ 𝕄) (obAny (F := F) c j) := by unfold obAny; infer_instance
omit [FloatOps F] [Named F] in
instance barPay_storable (c d : Dev nD) : BI.Storable (upEmb : UEmb _ 𝕄) (barPay (F := F) c d) := by
  unfold barPay; (repeat' split) <;> infer_instance
instance dmaPay_storable (c : Dev nD) (q : ℕ) : BI.Storable (upEmb : UEmb _ 𝕄) (dmaPay m c q) := by
  unfold dmaPay; (repeat' split) <;> infer_instance
instance kRd_payload_storable (g : GSem nD τ sig) (r : ℕ) (d : Dev nD) : BI.Storable (upEmb : UEmb _ 𝕄) ((kRd (F := F) m).payload g r d) := by
  rcases g with ⟨t, sm⟩
  cases sm with
  | reg s => exact barPay_storable t.1 d
  | dma q => exact dmaPay_storable m t.1 q.val

theorem duties_later (g : GSem nD τ sig) : ∀ r, 1 ≤ r → (kRd (F := F) m).duties g r = ∅ :=
  fun r hr => by dsimp only [kRd]; rw [if_neg fun h => by omega]

theorem duties_bar (c : Dev nD) : (kRd (F := F) m).duties (barCell c) 0 = Finset.univ.erase c := by
  dsimp only [kRd]; exact if_pos ⟨rfl, rfl⟩
theorem duties_dma (c : Dev nD) (q : DmaSem sig) {d : Dev nD} (h : payer c q = some d) : (kRd (F := F) m).duties (dCell c q) 0 = {d} := by
  dsimp only [kRd]; rw [if_pos ⟨rfl, rfl⟩]; show (payer c q).elim ∅ _ = _; rw [h]; rfl
theorem duties_none (c : Dev nD) (q : DmaSem sig) (h : payer c q = none) (r : ℕ) : (kRd (F := F) m).duties (dCell c q) r = ∅ := by
  dsimp only [kRd]; split
  · show (payer c q).elim ∅ _ = _; rw [h]; rfl
  · rfl
theorem amount_bar (c d : Dev nD) : (kRd (F := F) m).amount (barCell c) 0 d = 1 := rfl
theorem amount_dma (c : Dev nD) (q : DmaSem sig) (d : Dev nD) : (kRd (F := F) m).amount (dCell c q) 0 d = amtD q.val := rfl
theorem expect_bar (c : Dev nD) : (kRd (F := F) m).expect (barCell c) 0 = 3 := by
  unfold Schedule.expect Schedule.amountOf
  rw [duties_bar, Finset.sum_congr rfl fun d _ => amount_bar m c d, Finset.sum_const, Finset.card_erase_of_mem (Finset.mem_univ _), Finset.card_univ, smul_eq_mul]
  rfl
theorem expect_dma (c : Dev nD) (q : DmaSem sig) {d : Dev nD} (h : payer c q = some d) : (kRd (F := F) m).expect (dCell c q) 0 = amtD q.val := by
  unfold Schedule.expect Schedule.amountOf; rw [duties_dma m c q h, Finset.sum_singleton, amount_dma]
theorem payload_bar (c d : Dev nD) : (kRd (F := F) m).payload (barCell c) 0 d = barPay c d := rfl
theorem payload_dma (c : Dev nD) (q : DmaSem sig) (d : Dev nD) : (kRd (F := F) m).payload (dCell c q) 0 d = dmaPay m c q.val := rfl

theorem rest_dma (c : Dev nD) (q : DmaSem sig) {d : Dev nD} (h : payer c q = some d) :
    bigSep ((kRd (F := F) m).duties (dCell c q) 0 \ ∅) (fun d => (kRd (F := F) m).payload (dCell c q) 0 d) = dmaPay m c q.val := by
  rw [Finset.sdiff_empty, duties_dma m c q h, bigSep_singleton, payload_dma]

/-! ## What each device owes; the levels -/

/-- One payment due: to a device's barrier cell (`none`), or to its DMA cell. -/
abbrev Due : Type := Dev nD × Option (DmaSem sig)

def due : Due → CellTallies nD τ sig Unit
  | (c, none) => tallyAt (barCell c) () 1
  | (c, some q) => tallyAt (dCell c q) () (amtD q.val)

/-- The payments due, the first of the list the next to be made. -/
def owesL : List Due → CellTallies nD τ sig Unit
  | [] => 0
  | a :: l => owesL l + due a

def L (g : GSem nD τ sig) : Finset Unit := if g.1.2 = .tc then {()} else ∅
def lvD (c : Dev nD) (q : ℕ) : ℕ :=
  if c = 0 then if q = 3 ∨ q = 4 then 2 else 0
  else if 31 ≤ q ∧ q < 39 then 4 else if 23 ≤ q ∧ q < 31 then 3 else 0
def lv (g : GSem nD τ sig) (_ : Unit) : ℕ := match g.2 with
  | .reg _ => 1
  | .dma q => lvD g.1.1 q.val

theorem L_of_ne (g : GSem nD τ sig) (h : g.1.2 ≠ .tc) : L g = ∅ := if_neg h
theorem L_tc (c : Dev nD) (sm : SemLoc sig) : L ((c : Thread nD τ), sm) = {()} := if_pos rfl

def lvDue : Due → ℕ
  | (_, none) => 1
  | (c, some q) => lvD c q.val

theorem owesL_pos {n : ℕ} : ∀ {l : List Due}, (l.all fun a => decide (n < lvDue a)) = true → ∀ {g : GSem nD τ sig} {u : Unit}, 0 < owesL l g u →
    g.1.2 = .tc ∧ n < lv g u
  | [], _, g, u, h => absurd h (Nat.lt_irrefl 0)
  | a :: l, hl, g, u, h => by
    rw [List.all_cons, Bool.and_eq_true, decide_eq_true_eq] at hl
    unfold owesL at h
    rw [Pi.add_apply, Finsupp.add_apply] at h
    by_cases h0 : 0 < owesL l g u
    · exact owesL_pos hl.2 h0
    · have h1 : 0 < due a g u := by omega
      obtain ⟨c, o⟩ := a
      cases o with
      | none =>
        unfold due at h1; dsimp only at h1
        rw [tallyAt_apply] at h1
        by_cases hg : g = barCell c ∧ u = ()
        · rw [hg.1]; exact ⟨rfl, hl.1⟩
        · rw [if_neg hg] at h1; exact absurd h1 (Nat.lt_irrefl 0)
      | some q =>
        unfold due at h1; dsimp only at h1
        rw [tallyAt_apply] at h1
        by_cases hg : g = dCell c q ∧ u = ()
        · rw [hg.1]; exact ⟨rfl, hl.1⟩
        · rw [if_neg hg] at h1; exact absurd h1 (Nat.lt_irrefl 0)

/-- A device may wait at a cell whose level lies below those of the cells it still owes. -/
theorem mayWait_any (c : Dev nD) (sm : SemLoc sig) (l : List Due) (h : (l.all fun a => decide (lv ((c : Thread nD τ), sm) () < lvDue a)) = true) :
    (levAts L lv : sProp 𝕄) ⊢ MayWait (c : Thread nD τ) sm () (owesL l) :=
  MayOwe.of_cut (L := L) (lev := lv) (lv ((c : Thread nD τ), sm) ()) (fun p hp => by rw [Finset.mem_singleton.mp hp, L_tc]; exact Finset.mem_singleton_self _)
    (fun g u hg => by rw [show L g = {()} from if_pos (owesL_pos h hg).1]; exact Finset.mem_singleton_self _)
    (fun p hp => by rw [Finset.mem_singleton.mp hp])
    (fun g u hg => (owesL_pos h hg).2)

/-- The same at a DMA cell, the condition on numbers alone. -/
theorem mayWait_dma (c : Dev nD) (q : DmaSem sig) (l : List Due) (h : (l.all fun a => decide (lvD c q.val < lvDue a)) = true) :
    (levAts L lv : sProp 𝕄) ⊢ MayWait (c : Thread nD τ) (.dma q) () (owesL l) := mayWait_any c (.dma q) l h

/-- What each device owes at launch, in the order it pays. -/
def dues0 : List Due := [(1, none), (2, none), (3, none),
  (1, some 23), (3, some 23), (1, some 24), (3, some 24), (1, some 25), (3, some 25), (1, some 26), (3, some 26),
  (1, some 27), (3, some 27), (1, some 28), (3, some 28), (1, some 29), (3, some 29), (1, some 30), (3, some 30)]
def dues1 : List Due := [(2, none), (3, none), (0, none), (0, some 3), (0, some 4), (2, some 31), (2, some 32), (2, some 33), (2, some 34)]
def dues2 : List Due := [(3, none), (0, none), (1, none)]
def dues3 : List Due := [(0, none), (1, none), (2, none), (2, some 35), (2, some 36), (2, some 37), (2, some 38)]
def dues (c : Dev nD) : List Due := match c with
  | ⟨0, _⟩ => dues0
  | ⟨1, _⟩ => dues1
  | ⟨2, _⟩ => dues2
  | ⟨_ + 3, _⟩ => dues3

def O₀ (c : Dev nD) : CellTallies nD τ sig Unit := owesL (dues c)

end Cert.KIProof

end
-- ==== Proof.KI.Rules.lean ====
/-
# The protocol's steps, and what each device's body starts from

One rule for each kind of step that other devices see: a signal to a barrier, the wait at one's own barrier, a copy into
another device's memory, a wait at one's own DMA cell. Then the state a body starts from and ends with.
-/
module

public import proofs.«01_k».proof.Proof.KI.Protocol

@[expose] public section

noncomputable section

namespace Cert.KIProof

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The cells, numbered -/

/-- The protocol's semaphores of a device: the barrier, then the DMA semaphores 3 … 38. -/
def csem (k : Fin 37) : SemLoc sig := if k.val = 0 then .reg barS else .dma ⟨k.val + 2, show k.val + 2 < 43 by omega⟩
def kOf (q : DmaSem sig) : Fin 37 := ⟨(q.val - 2) % 37, Nat.mod_lt _ (by decide)⟩
theorem csem_kOf : ∀ q : DmaSem sig, 3 ≤ q.val ∧ q.val < 39 → csem (kOf q) = .dma q := by
  intro q h
  have h1 : (kOf q).val = q.val - 2 := by show (q.val - 2) % 37 = _; exact Nat.mod_eq_of_lt (by omega)
  unfold csem
  rw [if_neg (by omega)]
  exact congrArg SemLoc.dma (Fin.ext (by show (kOf q).val + 2 = q.val; omega))
def kcell (ck : Dev nD × Fin 37) : GSem nD τ sig := ((ck.1 : Thread nD τ), csem ck.2)
theorem kcell_bar (c : Dev nD) : kcell (c, 0) = barCell c := rfl
theorem kcell_dma (c : Dev nD) (q : DmaSem sig) (h : 3 ≤ q.val ∧ q.val < 39) : kcell (c, kOf q) = dCell c q := by
  unfold kcell; rw [csem_kOf q h]

/-- The invariants of all cells and that each has reached its one round. -/
def records (K : Dev nD × Fin 37 → ℕ) : sProp 𝕄 :=
  iprop((bigSep Finset.univ fun ck : Dev nD × Fin 37 => cellInv ER (kRd m) (K ck) (kcell ck))
    ∗ bigSep Finset.univ fun ck : Dev nD × Fin 37 => reached ER (kcell ck) 0)

instance records_persistent (K : Dev nD × Fin 37 → ℕ) : BI.Persistent (records m K) := by unfold records; infer_instance

section Steps
variable (K : Dev nD × Fin 37 → ℕ)

theorem records_inv : records m K ⊢ bigSep Finset.univ fun ck : Dev nD × Fin 37 => cellInv ER (kRd m) (K ck) (kcell ck) := by
  unfold records; iintro ⟨H, -⟩; iexact H
theorem records_reached : records m K ⊢ bigSep Finset.univ fun ck : Dev nD × Fin 37 => reached ER (kcell ck) 0 := by
  unfold records; iintro ⟨-, H⟩; iexact H

theorem inv_bar (c : Dev nD) : records m K ⊢ cellInv ER (kRd m) (K (c, 0)) (barCell c) :=
  (records_inv m K).trans (bigSep_elim (Finset.mem_univ (c, (0 : Fin 37))))
theorem inv_dma (c : Dev nD) (q : DmaSem sig) (h : 3 ≤ q.val ∧ q.val < 39) : records m K ⊢ cellInv ER (kRd m) (K (c, kOf q)) (dCell c q) := by
  rw [← kcell_dma c q h]
  exact (records_inv m K).trans (bigSep_elim (Finset.mem_univ (c, kOf q)))
theorem reached_bar (c : Dev nD) : records m K ⊢ reached ER (barCell c) 0 :=
  (records_reached m K).trans (bigSep_elim (Finset.mem_univ (c, (0 : Fin 37))))
theorem reached_dma (c : Dev nD) (q : DmaSem sig) (h : 3 ≤ q.val ∧ q.val < 39) : records m K ⊢ reached ER (dCell c q) 0 := by
  rw [← kcell_dma c q h]
  exact (records_reached m K).trans (bigSep_elim (Finset.mem_univ (c, kOf q)))

abbrev 𝒱₀ : Variants := Variants.none
abbrev wpD (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A signal to another device's barrier cell. -/
theorem wp_sig (c n d : Dev nD) (hn : n = d) (hd : c ≠ d) (l : List Due) {W : Waits sig Unit}
    {α : Type} {Q : α → sProp 𝕄} {k : PUnit → Prog (TpuEff nD τ sig (Elt F) Λ₀ .tc) α} :
    iprop(records m K ∗ owes (c : Thread nD τ) (owesL ((d, none) :: l)) W ∗ dutyTok ER (barCell d) 0 c ∗ barPay d c)
      ⊢ iprop((owes (c : Thread nD τ) (owesL l) W -∗ wpD c (k ⟨⟩) Q)
          -∗ wpD c (.op (.semSignal (Dev.tc n : Thread nD τ) barS 1) k) Q) := by
  subst hn
  iintro ⟨#HR, HO, Ht, Hp⟩ Hk
  iapply (Rounds.wp_signal 𝒱₀ ER (kRd m) (c : Thread nD τ) none (dst := (n : Thread nD τ)) (κ := K (n, 0))
      (d := c) (by rw [duties_bar]; exact Finset.mem_erase.mpr ⟨hd, Finset.mem_univ _⟩) (amount_bar m n c) () (owesL l) rfl)
    $$ [HO Ht Hp]
  · isplitr; · iapply (inv_bar m K n); iexact HR
    isplitl [HO]; · iexact HO
    isplitl [Ht]; · iexact Ht
    isplitl [Hp]; · rw [payload_bar]; iexact Hp
    iapply (reached_bar m K n); iexact HR
  iexact Hk

/-- The wait for three at one's own barrier cell: what the other three hand over. -/
theorem wp_bar (c a b d : Dev nD) (hs : Finset.univ.erase c = {a, b, d}) (hab : a ∉ ({b, d} : Finset (Dev nD))) (hbd : b ∉ ({d} : Finset (Dev nD)))
    (l : List Due) {W : Waits sig Unit} (h : (l.all fun a => decide (1 < lvDue a)) = true)
    {α : Type} {Q : α → sProp 𝕄} {k : PUnit → Prog (TpuEff nD τ sig (Elt F) Λ₀ .tc) α} :
    iprop(records m K ∗ levAts L lv ∗ cred (tallyAt (barCell c) () 3) ∗ owes (c : Thread nD τ) (owesL l) W ∗ atPos ER (barCell c) 0 ∅ 0)
      ⊢ iprop(((owes (c : Thread nD τ) (owesL l) (insert (SemLoc.reg barS, ()) W) ∗ atPos ER (barCell c) 1 ∅ 0
                ∗ barPay c a ∗ barPay c b ∗ barPay c d) -∗ wpD c (k ⟨⟩) Q)
          -∗ wpD c (.op (.semWait barS 3) k) Q) := by
  iintro ⟨#HR, #Hlev, Hc, HO, Ha⟩ Hk
  iapply (Rounds.wp_wait_rest_token 𝒱₀ ER (kRd m) (c : Thread nD τ) none (κ := K (c, 0))
      (wpE_semWait_eq 𝒱₀ (c : Thread nD τ) none Set.univ) (Set.mem_univ _) () (O := owesL l) (W := W) (R := 0) (m := 0) (T := ∅)
      (by rw [expect_bar])) $$ [Hc HO Ha]
  · isplitr; · iapply (inv_bar m K c); iexact HR
    isplitl [Hc]; · iexact Hc
    isplitl [HO]; · iexact HO
    isplitr; · iapply (mayWait_any c (.reg barS) l h); iexact Hlev
    iexact Ha
  iintro ⟨HO, Ha, -, Hp⟩
  ihave Hp' := (Entails.of_eq (show bigSep ((kRd (F := F) m).duties (barCell c) 0 \ ∅) (fun d => (kRd (F := F) m).payload (barCell c) 0 d)
      = iprop(barPay c a ∗ barPay c b ∗ barPay c d) from by
    rw [Finset.sdiff_empty, duties_bar, hs, bigSep_insert hab, bigSep_insert hbd, bigSep_singleton]; rfl)) $$ Hp
  iapply Hk
  isplitl [HO]; · iexact HO
  isplitl [Ha]; · iexact Ha
  iexact Hp'

/-- A wait at one's own DMA cell: what the copy that credits it hands over. -/
theorem wp_dwait (c : Dev nD) {qx : DmaSem sig} (q : DmaSem sig) (hqx : qx = q) (l : List Due) {W : Waits sig Unit}
    {sp sp' : Space} {s : Shape} {e : EltTy} {src : Memref sig .tc sp s e} {dst : Memref sig .tc sp' s e}
    {hsrc : src.view.WordExact} {hdst : dst.view.WordExact}
    (p : Dev nD) (hq : 3 ≤ q.val ∧ q.val < 39) (hp : payer c q = some p)
    (h : (l.all fun a => decide (lvD c q.val < lvDue a)) = true) (hN : dst.view.dmaCredit = amtD q.val)
    {α : Type} {Q : α → sProp 𝕄} {k : PUnit → Prog (TpuEff nD τ sig (Elt F) Λ₀ .tc) α} :
    iprop(records m K ∗ levAts L lv ∗ cred (tallyAt (dCell c q) () (amtD q.val)) ∗ owes (c : Thread nD τ) (owesL l) W ∗ atPos ER (dCell c q) 0 ∅ 0)
      ⊢ iprop(((owes (c : Thread nD τ) (owesL l) (insert (SemLoc.dma q, ()) W) ∗ atPos ER (dCell c q) 1 ∅ 0
                ∗ dmaPay m c q.val) -∗ wpD c (k ⟨⟩) Q)
          -∗ wpD c (.op (.waitDma2 qx src dst hsrc hdst) k) Q) := by
  obtain rfl := hqx.symm
  iintro ⟨#HR, #Hlev, Hc, HO, Ha⟩ Hk
  iapply (Rounds.wp_wait_rest_token 𝒱₀ ER (kRd m) (c : Thread nD τ) none (κ := K (c, kOf q))
      (wpE_waitDma2_eq 𝒱₀ (c : Thread nD τ) none Set.univ) (Set.mem_univ _) () (O := owesL l) (W := W) (R := 0) (m := 0) (T := ∅)
      (by rw [Nat.zero_add, expect_dma m c q hp, hN])) $$ [Hc HO Ha]
  · isplitr; · iapply (inv_dma m K c q hq); iexact HR
    isplitl [Hc]; · rw [hN]; iexact Hc
    isplitl [HO]; · iexact HO
    isplitr; · iapply (mayWait_dma c q l h); iexact Hlev
    iexact Ha
  iintro ⟨HO, Ha, -, Hp⟩
  ihave Hp' := (Entails.of_eq (rest_dma m c q hp)) $$ Hp
  iapply Hk
  isplitl [HO]; · iexact HO
  isplitl [Ha]; · iexact Ha
  iexact Hp'

/-- A copy into another device's memory: the source's share goes to the departure cell, the destination with what it
    now holds to the arrival cell. -/
theorem wp_send (c n d : Dev nD) (hn : n = d) {qsx qrx : DmaSem sig} (qs qr : DmaSem sig) (hsx : qsx = qs) (hrx : qrx = qr) (l : List Due) {W : Waits sig Unit}
    {sp sp' : Space} {s : Shape} {e : EltTy} {src : Memref sig .tc sp s e} {dst : Memref sig .tc sp' s e}
    {hsc : dst.view.ref.isScScratch = false} {hsrc : src.view.WordExact} {hdst : dst.view.WordExact}
    {hsem : DmaTarget.Typed sp (.dma qrx) (.remote (Dev.tc n : Thread nD τ) dst (.dma qsx) hsc)}
    (hqs : 3 ≤ qs.val ∧ qs.val < 39) (hqr : 3 ≤ qr.val ∧ qr.val < 39) (hps : payer c qs = some c) (hpr : payer d qr = some c)
    (hN : dst.view.amount (.dma qrx) = amtD qr.val) (hN' : amtD qs.val = amtD qr.val)
    (q : PosShare TreeShare) (fs : Buf (Elt F) (src.view.loc (c : Thread nD τ))) (fd : Buf (Elt F) (dst.view.loc (d : Thread nD τ)))
    (hpay₁ : (src.view.loc (c : Thread nD τ) ↦[src.view.set]{q} fs) ⊢ dmaPay m c qs.val)
    (hpay₂ : (dst.view.loc (d : Thread nD τ) ↦[dst.view.set]{fullShare} (dst.view.write (Elt F) fd (src.view.read (Elt F) fs) Finset.univ)) ⊢ dmaPay m d qr.val)
    {α : Type} {Q : α → sProp 𝕄} {k : PUnit → Prog (TpuEff nD τ sig (Elt F) Λ₀ .tc) α} :
    iprop(records m K ∗ (src.view.loc (c : Thread nD τ) ↦[src.view.set]{q} fs) ∗ (dst.view.loc (d : Thread nD τ) ↦[dst.view.set]{fullShare} fd)
        ∗ owes (c : Thread nD τ) (owesL ((d, some qr) :: l)) W ∗ dutyTok ER (dCell c qs) 0 c ∗ dutyTok ER (dCell d qr) 0 c)
      ⊢ iprop(((cred (tallyAt (dCell c qs) () (amtD qs.val)) ∗ owes (c : Thread nD τ) (owesL l) W) -∗ wpD c (k ⟨⟩) Q)
          -∗ wpD c
              (.op (.enqueueDma src (.remote (Dev.tc n : Thread nD τ) dst (.dma qsx) hsc) (.dma qrx) hsrc hdst hsem) k) Q) := by
  subst hn
  obtain rfl := hsx.symm
  obtain rfl := hrx.symm
  iintro ⟨#HR, Hs, Hd, HO, Ht1, Ht2⟩ Hk
  iapply (Rounds.wp_send_pointsTo 𝒱₀ ER (kRd m) (c : Thread nD τ) none (κ₁ := K (c, kOf qs)) (κ₂ := K (n, kOf qr))
    (r₁ := 0) (r₂ := 0) (d₁ := c) (d₂ := c) (fs := fs) (fd := fd) (q := q)
    (by rw [duties_dma m c qs hps]; exact Finset.mem_singleton_self _) (by rw [duties_dma m n qr hpr]; exact Finset.mem_singleton_self _)
    () () (amtD qr.val) hN ((amount_dma m c qs c).trans hN') (amount_dma m n qr c) (owesL l) rfl (W := W)
    (by rw [payload_dma]; exact hpay₁) (by rw [payload_dma]; exact hpay₂)) $$ [Hs Hd HO Ht1 Ht2]
  · isplitr; · iapply (inv_dma m K c qs hqs); iexact HR
    isplitr; · iapply (inv_dma m K n qr hqr); iexact HR
    isplitl [Hs]; · iexact Hs
    isplitl [Hd]; · iexact Hd
    isplitl [HO]; · iexact HO
    isplitl [Ht1]; · iexact Ht1
    isplitr; · iapply (reached_dma m K c qs hqs); iexact HR
    isplitl [Ht2]; · iexact Ht2
    iapply (reached_dma m K n qr hqr); iexact HR
  rw [hN']
  iexact Hk

/-- A copy that stays on the device, on a semaphore at zero. -/
theorem wp_lstart (c : Dev nD) {qx : DmaSem sig} (q : DmaSem sig) (hqx : qx = q)
    {sp sp' : Space} {s : Shape} {e : EltTy} {src : Memref sig .tc sp s e} {dst : Memref sig .tc sp' s e}
    {hsrc : src.view.WordExact} {hdst : dst.view.WordExact} {hsem : DmaTarget.Typed (nD := nD) (τ := τ) sp (.dma qx) (.here (p := Proc.tc) dst)}
    (N : ℕ) (hN : dst.view.amount (.dma qx) = N) (hN0 : 0 < N) (qs : PosShare TreeShare)
    (fs : Buf (Elt F) (src.view.loc (c : Thread nD τ))) (Sd : Finset (Idx (dst.view.loc (c : Thread nD τ)))) (hSd : dst.view.set ⊆ Sd)
    (fd : Buf (Elt F) (dst.view.loc (c : Thread nD τ)))
    {α : Type} {Q : α → sProp 𝕄} {k : PUnit → Prog (TpuEff nD τ sig (Elt F) Λ₀ .tc) α} :
    iprop((src.view.loc (c : Thread nD τ) ↦[src.view.set]{qs} fs) ∗ (dst.view.loc (c : Thread nD τ) ↦[Sd]{fullShare} fd) ∗ semVal (dCell c q) 0)
      ⊢ iprop((Transfers.Flight EC (c : Thread nD τ) (.dma q) () N
                iprop((dst.view.loc (c : Thread nD τ) ↦[Sd]{fullShare} (dst.view.write (Elt F) fd (src.view.read (Elt F) fs) Finset.univ))
                  ∗ (src.view.loc (c : Thread nD τ) ↦[src.view.set]{qs} fs))
              -∗ wpD c (k ⟨⟩) Q)
          -∗ wpD c (.op (.enqueueDma src (.here dst) (.dma qx) hsrc hdst hsem) k) Q) := by
  obtain rfl := hqx.symm
  exact Transfers.wp_dmaLocal EC 𝒱₀ (c : Thread nD τ) none (via := .same) () N hN hN0 hSd

/-- The wait for such a copy: what it delivers, the semaphore at zero again. -/
theorem wp_lwait (c : Dev nD) {qx : DmaSem sig} (q : DmaSem sig) (hqx : qx = q) (l : List Due) {W : Waits sig Unit}
    {sp sp' : Space} {s : Shape} {e : EltTy} {src : Memref sig .tc sp s e} {dst : Memref sig .tc sp' s e}
    {hsrc : src.view.WordExact} {hdst : dst.view.WordExact} (h : (l.all fun a => decide (lvD c q.val < lvDue a)) = true)
    (N : ℕ) (hN : dst.view.dmaCredit = N) {D : sProp 𝕄}
    {α : Type} {Q : α → sProp 𝕄} {k : PUnit → Prog (TpuEff nD τ sig (Elt F) Λ₀ .tc) α} :
    iprop(levAts L lv ∗ Transfers.Flight EC (c : Thread nD τ) (.dma q) () N D ∗ owes (c : Thread nD τ) (owesL l) W)
      ⊢ iprop(((owes (c : Thread nD τ) (owesL l) (insert (SemLoc.dma q, ()) W) ∗ semVal (dCell c q) 0 ∗ D)
                -∗ wpD c (k ⟨⟩) Q)
          -∗ wpD c (.op (.waitDma2 qx src dst hsrc hdst) k) Q) := by
  obtain rfl := hqx.symm
  iintro ⟨#Hlev, Hf, HO⟩ Hk
  iapply (Transfers.wp_waitLocalO EC 𝒱₀ (c : Thread nD τ) none () hN) $$ [Hf HO]
  · isplitl [Hf]; · iexact Hf
    isplitl [HO]; · iexact HO
    iapply (mayWait_dma c q l h); iexact Hlev
  iintro ⟨HD, Hs, HO⟩
  iapply Hk
  isplitl [HO]; · iexact HO
  isplitl [Hs]; · iexact Hs
  iexact HD

end Steps

/-! ## A body's start and end -/

/-- The cells of device `c` that a copy credits. -/
def usedK (c : Dev nD) (k : Fin 37) : Bool := k.val = 0 || (payer c ⟨(k.val + 2) % 43, Nat.mod_lt _ (by decide)⟩).isSome

/-- How much device `c`'s cell `k` is credited by the others. -/
def credK (c : Dev nD) (k : Fin 37) : ℕ :=
  if k.val = 0 then 3
  else match payer c ⟨(k.val + 2) % 43, Nat.mod_lt _ (by decide)⟩ with
    | some d => if d = c then 0 else amtD (k.val + 2)
    | none => 0

/-- The ghost state a device's body starts from. -/
def ghost (K : Dev nD × Fin 37 → ℕ) (c : Dev nD) : sProp 𝕄 :=
  iprop(records m K ∗ (bigSep Finset.univ fun k : Fin 37 => atPos ER (kcell (c, k)) 0 ∅ 0)
    ∗ (bigSep Finset.univ fun ck : Dev nD × Fin 37 => dutyTok ER (kcell ck) 0 c))

/-- The four DMA semaphores of the copies that stay on the device. -/
def lsems (c : Dev nD) : sProp 𝕄 :=
  iprop(semVal (dCell c 39) 0 ∗ semVal (dCell c 40) 0 ∗ semVal (dCell c 41) 0 ∗ semVal (dCell c 42) 0)

/-- The three arrays that stay in the device's main memory. -/
def arrs (c : Dev nD) : sProp 𝕄 :=
  iprop((((c : Thread nD τ).loc main_arg0) ↦{fullShare} (m ((c : Thread nD τ).loc main_arg0)))
    ∗ (((c : Thread nD τ).loc main_arg2) ↦{fullShare} (m ((c : Thread nD τ).loc main_arg2)))
    ∗ (((c : Thread nD τ).loc main_arg3) ↦{fullShare} (m ((c : Thread nD τ).loc main_arg3))))

/-- The scratch buffers, whatever they hold. -/
def scr (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f)
    ∗ (∃ f, ((c : Thread nD τ).loc cc0_scratch4) ↦{fullShare} f) ∗ (∃ f, ((c : Thread nD τ).loc cc0_scratch5) ↦{fullShare} f)
    ∗ (∃ f, ((c : Thread nD τ).loc cc0_scratch6) ↦{fullShare} f) ∗ (∃ f, ((c : Thread nD τ).loc cc0_scratch7) ↦{fullShare} f))

/-- What a body is left with of its cells: each either still before its one round, which is empty, or past it. -/
def atEnd (c : Dev nD) : sProp 𝕄 :=
  bigSep Finset.univ fun k : Fin 37 => atPos ER (kcell (c, k)) (if usedK c k then 1 else 0) ∅ 0

/-- The body's start, apart from its windows. -/
def start (c : Dev nD) : sProp 𝕄 :=
  iprop((∃ K, ghost m K c) ∗ (bigSep Finset.univ fun k : Fin 37 => cred (tallyAt (kcell (c, k)) () (credK c k))) ∗ levAts L lv ∗ lsems c ∗ arrs m c)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- A device's body: what it is run from, and what it must leave. -/
def bodyFrom (K : Dev nD × Fin 37 → ℕ) (c : Dev nD) (Wq Wo : Vec F S1024x1024 .f32) (o : Vec F S1x2048x1024 .f32) (W : Waits sig Unit) : sProp 𝕄 :=
  iprop(ghost m K c ∗ (bigSep Finset.univ fun k : Fin 37 => cred (tallyAt (kcell (c, k)) () (credK c k))) ∗ levAts L lv ∗ lsems c ∗ arrs m c ∗ scr c
    ∗ owes (c : Thread nD τ) (owesL (dues c)) W
    ∗ (((c : Thread nD τ).loc cc0_stg0_0) ↦{fullShare} Wq) ∗ (((c : Thread nD τ).loc cc0_stg1_0) ↦{fullShare} Wo) ∗ (((c : Thread nD τ).loc cc0_stg2_0) ↦{fullShare} o))

def bodyTo (c : Dev nD) (Wq Wo : Vec F S1024x1024 .f32) (o : Vec F S1x2048x1024 .f32) : sProp 𝕄 :=
  iprop(atEnd c ∗ lsems c ∗ arrs m c ∗ scr c ∗ (∃ W, owes (c : Thread nD τ) 0 W)
    ∗ (((c : Thread nD τ).loc cc0_stg0_0) ↦{fullShare} Wq) ∗ (((c : Thread nD τ).loc cc0_stg1_0) ↦{fullShare} Wo) ∗ (((c : Thread nD τ).loc cc0_stg2_0) ↦{fullShare} o))

end Cert.KIProof

end
-- ==== Proof.KI.Steps.lean ====
/-
# Steps that devices share

The result is written piece by piece: what a load of a received piece and the store of it widened leave.
-/
module

public import proofs.«01_k».proof.Proof.KI.Rules
public import Idealize.ShloMosaic.Lib.Pipeline.BigSepL

@[expose] public section

noncomputable section

namespace Cert.KIProof

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The kernel's semaphores by number -/

theorem sem_hr0 : (((cc0_scratch8 : DmaSems sig S2).slice (Rect.unit (s := S2) ![0] S1.size inb_S2_S1_0)).squeeze S_ squeezes_S1_S_).sem = (3 : DmaSem sig) := by decide
theorem sem_hr1 : (((cc0_scratch8 : DmaSems sig S2).slice (Rect.unit (s := S2) ![1] S1.size inb_S2_S1_1)).squeeze S_ squeezes_S1_S_).sem = (4 : DmaSem sig) := by decide
theorem sem_hs0 : (((cc0_scratch9 : DmaSems sig S2).slice (Rect.unit (s := S2) ![0] S1.size inb_S2_S1_0)).squeeze S_ squeezes_S1_S_).sem = (5 : DmaSem sig) := by decide
theorem sem_hs1 : (((cc0_scratch9 : DmaSems sig S2).slice (Rect.unit (s := S2) ![1] S1.size inb_S2_S1_1)).squeeze S_ squeezes_S1_S_).sem = (6 : DmaSem sig) := by decide
/-- The kernel's body on its arguments. -/
abbrev theBody : Prog (TpuEff nD τ sig (Elt F) Λ₀ .tc) PUnit :=
  cc0_body (Memref.whole main_arg0) (Memref.isWhole_whole _) (Memref.whole cc0_stg0_0) (Memref.isWhole_whole _) (Memref.whole main_arg2) (Memref.isWhole_whole _) (Memref.whole main_arg3) (Memref.isWhole_whole _) (Memref.whole cc0_stg1_0) (Memref.isWhole_whole _) (Memref.whole cc0_stg2_0) (Memref.isWhole_whole _)
  (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)
  cc0_scratch8 cc0_scratch9 cc0_scratch10 cc0_scratch11 cc0_scratch12 cc0_scratch13 cc0_scratch14 cc0_scratch15

/-- What device 0 owes after its signals, from the last payments back. -/
abbrev du0 : List Due := []
abbrev du1 : List Due := (3, some 30) :: du0
abbrev du2 : List Due := (1, some 30) :: du1
abbrev du3 : List Due := (3, some 29) :: du2
abbrev du4 : List Due := (1, some 29) :: du3
abbrev du5 : List Due := (3, some 28) :: du4
abbrev du6 : List Due := (1, some 28) :: du5
abbrev du7 : List Due := (3, some 27) :: du6
abbrev du8 : List Due := (1, some 27) :: du7
abbrev du9 : List Due := (3, some 26) :: du8
abbrev du10 : List Due := (1, some 26) :: du9
abbrev du11 : List Due := (3, some 25) :: du10
abbrev du12 : List Due := (1, some 25) :: du11
abbrev du13 : List Due := (3, some 24) :: du12
abbrev du14 : List Due := (1, some 24) :: du13
abbrev du15 : List Due := (3, some 23) :: du14
abbrev du16 : List Due := (1, some 23) :: du15

omit [FloatOps F] [Named F] in
theorem oe {P Q : sProp 𝕄} (h : P = Q) : P ⊢ Q := Entails.of_eq h

theorem sem_cs00 : (((cc0_scratch10 : DmaSems sig S4x4).slice (Rect.unit (s := S4x4) ![0, 0] S1x1.size inb_S4x4_S1x1_0_0)).squeeze S_ squeezes_S1x1_S_).sem = (7 : DmaSem sig) := by decide
theorem sem_cs01 : (((cc0_scratch10 : DmaSems sig S4x4).slice (Rect.unit (s := S4x4) ![0, 1] S1x1.size inb_S4x4_S1x1_0_1)).squeeze S_ squeezes_S1x1_S_).sem = (8 : DmaSem sig) := by decide
theorem sem_cs02 : (((cc0_scratch10 : DmaSems sig S4x4).slice (Rect.unit (s := S4x4) ![0, 2] S1x1.size inb_S4x4_S1x1_0_2)).squeeze S_ squeezes_S1x1_S_).sem = (9 : DmaSem sig) := by decide
theorem sem_cs03 : (((cc0_scratch10 : DmaSems sig S4x4).slice (Rect.unit (s := S4x4) ![0, 3] S1x1.size inb_S4x4_S1x1_0_3)).squeeze S_ squeezes_S1x1_S_).sem = (10 : DmaSem sig) := by decide
theorem sem_cs10 : (((cc0_scratch10 : DmaSems sig S4x4).slice (Rect.unit (s := S4x4) ![1, 0] S1x1.size inb_S4x4_S1x1_1_0)).squeeze S_ squeezes_S1x1_S_).sem = (11 : DmaSem sig) := by decide
theorem sem_cs11 : (((cc0_scratch10 : DmaSems sig S4x4).slice (Rect.unit (s := S4x4) ![1, 1] S1x1.size inb_S4x4_S1x1_1_1)).squeeze S_ squeezes_S1x1_S_).sem = (12 : DmaSem sig) := by decide
theorem sem_cs12 : (((cc0_scratch10 : DmaSems sig S4x4).slice (Rect.unit (s := S4x4) ![1, 2] S1x1.size inb_S4x4_S1x1_1_2)).squeeze S_ squeezes_S1x1_S_).sem = (13 : DmaSem sig) := by decide
theorem sem_cs13 : (((cc0_scratch10 : DmaSems sig S4x4).slice (Rect.unit (s := S4x4) ![1, 3] S1x1.size inb_S4x4_S1x1_1_3)).squeeze S_ squeezes_S1x1_S_).sem = (14 : DmaSem sig) := by decide
theorem sem_cs20 : (((cc0_scratch10 : DmaSems sig S4x4).slice (Rect.unit (s := S4x4) ![2, 0] S1x1.size inb_S4x4_S1x1_2_0)).squeeze S_ squeezes_S1x1_S_).sem = (15 : DmaSem sig) := by decide
theorem sem_cs21 : (((cc0_scratch10 : DmaSems sig S4x4).slice (Rect.unit (s := S4x4) ![2, 1] S1x1.size inb_S4x4_S1x1_2_1)).squeeze S_ squeezes_S1x1_S_).sem = (16 : DmaSem sig) := by decide
theorem sem_cs22 : (((cc0_scratch10 : DmaSems sig S4x4).slice (Rect.unit (s := S4x4) ![2, 2] S1x1.size inb_S4x4_S1x1_2_2)).squeeze S_ squeezes_S1x1_S_).sem = (17 : DmaSem sig) := by decide
theorem sem_cs23 : (((cc0_scratch10 : DmaSems sig S4x4).slice (Rect.unit (s := S4x4) ![2, 3] S1x1.size inb_S4x4_S1x1_2_3)).squeeze S_ squeezes_S1x1_S_).sem = (18 : DmaSem sig) := by decide
theorem sem_cs30 : (((cc0_scratch10 : DmaSems sig S4x4).slice (Rect.unit (s := S4x4) ![3, 0] S1x1.size inb_S4x4_S1x1_3_0)).squeeze S_ squeezes_S1x1_S_).sem = (19 : DmaSem sig) := by decide
theorem sem_cs31 : (((cc0_scratch10 : DmaSems sig S4x4).slice (Rect.unit (s := S4x4) ![3, 1] S1x1.size inb_S4x4_S1x1_3_1)).squeeze S_ squeezes_S1x1_S_).sem = (20 : DmaSem sig) := by decide
theorem sem_cs32 : (((cc0_scratch10 : DmaSems sig S4x4).slice (Rect.unit (s := S4x4) ![3, 2] S1x1.size inb_S4x4_S1x1_3_2)).squeeze S_ squeezes_S1x1_S_).sem = (21 : DmaSem sig) := by decide
theorem sem_cs33 : (((cc0_scratch10 : DmaSems sig S4x4).slice (Rect.unit (s := S4x4) ![3, 3] S1x1.size inb_S4x4_S1x1_3_3)).squeeze S_ squeezes_S1x1_S_).sem = (22 : DmaSem sig) := by decide
theorem sem_cr00 : (((cc0_scratch11 : DmaSems sig S4x2).slice (Rect.unit (s := S4x2) ![0, 0] S1x1.size inb_S4x2_S1x1_0_0)).squeeze S_ squeezes_S1x1_S_).sem = (23 : DmaSem sig) := by decide
theorem sem_cr01 : (((cc0_scratch11 : DmaSems sig S4x2).slice (Rect.unit (s := S4x2) ![0, 1] S1x1.size inb_S4x2_S1x1_0_1)).squeeze S_ squeezes_S1x1_S_).sem = (24 : DmaSem sig) := by decide
theorem sem_cr10 : (((cc0_scratch11 : DmaSems sig S4x2).slice (Rect.unit (s := S4x2) ![1, 0] S1x1.size inb_S4x2_S1x1_1_0)).squeeze S_ squeezes_S1x1_S_).sem = (25 : DmaSem sig) := by decide
theorem sem_cr11 : (((cc0_scratch11 : DmaSems sig S4x2).slice (Rect.unit (s := S4x2) ![1, 1] S1x1.size inb_S4x2_S1x1_1_1)).squeeze S_ squeezes_S1x1_S_).sem = (26 : DmaSem sig) := by decide
theorem sem_cr20 : (((cc0_scratch11 : DmaSems sig S4x2).slice (Rect.unit (s := S4x2) ![2, 0] S1x1.size inb_S4x2_S1x1_2_0)).squeeze S_ squeezes_S1x1_S_).sem = (27 : DmaSem sig) := by decide
theorem sem_cr21 : (((cc0_scratch11 : DmaSems sig S4x2).slice (Rect.unit (s := S4x2) ![2, 1] S1x1.size inb_S4x2_S1x1_2_1)).squeeze S_ squeezes_S1x1_S_).sem = (28 : DmaSem sig) := by decide
theorem sem_cr30 : (((cc0_scratch11 : DmaSems sig S4x2).slice (Rect.unit (s := S4x2) ![3, 0] S1x1.size inb_S4x2_S1x1_3_0)).squeeze S_ squeezes_S1x1_S_).sem = (29 : DmaSem sig) := by decide
theorem sem_cr31 : (((cc0_scratch11 : DmaSems sig S4x2).slice (Rect.unit (s := S4x2) ![3, 1] S1x1.size inb_S4x2_S1x1_3_1)).squeeze S_ squeezes_S1x1_S_).sem = (30 : DmaSem sig) := by decide
theorem sem_fa0 : (((cc0_scratch12 : DmaSems sig S4).slice (Rect.unit (s := S4) ![0] S1.size inb_S4_S1_0)).squeeze S_ squeezes_S1_S_).sem = (31 : DmaSem sig) := by decide
theorem sem_fa1 : (((cc0_scratch12 : DmaSems sig S4).slice (Rect.unit (s := S4) ![1] S1.size inb_S4_S1_1)).squeeze S_ squeezes_S1_S_).sem = (32 : DmaSem sig) := by decide
theorem sem_fa2 : (((cc0_scratch12 : DmaSems sig S4).slice (Rect.unit (s := S4) ![2] S1.size inb_S4_S1_2)).squeeze S_ squeezes_S1_S_).sem = (33 : DmaSem sig) := by decide
theorem sem_fa3 : (((cc0_scratch12 : DmaSems sig S4).slice (Rect.unit (s := S4) ![3] S1.size inb_S4_S1_3)).squeeze S_ squeezes_S1_S_).sem = (34 : DmaSem sig) := by decide
theorem sem_fb0 : (((cc0_scratch13 : DmaSems sig S4).slice (Rect.unit (s := S4) ![0] S1.size inb_S4_S1_0)).squeeze S_ squeezes_S1_S_).sem = (35 : DmaSem sig) := by decide
theorem sem_fb1 : (((cc0_scratch13 : DmaSems sig S4).slice (Rect.unit (s := S4) ![1] S1.size inb_S4_S1_1)).squeeze S_ squeezes_S1_S_).sem = (36 : DmaSem sig) := by decide
theorem sem_fb2 : (((cc0_scratch13 : DmaSems sig S4).slice (Rect.unit (s := S4) ![2] S1.size inb_S4_S1_2)).squeeze S_ squeezes_S1_S_).sem = (37 : DmaSem sig) := by decide
theorem sem_fb3 : (((cc0_scratch13 : DmaSems sig S4).slice (Rect.unit (s := S4) ![3] S1.size inb_S4_S1_3)).squeeze S_ squeezes_S1_S_).sem = (38 : DmaSem sig) := by decide
theorem sem_cp0 : (((cc0_scratch14 : DmaSems sig S2).slice (Rect.unit (s := S2) ![0] S1.size inb_S2_S1_0)).squeeze S_ squeezes_S1_S_).sem = (39 : DmaSem sig) := by decide
theorem sem_cp1 : (((cc0_scratch14 : DmaSems sig S2).slice (Rect.unit (s := S2) ![1] S1.size inb_S2_S1_1)).squeeze S_ squeezes_S1_S_).sem = (40 : DmaSem sig) := by decide
theorem sem_xc0 : (((cc0_scratch15 : DmaSems sig S2).slice (Rect.unit (s := S2) ![0] S1.size inb_S2_S1_0)).squeeze S_ squeezes_S1_S_).sem = (41 : DmaSem sig) := by decide
theorem sem_xc1 : (((cc0_scratch15 : DmaSems sig S2).slice (Rect.unit (s := S2) ![1] S1.size inb_S2_S1_1)).squeeze S_ squeezes_S1_S_).sem = (42 : DmaSem sig) := by decide

/-! ## Big conjunctions as lists -/

theorem bigSep_toL {ι : Type} [Fintype ι] [DecidableEq ι] (l : List ι) (h : l.Nodup) (Φ : ι → sProp 𝕄) :
    bigSep Finset.univ Φ ⊢ bigSepL l Φ := by
  rw [← bigSep_eq_bigSepL_of_eq (S := l.toFinset) l rfl h]
  exact bigSep_subset (Finset.subset_univ _)

theorem bigSep_twoL {ι : Type} [Fintype ι] [DecidableEq ι] (U V : List ι) (hall : Finset.univ = (U ++ V).toFinset) (h : (U ++ V).Nodup) (Φ : ι → sProp 𝕄) :
    bigSep Finset.univ Φ = iprop(bigSepL U Φ ∗ bigSepL V Φ) := by
  rw [bigSep_univ_eq_bigSepL (U ++ V) hall h, bigSepL_append]

theorem atEnd_intro (c : Dev nD) (U V : List (Fin 37)) (hall : Finset.univ = (U ++ V).toFinset) (h : (U ++ V).Nodup)
    (hU : ∀ k ∈ U, usedK c k = true) (hV : ∀ k ∈ V, usedK c k = false) :
    iprop(bigSepL U (fun k => atPos ER (kcell (c, k)) 1 ∅ 0) ∗ bigSepL V (fun k => atPos ER (kcell (c, k)) 0 ∅ 0)) ⊢ (atEnd c : sProp 𝕄) := by
  unfold atEnd
  rw [bigSep_twoL U V hall h]
  exact BIClass.sep_mono (bigSepL_mono fun k hk => by rw [hU k hk]; exact .rfl) (bigSepL_mono fun k hk => by rw [hV k hk]; exact .rfl)

/-! ## What each device starts from, spelled out -/

def unusedL0 : List (Fin 37) := [3, 4, 21, 22, 23, 24, 25, 26, 27, 28, 29, 30, 31, 32, 33, 34, 35, 36]
theorem at_start0 : (bigSep Finset.univ fun k : Fin 37 => atPos ER (kcell (0, k)) 0 ∅ 0)
    = (iprop((atPos ER (barCell 0) 0 ∅ 0 ∗ atPos ER (dCell 0 3) 0 ∅ 0 ∗ atPos ER (dCell 0 4) 0 ∅ 0 ∗ atPos ER (dCell 0 7) 0 ∅ 0 ∗ atPos ER (dCell 0 8) 0 ∅ 0 ∗ atPos ER (dCell 0 9) 0 ∅ 0 ∗ atPos ER (dCell 0 10) 0 ∅ 0 ∗ atPos ER (dCell 0 11) 0 ∅ 0 ∗ atPos ER (dCell 0 12) 0 ∅ 0 ∗ atPos ER (dCell 0 13) 0 ∅ 0 ∗ atPos ER (dCell 0 14) 0 ∅ 0 ∗ atPos ER (dCell 0 15) 0 ∅ 0 ∗ atPos ER (dCell 0 16) 0 ∅ 0 ∗ atPos ER (dCell 0 17) 0 ∅ 0 ∗ atPos ER (dCell 0 18) 0 ∅ 0 ∗ atPos ER (dCell 0 19) 0 ∅ 0 ∗ atPos ER (dCell 0 20) 0 ∅ 0 ∗ atPos ER (dCell 0 21) 0 ∅ 0 ∗ atPos ER (dCell 0 22) 0 ∅ 0) ∗ bigSepL unusedL0 fun k => atPos ER (kcell (0, k)) 0 ∅ 0) : sProp 𝕄) :=
  (bigSep_twoL [0, 1, 2, 5, 6, 7, 8, 9, 10, 11, 12, 13, 14, 15, 16, 17, 18, 19, 20] unusedL0 (by decide) (by decide) _).trans rfl
theorem at_end0 : (iprop((atPos ER (barCell 0) 1 ∅ 0 ∗ atPos ER (dCell 0 3) 1 ∅ 0 ∗ atPos ER (dCell 0 4) 1 ∅ 0 ∗ atPos ER (dCell 0 7) 1 ∅ 0 ∗ atPos ER (dCell 0 8) 1 ∅ 0 ∗ atPos ER (dCell 0 9) 1 ∅ 0 ∗ atPos ER (dCell 0 10) 1 ∅ 0 ∗ atPos ER (dCell 0 11) 1 ∅ 0 ∗ atPos ER (dCell 0 12) 1 ∅ 0 ∗ atPos ER (dCell 0 13) 1 ∅ 0 ∗ atPos ER (dCell 0 14) 1 ∅ 0 ∗ atPos ER (dCell 0 15) 1 ∅ 0 ∗ atPos ER (dCell 0 16) 1 ∅ 0 ∗ atPos ER (dCell 0 17) 1 ∅ 0 ∗ atPos ER (dCell 0 18) 1 ∅ 0 ∗ atPos ER (dCell 0 19) 1 ∅ 0 ∗ atPos ER (dCell 0 20) 1 ∅ 0 ∗ atPos ER (dCell 0 21) 1 ∅ 0 ∗ atPos ER (dCell 0 22) 1 ∅ 0) ∗ bigSepL unusedL0 fun k => atPos ER (kcell (0, k)) 0 ∅ 0) : sProp 𝕄) ⊢ atEnd 0 :=
  (Entails.of_eq rfl).trans (atEnd_intro 0 [0, 1, 2, 5, 6, 7, 8, 9, 10, 11, 12, 13, 14, 15, 16, 17, 18, 19, 20] unusedL0 (by decide) (by decide) (by decide) (by decide))
theorem cred_start0 : (bigSep Finset.univ fun k : Fin 37 => cred (tallyAt (kcell (0, k)) () (credK 0 k)))
    ⊢ (iprop(cred (tallyAt (barCell 0) () 3) ∗ cred (tallyAt (dCell 0 3) () (amtD 3)) ∗ cred (tallyAt (dCell 0 4) () (amtD 4))) : sProp 𝕄) :=
  (bigSep_toL [0, 1, 2] (by decide) _).trans (Entails.of_eq rfl)
theorem tok_start0 : (bigSep Finset.univ fun ck : Dev nD × Fin 37 => dutyTok ER (kcell ck) 0 0)
    ⊢ (iprop(dutyTok ER (barCell 1) 0 0 ∗ dutyTok ER (barCell 2) 0 0 ∗ dutyTok ER (barCell 3) 0 0 ∗ dutyTok ER (dCell 1 23) 0 0 ∗ dutyTok ER (dCell 3 23) 0 0 ∗ dutyTok ER (dCell 1 24) 0 0 ∗ dutyTok ER (dCell 3 24) 0 0 ∗ dutyTok ER (dCell 1 25) 0 0 ∗ dutyTok ER (dCell 3 25) 0 0 ∗ dutyTok ER (dCell 1 26) 0 0 ∗ dutyTok ER (dCell 3 26) 0 0 ∗ dutyTok ER (dCell 1 27) 0 0 ∗ dutyTok ER (dCell 3 27) 0 0 ∗ dutyTok ER (dCell 1 28) 0 0 ∗ dutyTok ER (dCell 3 28) 0 0 ∗ dutyTok ER (dCell 1 29) 0 0 ∗ dutyTok ER (dCell 3 29) 0 0 ∗ dutyTok ER (dCell 1 30) 0 0 ∗ dutyTok ER (dCell 3 30) 0 0 ∗ dutyTok ER (dCell 0 7) 0 0 ∗ dutyTok ER (dCell 0 8) 0 0 ∗ dutyTok ER (dCell 0 9) 0 0 ∗ dutyTok ER (dCell 0 10) 0 0 ∗ dutyTok ER (dCell 0 11) 0 0 ∗ dutyTok ER (dCell 0 12) 0 0 ∗ dutyTok ER (dCell 0 13) 0 0 ∗ dutyTok ER (dCell 0 14) 0 0 ∗ dutyTok ER (dCell 0 15) 0 0 ∗ dutyTok ER (dCell 0 16) 0 0 ∗ dutyTok ER (dCell 0 17) 0 0 ∗ dutyTok ER (dCell 0 18) 0 0 ∗ dutyTok ER (dCell 0 19) 0 0 ∗ dutyTok ER (dCell 0 20) 0 0 ∗ dutyTok ER (dCell 0 21) 0 0 ∗ dutyTok ER (dCell 0 22) 0 0) : sProp 𝕄) :=
  (bigSep_toL [(1, 0), (2, 0), (3, 0), (1, 21), (3, 21), (1, 22), (3, 22), (1, 23), (3, 23), (1, 24), (3, 24), (1, 25), (3, 25), (1, 26), (3, 26), (1, 27), (3, 27), (1, 28), (3, 28), (0, 5), (0, 6), (0, 7), (0, 8), (0, 9), (0, 10), (0, 11), (0, 12), (0, 13), (0, 14), (0, 15), (0, 16), (0, 17), (0, 18), (0, 19), (0, 20)] (by decide) _).trans (Entails.of_eq rfl)
def unusedL1 : List (Fin 37) := [1, 2, 6, 7, 8, 10, 11, 12, 14, 15, 16, 18, 19, 20, 29, 30, 31, 32, 33, 34, 35, 36]
theorem at_start1 : (bigSep Finset.univ fun k : Fin 37 => atPos ER (kcell (1, k)) 0 ∅ 0)
    = (iprop((atPos ER (barCell 1) 0 ∅ 0 ∗ atPos ER (dCell 1 5) 0 ∅ 0 ∗ atPos ER (dCell 1 6) 0 ∅ 0 ∗ atPos ER (dCell 1 7) 0 ∅ 0 ∗ atPos ER (dCell 1 11) 0 ∅ 0 ∗ atPos ER (dCell 1 15) 0 ∅ 0 ∗ atPos ER (dCell 1 19) 0 ∅ 0 ∗ atPos ER (dCell 1 23) 0 ∅ 0 ∗ atPos ER (dCell 1 24) 0 ∅ 0 ∗ atPos ER (dCell 1 25) 0 ∅ 0 ∗ atPos ER (dCell 1 26) 0 ∅ 0 ∗ atPos ER (dCell 1 27) 0 ∅ 0 ∗ atPos ER (dCell 1 28) 0 ∅ 0 ∗ atPos ER (dCell 1 29) 0 ∅ 0 ∗ atPos ER (dCell 1 30) 0 ∅ 0) ∗ bigSepL unusedL1 fun k => atPos ER (kcell (1, k)) 0 ∅ 0) : sProp 𝕄) :=
  (bigSep_twoL [0, 3, 4, 5, 9, 13, 17, 21, 22, 23, 24, 25, 26, 27, 28] unusedL1 (by decide) (by decide) _).trans rfl
theorem at_end1 : (iprop((atPos ER (barCell 1) 1 ∅ 0 ∗ atPos ER (dCell 1 5) 1 ∅ 0 ∗ atPos ER (dCell 1 6) 1 ∅ 0 ∗ atPos ER (dCell 1 7) 1 ∅ 0 ∗ atPos ER (dCell 1 11) 1 ∅ 0 ∗ atPos ER (dCell 1 15) 1 ∅ 0 ∗ atPos ER (dCell 1 19) 1 ∅ 0 ∗ atPos ER (dCell 1 23) 1 ∅ 0 ∗ atPos ER (dCell 1 24) 1 ∅ 0 ∗ atPos ER (dCell 1 25) 1 ∅ 0 ∗ atPos ER (dCell 1 26) 1 ∅ 0 ∗ atPos ER (dCell 1 27) 1 ∅ 0 ∗ atPos ER (dCell 1 28) 1 ∅ 0 ∗ atPos ER (dCell 1 29) 1 ∅ 0 ∗ atPos ER (dCell 1 30) 1 ∅ 0) ∗ bigSepL unusedL1 fun k => atPos ER (kcell (1, k)) 0 ∅ 0) : sProp 𝕄) ⊢ atEnd 1 :=
  (Entails.of_eq rfl).trans (atEnd_intro 1 [0, 3, 4, 5, 9, 13, 17, 21, 22, 23, 24, 25, 26, 27, 28] unusedL1 (by decide) (by decide) (by decide) (by decide))
theorem cred_start1 : (bigSep Finset.univ fun k : Fin 37 => cred (tallyAt (kcell (1, k)) () (credK 1 k)))
    ⊢ (iprop(cred (tallyAt (barCell 1) () 3) ∗ cred (tallyAt (dCell 1 23) () (amtD 23)) ∗ cred (tallyAt (dCell 1 24) () (amtD 24)) ∗ cred (tallyAt (dCell 1 25) () (amtD 25)) ∗ cred (tallyAt (dCell 1 26) () (amtD 26)) ∗ cred (tallyAt (dCell 1 27) () (amtD 27)) ∗ cred (tallyAt (dCell 1 28) () (amtD 28)) ∗ cred (tallyAt (dCell 1 29) () (amtD 29)) ∗ cred (tallyAt (dCell 1 30) () (amtD 30))) : sProp 𝕄) :=
  (bigSep_toL [0, 21, 22, 23, 24, 25, 26, 27, 28] (by decide) _).trans (Entails.of_eq rfl)
theorem tok_start1 : (bigSep Finset.univ fun ck : Dev nD × Fin 37 => dutyTok ER (kcell ck) 0 1)
    ⊢ (iprop(dutyTok ER (barCell 2) 0 1 ∗ dutyTok ER (barCell 3) 0 1 ∗ dutyTok ER (barCell 0) 0 1 ∗ dutyTok ER (dCell 0 3) 0 1 ∗ dutyTok ER (dCell 0 4) 0 1 ∗ dutyTok ER (dCell 2 31) 0 1 ∗ dutyTok ER (dCell 2 32) 0 1 ∗ dutyTok ER (dCell 2 33) 0 1 ∗ dutyTok ER (dCell 2 34) 0 1 ∗ dutyTok ER (dCell 1 5) 0 1 ∗ dutyTok ER (dCell 1 6) 0 1 ∗ dutyTok ER (dCell 1 7) 0 1 ∗ dutyTok ER (dCell 1 11) 0 1 ∗ dutyTok ER (dCell 1 15) 0 1 ∗ dutyTok ER (dCell 1 19) 0 1) : sProp 𝕄) :=
  (bigSep_toL [(2, 0), (3, 0), (0, 0), (0, 1), (0, 2), (2, 29), (2, 30), (2, 31), (2, 32), (1, 3), (1, 4), (1, 5), (1, 9), (1, 13), (1, 17)] (by decide) _).trans (Entails.of_eq rfl)
def unusedL2 : List (Fin 37) := [1, 2, 3, 4, 5, 6, 7, 8, 9, 10, 11, 12, 13, 14, 15, 16, 17, 18, 19, 20, 21, 22, 23, 24, 25, 26, 27, 28]
theorem at_start2 : (bigSep Finset.univ fun k : Fin 37 => atPos ER (kcell (2, k)) 0 ∅ 0)
    = (iprop((atPos ER (barCell 2) 0 ∅ 0 ∗ atPos ER (dCell 2 31) 0 ∅ 0 ∗ atPos ER (dCell 2 32) 0 ∅ 0 ∗ atPos ER (dCell 2 33) 0 ∅ 0 ∗ atPos ER (dCell 2 34) 0 ∅ 0 ∗ atPos ER (dCell 2 35) 0 ∅ 0 ∗ atPos ER (dCell 2 36) 0 ∅ 0 ∗ atPos ER (dCell 2 37) 0 ∅ 0 ∗ atPos ER (dCell 2 38) 0 ∅ 0) ∗ bigSepL unusedL2 fun k => atPos ER (kcell (2, k)) 0 ∅ 0) : sProp 𝕄) :=
  (bigSep_twoL [0, 29, 30, 31, 32, 33, 34, 35, 36] unusedL2 (by decide) (by decide) _).trans rfl
theorem at_end2 : (iprop((atPos ER (barCell 2) 1 ∅ 0 ∗ atPos ER (dCell 2 31) 1 ∅ 0 ∗ atPos ER (dCell 2 32) 1 ∅ 0 ∗ atPos ER (dCell 2 33) 1 ∅ 0 ∗ atPos ER (dCell 2 34) 1 ∅ 0 ∗ atPos ER (dCell 2 35) 1 ∅ 0 ∗ atPos ER (dCell 2 36) 1 ∅ 0 ∗ atPos ER (dCell 2 37) 1 ∅ 0 ∗ atPos ER (dCell 2 38) 1 ∅ 0) ∗ bigSepL unusedL2 fun k => atPos ER (kcell (2, k)) 0 ∅ 0) : sProp 𝕄) ⊢ atEnd 2 :=
  (Entails.of_eq rfl).trans (atEnd_intro 2 [0, 29, 30, 31, 32, 33, 34, 35, 36] unusedL2 (by decide) (by decide) (by decide) (by decide))
theorem cred_start2 : (bigSep Finset.univ fun k : Fin 37 => cred (tallyAt (kcell (2, k)) () (credK 2 k)))
    ⊢ (iprop(cred (tallyAt (barCell 2) () 3) ∗ cred (tallyAt (dCell 2 31) () (amtD 31)) ∗ cred (tallyAt (dCell 2 32) () (amtD 32)) ∗ cred (tallyAt (dCell 2 33) () (amtD 33)) ∗ cred (tallyAt (dCell 2 34) () (amtD 34)) ∗ cred (tallyAt (dCell 2 35) () (amtD 35)) ∗ cred (tallyAt (dCell 2 36) () (amtD 36)) ∗ cred (tallyAt (dCell 2 37) () (amtD 37)) ∗ cred (tallyAt (dCell 2 38) () (amtD 38))) : sProp 𝕄) :=
  (bigSep_toL [0, 29, 30, 31, 32, 33, 34, 35, 36] (by decide) _).trans (Entails.of_eq rfl)
theorem tok_start2 : (bigSep Finset.univ fun ck : Dev nD × Fin 37 => dutyTok ER (kcell ck) 0 2)
    ⊢ (iprop(dutyTok ER (barCell 3) 0 2 ∗ dutyTok ER (barCell 0) 0 2 ∗ dutyTok ER (barCell 1) 0 2) : sProp 𝕄) :=
  (bigSep_toL [(3, 0), (0, 0), (1, 0)] (by decide) _).trans (Entails.of_eq rfl)
def unusedL3 : List (Fin 37) := [1, 2, 3, 4, 5, 7, 8, 9, 11, 12, 13, 15, 16, 17, 19, 20, 29, 30, 31, 32, 33, 34, 35, 36]
theorem at_start3 : (bigSep Finset.univ fun k : Fin 37 => atPos ER (kcell (3, k)) 0 ∅ 0)
    = (iprop((atPos ER (barCell 3) 0 ∅ 0 ∗ atPos ER (dCell 3 8) 0 ∅ 0 ∗ atPos ER (dCell 3 12) 0 ∅ 0 ∗ atPos ER (dCell 3 16) 0 ∅ 0 ∗ atPos ER (dCell 3 20) 0 ∅ 0 ∗ atPos ER (dCell 3 23) 0 ∅ 0 ∗ atPos ER (dCell 3 24) 0 ∅ 0 ∗ atPos ER (dCell 3 25) 0 ∅ 0 ∗ atPos ER (dCell 3 26) 0 ∅ 0 ∗ atPos ER (dCell 3 27) 0 ∅ 0 ∗ atPos ER (dCell 3 28) 0 ∅ 0 ∗ atPos ER (dCell 3 29) 0 ∅ 0 ∗ atPos ER (dCell 3 30) 0 ∅ 0) ∗ bigSepL unusedL3 fun k => atPos ER (kcell (3, k)) 0 ∅ 0) : sProp 𝕄) :=
  (bigSep_twoL [0, 6, 10, 14, 18, 21, 22, 23, 24, 25, 26, 27, 28] unusedL3 (by decide) (by decide) _).trans rfl
theorem at_end3 : (iprop((atPos ER (barCell 3) 1 ∅ 0 ∗ atPos ER (dCell 3 8) 1 ∅ 0 ∗ atPos ER (dCell 3 12) 1 ∅ 0 ∗ atPos ER (dCell 3 16) 1 ∅ 0 ∗ atPos ER (dCell 3 20) 1 ∅ 0 ∗ atPos ER (dCell 3 23) 1 ∅ 0 ∗ atPos ER (dCell 3 24) 1 ∅ 0 ∗ atPos ER (dCell 3 25) 1 ∅ 0 ∗ atPos ER (dCell 3 26) 1 ∅ 0 ∗ atPos ER (dCell 3 27) 1 ∅ 0 ∗ atPos ER (dCell 3 28) 1 ∅ 0 ∗ atPos ER (dCell 3 29) 1 ∅ 0 ∗ atPos ER (dCell 3 30) 1 ∅ 0) ∗ bigSepL unusedL3 fun k => atPos ER (kcell (3, k)) 0 ∅ 0) : sProp 𝕄) ⊢ atEnd 3 :=
  (Entails.of_eq rfl).trans (atEnd_intro 3 [0, 6, 10, 14, 18, 21, 22, 23, 24, 25, 26, 27, 28] unusedL3 (by decide) (by decide) (by decide) (by decide))
theorem cred_start3 : (bigSep Finset.univ fun k : Fin 37 => cred (tallyAt (kcell (3, k)) () (credK 3 k)))
    ⊢ (iprop(cred (tallyAt (barCell 3) () 3) ∗ cred (tallyAt (dCell 3 23) () (amtD 23)) ∗ cred (tallyAt (dCell 3 24) () (amtD 24)) ∗ cred (tallyAt (dCell 3 25) () (amtD 25)) ∗ cred (tallyAt (dCell 3 26) () (amtD 26)) ∗ cred (tallyAt (dCell 3 27) () (amtD 27)) ∗ cred (tallyAt (dCell 3 28) () (amtD 28)) ∗ cred (tallyAt (dCell 3 29) () (amtD 29)) ∗ cred (tallyAt (dCell 3 30) () (amtD 30))) : sProp 𝕄) :=
  (bigSep_toL [0, 21, 22, 23, 24, 25, 26, 27, 28] (by decide) _).trans (Entails.of_eq rfl)
theorem tok_start3 : (bigSep Finset.univ fun ck : Dev nD × Fin 37 => dutyTok ER (kcell ck) 0 3)
    ⊢ (iprop(dutyTok ER (barCell 0) 0 3 ∗ dutyTok ER (barCell 1) 0 3 ∗ dutyTok ER (barCell 2) 0 3 ∗ dutyTok ER (dCell 2 35) 0 3 ∗ dutyTok ER (dCell 2 36) 0 3 ∗ dutyTok ER (dCell 2 37) 0 3 ∗ dutyTok ER (dCell 2 38) 0 3 ∗ dutyTok ER (dCell 3 8) 0 3 ∗ dutyTok ER (dCell 3 12) 0 3 ∗ dutyTok ER (dCell 3 16) 0 3 ∗ dutyTok ER (dCell 3 20) 0 3) : sProp 𝕄) :=
  (bigSep_toL [(0, 0), (1, 0), (2, 0), (2, 33), (2, 34), (2, 35), (2, 36), (3, 6), (3, 10), (3, 14), (3, 18)] (by decide) _).trans (Entails.of_eq rfl)

/-! ## Credits of the copies -/

theorem amt_ob (o : ℕ) (h : ∀ a, (![o, 0] : Fin 2 → ℕ) a + S256x1024.size a ≤ S2048x1024.size a) : (obS o h).view.dmaCredit = NO := rfl
theorem amt_hk : (hkM : Memref sig .tc .vmem S128x1024 .bf16).view.dmaCredit = NH := rfl
theorem amt_hv : (hvM : Memref sig .tc .vmem S128x1024 .bf16).view.dmaCredit = NH := rfl
theorem amt_kbH : (kbH : Memref sig .tc .vmem S128x1024 .bf16).view.dmaCredit = NH := rfl
theorem amt_vbH : (vbH : Memref sig .tc .vmem S128x1024 .bf16).view.dmaCredit = NH := rfl

/-! ## Cutting buffers -/

theorem mem_obS {o : ℕ} (h : ∀ a, (![o, 0] : Fin 2 → ℕ) a + S256x1024.size a ≤ S2048x1024.size a) (i : S2048x1024.Idx) :
    i ∈ (obS o h).view.set ↔ o ≤ (i 0).val ∧ (i 0).val < o + 256 := by
  constructor
  · intro hm
    obtain ⟨y, -, hy⟩ := Finset.mem_map.mp hm
    have hv : (i 0).val = o + 1 * (y 0).val := by rw [← hy]; rfl
    have hlt : (y 0).val < 256 := (y 0).isLt
    omega
  · intro hi
    refine Finset.mem_map.mpr ⟨ix2 ⟨(i 0).val - o, by omega⟩ (i 1), Finset.mem_univ _, ?_⟩
    funext a
    match a with
    | ⟨0, _⟩ => exact Fin.ext (by show o + 1 * ((i 0).val - o) = (i 0).val; omega)
    | ⟨1, _⟩ => exact Fin.ext (by show 0 + 1 * (i 1).val = (i 1).val; omega)

omit [FloatOps F] [Named F] in
/-- The rows buffer is its eight pieces. -/
theorem ob_pieces (c : Dev nD) (q : PosShare TreeShare) (f : Vec F S2048x1024 .bf16) :
    (((c : Thread nD τ).loc cc0_scratch2) ↦{q} f : sProp 𝕄)
      = iprop(obP c 0 q f ∗ obP c 1 q f ∗ obP c 2 q f ∗ obP c 3 q f ∗ obP c 4 q f ∗ obP c 5 q f ∗ obP c 6 q f ∗ obP c 7 q f) := by
  have hu : (Finset.univ : Finset (Idx ((c : Thread nD τ).loc cc0_scratch2)))
      = (Finset.univ : Finset (Fin 8)).biUnion fun j => (obS (256 * j.val) (obS_inb j.isLt)).view.set := by
    ext i
    have hi : (i 0).val < 2048 := (i 0).isLt
    refine ⟨fun _ => Finset.mem_biUnion.mpr ⟨⟨(i 0).val / 256, by omega⟩, Finset.mem_univ _, ?_⟩, fun _ => Finset.mem_univ _⟩
    exact (mem_obS _ i).mpr ⟨by show 256 * ((i 0).val / 256) ≤ _; omega, by show _ < 256 * ((i 0).val / 256) + 256; omega⟩
  rw [hu, pointsTo_biUnion _ _ (fun t _ t' _ hne => Finset.disjoint_left.mpr fun i h h' => hne (Fin.ext (by
      have h1 := (mem_obS _ i).mp h; have h2 := (mem_obS _ i).mp h'; omega))),
    bigSep_univ_eq_bigSepL [0, 1, 2, 3, 4, 5, 6, 7] (by decide) (by decide)]
  rfl

omit [FloatOps F] [Named F] in
/-- The same, the pieces' rows spelled out. -/
theorem ob_rows (c : Dev nD) (q : PosShare TreeShare) (f : Vec F S2048x1024 .bf16) :
    (((c : Thread nD τ).loc cc0_scratch2) ↦{q} f : sProp 𝕄)
      = iprop((oB0.view.loc (c : Thread nD τ) ↦[oB0.view.set]{q} f) ∗ (oB1.view.loc (c : Thread nD τ) ↦[oB1.view.set]{q} f) ∗ (oB2.view.loc (c : Thread nD τ) ↦[oB2.view.set]{q} f) ∗ (oB3.view.loc (c : Thread nD τ) ↦[oB3.view.set]{q} f) ∗ (oB4.view.loc (c : Thread nD τ) ↦[oB4.view.set]{q} f) ∗ (oB5.view.loc (c : Thread nD τ) ↦[oB5.view.set]{q} f) ∗ (oB6.view.loc (c : Thread nD τ) ↦[oB6.view.set]{q} f) ∗ (oB7.view.loc (c : Thread nD τ) ↦[oB7.view.set]{q} f)) :=
  (ob_pieces c q f).trans rfl

/-- What a copy leaves on the memory it wrote is what the source held there. -/
theorem landed {c d : Dev nD} {sp sp' : Space} {s : Shape} {e : EltTy} {src : Memref sig .tc sp s e} {dst : Memref sig .tc sp' s e}
    (fs : Buf (Elt F) (src.view.loc (c : Thread nD τ))) (fd X : Buf (Elt F) (dst.view.loc (d : Thread nD τ))) (q : PosShare TreeShare)
    (h : ∀ y, src.view.read (Elt F) fs y = dst.view.read (Elt F) X y) :
    (dst.view.loc (d : Thread nD τ) ↦[dst.view.set]{q} (dst.view.write (Elt F) fd (src.view.read (Elt F) fs) Finset.univ) : sProp 𝕄)
      = (dst.view.loc (d : Thread nD τ) ↦[dst.view.set]{q} X) := by
  refine pointsTo_congr fun i hi => ?_
  obtain ⟨y, -, rfl⟩ := Finset.mem_map.mp hi
  refine (View.write_emb_of_mem (v := dst.view) fd _ (Finset.mem_univ y)).trans ?_
  rw [h y, View.read_apply, cast_cast, cast_eq]

/-! ## Writing the result piece by piece -/

abbrev oM : Memref sig .tc .vmem S1x2048x1024 .f32 := Memref.whole cc0_stg2_0

/-- The pieces of `f` listed, of 256 rows each, are those of `X`. -/
def UpTo (f X : Vec F S1x2048x1024 .f32) (l : List ℕ) : Prop := ∀ i : S1x2048x1024.Idx, (i 1).val / 256 ∈ l → f i = X i

omit [FloatOps F] [Named F] in
theorem UpTo.all {f X : Vec F S1x2048x1024 .f32} {l : List ℕ} (h : UpTo f X l) (hl : ∀ j < 8, j ∈ l) : f = X :=
  funext fun i => h i (hl _ (by have h1 : (i 1).val < 2048 := (i 1).isLt; omega))

omit [FloatOps F] [Named F] in
theorem UpTo.zero (f X : Vec F S1x2048x1024 .f32) : UpTo f X [] := fun i h => absurd h (List.not_mem_nil)

omit [FloatOps F] [Named F] in
/-- Storing the `n` rows from row `o` on. -/
theorem UpTo.store {f X : Vec F S1x2048x1024 .f32} {o n : ℕ} {l l' : List ℕ} (hf : UpTo f X l)
    (hl : ∀ r, r / 256 ∈ l' → r / 256 ∈ l ∨ (o ≤ r ∧ r < o + n))
    (h5 : ∀ a, (![0, o, 0] : Fin 3 → ℕ) a + (⟨3, ![1, n, 1024]⟩ : Shape).size a ≤ S1x2048x1024.size a)
    (w : (⟨3, ![1, n, 1024]⟩ : Shape).Idx → F .f32)
    (hw : ∀ y : (⟨3, ![1, n, 1024]⟩ : Shape).Idx, w y = X ((Rect.unit (s := S1x2048x1024) ![0, o, 0] (⟨3, ![1, n, 1024]⟩ : Shape).size h5).emb y)) :
    UpTo ((oM.access (Rect.unit (s := S1x2048x1024) ![0, o, 0] (⟨3, ![1, n, 1024]⟩ : Shape).size h5)).write (Elt F) f w Finset.univ) X l' := by
  intro i hi
  by_cases h : ∃ y, (Rect.unit (s := S1x2048x1024) ![0, o, 0] (⟨3, ![1, n, 1024]⟩ : Shape).size h5).emb y = i
  · obtain ⟨y, rfl⟩ := h
    refine (View.write_emb_of_mem (v := oM.access (Rect.unit (s := S1x2048x1024) ![0, o, 0] (⟨3, ![1, n, 1024]⟩ : Shape).size h5)) f w (Finset.mem_univ y)).trans ?_
    exact hw y
  · refine (View.write_of_not_mem (v := oM.access (Rect.unit (s := S1x2048x1024) ![0, o, 0] (⟨3, ![1, n, 1024]⟩ : Shape).size h5)) (M := Finset.univ) f w (i := i) ?_).trans ?_
    · intro hm
      obtain ⟨y, -, hy⟩ := Finset.mem_map.mp hm
      exact h ⟨y, hy⟩
    · apply hf
      refine (hl _ hi).resolve_right fun ⟨h1, h2⟩ => ?_
      refine h ⟨ix3 (i 0) ⟨(i 1).val - o, by omega⟩ (i 2), ?_⟩
      funext a
      match a with
      | ⟨0, _⟩ => exact Fin.ext (by show 0 + 1 * (i 0).val = (i 0).val; omega)
      | ⟨1, _⟩ => exact Fin.ext (by show o + 1 * ((i 1).val - o) = (i 1).val; omega)
      | ⟨2, _⟩ => exact Fin.ext (by show 0 + 1 * (i 2).val = (i 2).val; omega)

theorem outNV_piece (ob : Vec F S2048x1024 .bf16) (o : ℕ) (h8 : ∀ a, (![o, 0] : Fin 2 → ℕ) a + S256x1024.size a ≤ S2048x1024.size a)
    (h5 : ∀ a, (![0, o, 0] : Fin 3 → ℕ) a + S1x256x1024.size a ≤ S1x2048x1024.size a) (y : S1x256x1024.Idx) :
    k0_pay103 (obM.view.readAt (Elt F) (Rect.unit (s := S2048x1024) ![o, 0] S256x1024.size h8).toLoadRect ob) y
      = outNV ob ((Rect.unit (s := S1x2048x1024) ![0, o, 0] S1x256x1024.size h5).emb y) := by
  rw [eq_ix3 y]
  refine (shapeCast_ab_1ab_apply (a := 256) (b := 1024) (extf .f32 (obM.view.readAt (Elt F) (Rect.unit (s := S2048x1024) ![o, 0] S256x1024.size h8).toLoadRect ob)
    bitsLt_bf16_f32) shapeCasts_S256x1024_S1x256x1024 (y 0) (y 1) (y 2)).trans ?_
  refine congrArg (FloatOps.extf .f32 bitsLt_bf16_f32) (congrArg ob ?_)
  funext a
  match a with
  | ⟨0, _⟩ => rfl
  | ⟨1, _⟩ => rfl

/-- A piece that has come in is loaded, widened and stored into the result. -/
theorem wp_out (c : Dev nD) (o : ℕ) (h8 : ∀ a, (![o, 0] : Fin 2 → ℕ) a + S256x1024.size a ≤ S2048x1024.size a)
    (h5 : ∀ a, (![0, o, 0] : Fin 3 → ℕ) a + S1x256x1024.size a ≤ S1x2048x1024.size a) (q : PosShare TreeShare)
    (ob : Vec F S2048x1024 .bf16) (f : Vec F S1x2048x1024 .f32) {l : List ℕ} (hf : UpTo f (outNV ob) l) (hl : ∃ j, o = 256 * j)
    (pay : Vec F S256x1024 .bf16 → FVec F S1x256x1024 .f32) (hpay : pay = k0_pay103)
    {hl8 : obM.view.LoadsAt (Rect.unit (s := S2048x1024) ![o, 0] S256x1024.size h8).toLoadRect}
    {hl5 : oM.view.LoadsAt (Rect.unit (s := S1x2048x1024) ![0, o, 0] S1x256x1024.size h5).toLoadRect}
    {hx : (oM.access (Rect.unit (s := S1x2048x1024) ![0, o, 0] S1x256x1024.size h5)).Stores Finset.univ}
    {hm : (Finset.univ : Finset (Rect.unit (s := S1x2048x1024) ![0, o, 0] S1x256x1024.size h5).shape.Idx) = Finset.univ ∨ ∀ a, (Rect.unit (s := S1x2048x1024) ![0, o, 0] S1x256x1024.size h5).stride a = 1}
    {α : Type} {Q : α → sProp 𝕄} {k : PUnit → Prog (TpuEff nD τ sig (Elt F) Λ₀ .tc) α} :
    iprop(((obS o h8).view.loc (c : Thread nD τ) ↦[(obS o h8).view.set]{q} ob) ∗ (((c : Thread nD τ).loc cc0_stg2_0) ↦{fullShare} f))
      ⊢ iprop(((((obS o h8).view.loc (c : Thread nD τ) ↦[(obS o h8).view.set]{q} ob)
                ∗ ∃ f' : Vec F S1x2048x1024 .f32, ⌜UpTo f' (outNV ob) (o / 256 :: l)⌝ ∗ (((c : Thread nD τ).loc cc0_stg2_0) ↦{fullShare} f'))
              -∗ wpD c (k ⟨⟩) Q)
          -∗ wpD c
              (.op (.load obM (Rect.unit (s := S2048x1024) ![o, 0] S256x1024.size h8).toLoadRect hl8) fun v =>
                .op (.load oM (Rect.unit (s := S1x2048x1024) ![0, o, 0] S1x256x1024.size h5).toLoadRect hl5) fun _ =>
                  .op (.store oM (Rect.unit (s := S1x2048x1024) ![0, o, 0] S1x256x1024.size h5) (pay v) Finset.univ hx hm) k) Q) := by
  subst hpay
  iintro ⟨Hb, Ho⟩ Hk
  iapply (wp_load 𝒱₀ (c : Thread nD τ) none Set.univ (m := obM) (S := (obS o h8).view.set) (q := q) (f := ob)
    (by rw [View.set_slice]; exact Finset.Subset.refl _)) $$ [Hb]
  · iexact Hb
  iintro Hb
  iapply (wp_load 𝒱₀ (c : Thread nD τ) none Set.univ (m := oM) (S := Finset.univ) (q := fullShare) (f := f) (Finset.subset_univ _)) $$ [Ho]
  · iexact Ho
  iintro Ho
  iapply (wp_store 𝒱₀ (c : Thread nD τ) none Set.univ (m := oM) (S := Finset.univ) (f := f) (Finset.subset_univ _)) $$ [Ho]
  · iexact Ho
  iintro Ho
  iapply Hk
  isplitl [Hb]; · iexact Hb
  iexists _
  isplitr
  rotate_left
  · iexact Ho
  ipureintro
  obtain ⟨j, rfl⟩ := hl
  exact UpTo.store (n := 256) hf (fun r hr => by
    rcases List.mem_cons.mp hr with h | h
    · right; omega
    · exact Or.inl h) h5 _ fun y => outNV_piece ob _ h8 h5 y

end Cert.KIProof

end
-- ==== Proof.KI.Local.lean ====
/-
# Copies that stay on a device

A rule that lends a region of an array for a copy into a staging slot and one that takes both back, and what such a
slot then holds: a run of rows of the array.
-/
module

public import proofs.«01_k».proof.Proof.KI.Steps

@[expose] public section

noncomputable section

namespace Cert.KIProof

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

section Fetch
variable {m}

/-- A copy in flight from a region of an array holding `A` into a staging slot, which will hold `X`. -/
def Fetch (c : Dev nD) (q : DmaSem sig) (N : ℕ) {sp sp' : Space} {s : Shape} {e : EltTy} (src : Memref sig .tc sp s e) (dst : Memref sig .tc sp' s e)
    (A : Buf (Elt F) (src.view.loc (c : Thread nD τ))) (X : Buf (Elt F) (dst.view.loc (c : Thread nD τ))) : sProp 𝕄 :=
  iprop(Transfers.Flight EC (c : Thread nD τ) (.dma q) () N
      iprop((dst.view.loc (c : Thread nD τ) ↦[dst.view.set]{fullShare} X) ∗ (src.view.loc (c : Thread nD τ) ↦[src.view.set]{fullShare} A))
    ∗ (src.view.loc (c : Thread nD τ) ↦[Finset.univ \ src.view.set]{fullShare} A))

theorem wp_fetch (c : Dev nD) {qx : DmaSem sig} (q : DmaSem sig) (hqx : qx = q)
    {sp sp' : Space} {s : Shape} {e : EltTy} (src : Memref sig .tc sp s e) (dst : Memref sig .tc sp' s e)
    {hsrc : src.view.WordExact} {hdst : dst.view.WordExact} {hsem : DmaTarget.Typed (nD := nD) (τ := τ) sp (.dma qx) (.here (p := Proc.tc) dst)}
    (N : ℕ) (hN : dst.view.amount (.dma qx) = N) (hN0 : 0 < N)
    (A : Buf (Elt F) (src.view.loc (c : Thread nD τ))) (fd X : Buf (Elt F) (dst.view.loc (c : Thread nD τ)))
    (h : ∀ y, src.view.read (Elt F) A y = dst.view.read (Elt F) X y)
    {α : Type} {Q : α → sProp 𝕄} {k : PUnit → Prog (TpuEff nD τ sig (Elt F) Λ₀ .tc) α} :
    iprop((src.view.loc (c : Thread nD τ) ↦{fullShare} A) ∗ (dst.view.loc (c : Thread nD τ) ↦[dst.view.set]{fullShare} fd) ∗ semVal (dCell c q) 0)
      ⊢ iprop((Fetch c q N src dst A X -∗ wpD c (k ⟨⟩) Q)
          -∗ wpD c (.op (.enqueueDma src (.here dst) (.dma qx) hsrc hdst hsem) k) Q) := by
  iintro ⟨Hs, Hd, Hv⟩ Hk
  ihave Hs := (pointsTo_split_subset (Finset.subset_univ src.view.set)).1 $$ Hs
  icases Hs with ⟨Hs, Hr⟩
  iapply (wp_lstart c q hqx N hN hN0 fullShare A dst.view.set (Finset.Subset.refl _) fd) $$ [Hs Hd Hv]
  · isplitl [Hs]; · iexact Hs
    isplitl [Hd]; · iexact Hd
    iexact Hv
  rw [landed (src := src) (dst := dst) (c := c) (d := c) A fd X fullShare h]
  iintro Hf
  iapply Hk
  unfold Fetch
  isplitl [Hf]; · iexact Hf
  iexact Hr

theorem wp_fetched (c : Dev nD) {qx : DmaSem sig} (q : DmaSem sig) (hqx : qx = q) (l : List Due) {W : Waits sig Unit}
    {sp sp' : Space} {s : Shape} {e : EltTy} (src : Memref sig .tc sp s e) (dst : Memref sig .tc sp' s e)
    {hsrc : src.view.WordExact} {hdst : dst.view.WordExact} (h : (l.all fun a => decide (lvD c q.val < lvDue a)) = true)
    (N : ℕ) (hN : dst.view.dmaCredit = N) (A : Buf (Elt F) (src.view.loc (c : Thread nD τ))) (X : Buf (Elt F) (dst.view.loc (c : Thread nD τ)))
    {α : Type} {Q : α → sProp 𝕄} {k : PUnit → Prog (TpuEff nD τ sig (Elt F) Λ₀ .tc) α} :
    iprop(levAts L lv ∗ Fetch c q N src dst A X ∗ owes (c : Thread nD τ) (owesL l) W)
      ⊢ iprop(((owes (c : Thread nD τ) (owesL l) (insert (SemLoc.dma q, ()) W) ∗ semVal (dCell c q) 0
                  ∗ (dst.view.loc (c : Thread nD τ) ↦[dst.view.set]{fullShare} X) ∗ (src.view.loc (c : Thread nD τ) ↦{fullShare} A))
                -∗ wpD c (k ⟨⟩) Q)
          -∗ wpD c (.op (.waitDma2 qx src dst hsrc hdst) k) Q) := by
  unfold Fetch
  iintro ⟨#Hlev, ⟨Hf, Hr⟩, HO⟩ Hk
  iapply (wp_lwait c q hqx l h N hN) $$ [Hf HO]
  · isplitr; · iexact Hlev
    isplitl [Hf]; · iexact Hf
    iexact HO
  iintro ⟨HO, Hv, Hd, Hs⟩
  iapply Hk
  isplitl [HO]; · iexact HO
  isplitl [Hv]; · iexact Hv
  isplitl [Hd]; · iexact Hd
  iapply (pointsTo_split_subset (Finset.subset_univ src.view.set)).2
  isplitl [Hs]; · iexact Hs
  iexact Hr

end Fetch

/-! ## The staging slots and the runs of rows they take -/

/-- Device 0. -/
abbrev t0 : Thread nD τ := ((0 : Dev nD) : Thread nD τ)
abbrev kvM : Memref sig .tc .vmem S2x512x8x128 .f32 := Memref.whole cc0_scratch7
abbrev xsM : Memref sig .tc .vmem S2x512x1024 .f32 := Memref.whole cc0_scratch3

abbrev kvR (s : ℕ) (h : ∀ a, (![s, 0, 0, 0] : Fin 4 → ℕ) a + S1x512x8x128.size a ≤ S2x512x8x128.size a) : Rect S2x512x8x128 :=
  Rect.unit (s := S2x512x8x128) ![s, 0, 0, 0] S1x512x8x128.size h
abbrev kvS (s : ℕ) (h : ∀ a, (![s, 0, 0, 0] : Fin 4 → ℕ) a + S1x512x8x128.size a ≤ S2x512x8x128.size a) : Memref sig .tc .vmem S512x8x128 .f32 :=
  (kvM.slice (Rect.unit (s := S2x512x8x128) ![s, 0, 0, 0] S1x512x8x128.size h) (fun _ => rfl)).squeeze S512x8x128 squeezes_S1x512x8x128_S512x8x128
abbrev kS (o : ℕ) (h : ∀ a, (![0, o, 0, 0] : Fin 4 → ℕ) a + S1x512x8x128.size a ≤ S1x2048x8x128.size a) : Memref sig .tc .hbm S512x8x128 .f32 :=
  ((Memref.whole main_arg2).slice (Rect.unit (s := S1x2048x8x128) ![0, o, 0, 0] S1x512x8x128.size h) (fun _ => rfl)).squeeze S512x8x128 squeezes_S1x512x8x128_S512x8x128
abbrev vS (o : ℕ) (h : ∀ a, (![0, o, 0, 0] : Fin 4 → ℕ) a + S1x512x8x128.size a ≤ S1x2048x8x128.size a) : Memref sig .tc .hbm S512x8x128 .f32 :=
  ((Memref.whole main_arg3).slice (Rect.unit (s := S1x2048x8x128) ![0, o, 0, 0] S1x512x8x128.size h) (fun _ => rfl)).squeeze S512x8x128 squeezes_S1x512x8x128_S512x8x128
abbrev xsS (s : ℕ) (h : ∀ a, (![s, 0, 0] : Fin 3 → ℕ) a + S1x512x1024.size a ≤ S2x512x1024.size a) : Memref sig .tc .vmem S512x1024 .f32 :=
  (xsM.slice (Rect.unit (s := S2x512x1024) ![s, 0, 0] S1x512x1024.size h) (fun _ => rfl)).squeeze S512x1024 squeezes_S1x512x1024_S512x1024
abbrev xS (o : ℕ) (h : ∀ a, (![0, o, 0] : Fin 3 → ℕ) a + S1x512x1024.size a ≤ S1x2048x1024.size a) : Memref sig .tc .hbm S512x1024 .f32 :=
  ((Memref.whole main_arg0).slice (Rect.unit (s := S1x2048x1024) ![0, o, 0] S1x512x1024.size h) (fun _ => rfl)).squeeze S512x1024 squeezes_S1x512x1024_S512x1024
abbrev kv0 := kvS 0 inb_S2x512x8x128_S1x512x8x128_0_0_0_0
abbrev xs0 := xsS 0 inb_S2x512x1024_S1x512x1024_0_0_0
abbrev kv1 := kvS 1 inb_S2x512x8x128_S1x512x8x128_1_0_0_0
abbrev xs1 := xsS 1 inb_S2x512x1024_S1x512x1024_1_0_0
abbrev kc0 := kS 0 inb_S1x2048x8x128_S1x512x8x128_0_0_0_0
abbrev vc0 := vS 0 inb_S1x2048x8x128_S1x512x8x128_0_0_0_0
abbrev xc0 := xS 0 inb_S1x2048x1024_S1x512x1024_0_0_0
abbrev kc1 := kS 512 inb_S1x2048x8x128_S1x512x8x128_0_512_0_0
abbrev vc1 := vS 512 inb_S1x2048x8x128_S1x512x8x128_0_512_0_0
abbrev xc1 := xS 512 inb_S1x2048x1024_S1x512x1024_0_512_0
abbrev kc2 := kS 1024 inb_S1x2048x8x128_S1x512x8x128_0_1024_0_0
abbrev vc2 := vS 1024 inb_S1x2048x8x128_S1x512x8x128_0_1024_0_0
abbrev xc2 := xS 1024 inb_S1x2048x1024_S1x512x1024_0_1024_0
abbrev kc3 := kS 1536 inb_S1x2048x8x128_S1x512x8x128_0_1536_0_0
abbrev vc3 := vS 1536 inb_S1x2048x8x128_S1x512x8x128_0_1536_0_0
abbrev xc3 := xS 1536 inb_S1x2048x1024_S1x512x1024_0_1536_0

/-- The first 128 rows of a slot, and of the two arrays. -/
abbrev kvS1 : Memref sig .tc .vmem S128x8x128 .f32 :=
  (kvM.slice (Rect.unit (s := S2x512x8x128) ![0, 0, 0, 0] S1x128x8x128.size inb_S2x512x8x128_S1x128x8x128_0_0_0_0) (fun _ => rfl)).squeeze S128x8x128 squeezes_S1x128x8x128_S128x8x128
abbrev kS1 : Memref sig .tc .hbm S128x8x128 .f32 :=
  ((Memref.whole main_arg2).slice (Rect.unit (s := S1x2048x8x128) ![0, 0, 0, 0] S1x128x8x128.size inb_S1x2048x8x128_S1x128x8x128_0_0_0_0) (fun _ => rfl)).squeeze S128x8x128 squeezes_S1x128x8x128_S128x8x128
abbrev vS1 : Memref sig .tc .hbm S128x8x128 .f32 :=
  ((Memref.whole main_arg3).slice (Rect.unit (s := S1x2048x8x128) ![0, 0, 0, 0] S1x128x8x128.size inb_S1x2048x8x128_S1x128x8x128_0_0_0_0) (fun _ => rfl)).squeeze S128x8x128 squeezes_S1x128x8x128_S128x8x128

/-- What a slot holds that took the rows from `o` on. -/
def kvX (A : Vec F S1x2048x8x128 .f32) (o : ℕ) (h : o + 512 ≤ 2048) : Vec F S2x512x8x128 .f32 := fun i =>
  A (ix4 0 ⟨o + (i 1).val, by have h' : (i 1).val < 512 := (i 1).isLt; omega⟩ (i 2) (i 3))
def xsX (A : Vec F S1x2048x1024 .f32) (o : ℕ) (h : o + 512 ≤ 2048) : Vec F S2x512x1024 .f32 := fun i =>
  A (ix3 0 ⟨o + (i 1).val, by have h' : (i 1).val < 512 := (i 1).isLt; omega⟩ (i 2))

omit [FloatOps F] [Named F] in
theorem kv_emb (A : Vec F S1x2048x8x128 .f32) (s o : ℕ) (hs : ∀ a, (![s, 0, 0, 0] : Fin 4 → ℕ) a + S1x512x8x128.size a ≤ S2x512x8x128.size a)
    (ho : ∀ a, (![0, o, 0, 0] : Fin 4 → ℕ) a + S1x512x8x128.size a ≤ S1x2048x8x128.size a) (h : o + 512 ≤ 2048) (z : S1x512x8x128.Idx) :
    A ((Rect.unit (s := S1x2048x8x128) ![0, o, 0, 0] S1x512x8x128.size ho).emb z)
      = kvX A o h ((Rect.unit (s := S2x512x8x128) ![s, 0, 0, 0] S1x512x8x128.size hs).emb z) := by
  refine congrArg A (funext fun a => ?_)
  have h0 : (z 0).val < 1 := (z 0).isLt
  match a with
  | ⟨0, _⟩ => exact Fin.ext (by show 0 + 1 * (z 0).val = 0; omega)
  | ⟨1, _⟩ => exact Fin.ext (by show o + 1 * (z 1).val = o + (0 + 1 * (z 1).val); omega)
  | ⟨2, _⟩ => exact Fin.ext (by show 0 + 1 * (z 2).val = 0 + 1 * (z 2).val; omega)
  | ⟨3, _⟩ => exact Fin.ext (by show 0 + 1 * (z 3).val = 0 + 1 * (z 3).val; omega)

omit [FloatOps F] [Named F] in
theorem kv_emb1 (A : Vec F S1x2048x8x128 .f32) (z : S1x128x8x128.Idx) :
    A ((Rect.unit (s := S1x2048x8x128) ![0, 0, 0, 0] S1x128x8x128.size inb_S1x2048x8x128_S1x128x8x128_0_0_0_0).emb z)
      = kvX A 0 (by decide) ((Rect.unit (s := S2x512x8x128) ![0, 0, 0, 0] S1x128x8x128.size inb_S2x512x8x128_S1x128x8x128_0_0_0_0).emb z) := by
  refine congrArg A (funext fun a => ?_)
  have h0 : (z 0).val < 1 := (z 0).isLt
  match a with
  | ⟨0, _⟩ => exact Fin.ext (by show 0 + 1 * (z 0).val = 0; omega)
  | ⟨1, _⟩ => exact Fin.ext (by show 0 + 1 * (z 1).val = 0 + (0 + 1 * (z 1).val); omega)
  | ⟨2, _⟩ => exact Fin.ext (by show 0 + 1 * (z 2).val = 0 + 1 * (z 2).val; omega)
  | ⟨3, _⟩ => exact Fin.ext (by show 0 + 1 * (z 3).val = 0 + 1 * (z 3).val; omega)

omit [FloatOps F] [Named F] in
theorem xs_emb (A : Vec F S1x2048x1024 .f32) (s o : ℕ) (hs : ∀ a, (![s, 0, 0] : Fin 3 → ℕ) a + S1x512x1024.size a ≤ S2x512x1024.size a)
    (ho : ∀ a, (![0, o, 0] : Fin 3 → ℕ) a + S1x512x1024.size a ≤ S1x2048x1024.size a) (h : o + 512 ≤ 2048) (z : S1x512x1024.Idx) :
    A ((Rect.unit (s := S1x2048x1024) ![0, o, 0] S1x512x1024.size ho).emb z)
      = xsX A o h ((Rect.unit (s := S2x512x1024) ![s, 0, 0] S1x512x1024.size hs).emb z) := by
  refine congrArg A (funext fun a => ?_)
  have h0 : (z 0).val < 1 := (z 0).isLt
  match a with
  | ⟨0, _⟩ => exact Fin.ext (by show 0 + 1 * (z 0).val = 0; omega)
  | ⟨1, _⟩ => exact Fin.ext (by show o + 1 * (z 1).val = o + (0 + 1 * (z 1).val); omega)
  | ⟨2, _⟩ => exact Fin.ext (by show 0 + 1 * (z 2).val = 0 + 1 * (z 2).val; omega)

omit [FloatOps F] [Named F] in
theorem kS_read (A : Vec F S1x2048x8x128 .f32) (s o : ℕ) (hs) (ho) (h : o + 512 ≤ 2048) (y : S512x8x128.Idx) :
    (kS o ho).view.read (Elt F) A y = (kvS s hs).view.read (Elt F) (kvX A o h) y := kv_emb A s o hs ho h _
omit [FloatOps F] [Named F] in
theorem vS_read (A : Vec F S1x2048x8x128 .f32) (s o : ℕ) (hs) (ho) (h : o + 512 ≤ 2048) (y : S512x8x128.Idx) :
    (vS o ho).view.read (Elt F) A y = (kvS s hs).view.read (Elt F) (kvX A o h) y := kv_emb A s o hs ho h _
omit [FloatOps F] [Named F] in
theorem xS_read (A : Vec F S1x2048x1024 .f32) (s o : ℕ) (hs) (ho) (h : o + 512 ≤ 2048) (y : S512x1024.Idx) :
    (xS o ho).view.read (Elt F) A y = (xsS s hs).view.read (Elt F) (xsX A o h) y := xs_emb A s o hs ho h _
omit [FloatOps F] [Named F] in
theorem kS1_read (A : Vec F S1x2048x8x128 .f32) (y : S128x8x128.Idx) :
    kS1.view.read (Elt F) A y = kvS1.view.read (Elt F) (kvX A 0 (by decide)) y := kv_emb1 A _
omit [FloatOps F] [Named F] in
theorem vS1_read (A : Vec F S1x2048x8x128 .f32) (y : S128x8x128.Idx) :
    vS1.view.read (Elt F) A y = kvS1.view.read (Elt F) (kvX A 0 (by decide)) y := kv_emb1 A _

omit [FloatOps F] [Named F] in
/-- Rows of eight heads laid side by side. -/
theorem cast_rows {α : Type} {n : ℕ} (w : (⟨4, ![1, n, 8, 128]⟩ : Shape).Idx → α) (h1 : (⟨4, ![1, n, 8, 128]⟩ : Shape).ShapeCasts ⟨3, ![n, 8, 128]⟩)
    (h2 : (⟨3, ![n, 8, 128]⟩ : Shape).ShapeCasts ⟨2, ![n, 1024]⟩) (r : Fin n) (e : Fin 1024) :
    shapeCast ⟨2, ![n, 1024]⟩ (shapeCast ⟨3, ![n, 8, 128]⟩ w h1) h2 (ix2 r e)
      = w (ix4 0 r ⟨e.val / 128, Nat.div_lt_of_lt_mul e.isLt⟩ ⟨e.val % 128, Nat.mod_lt _ (by decide)⟩) := by
  refine (shapeCast_apply (shapeCast ⟨3, ![n, 8, 128]⟩ w h1) h2 (ix2 r e) (ix3 r ⟨e.val / 128, Nat.div_lt_of_lt_mul e.isLt⟩ ⟨e.val % 128, Nat.mod_lt _ (by decide)⟩) ?_).trans
    (shapeCast_1abc_abc_apply w h1 r _ _)
  rw [Shape.rowMajor_val_three, Shape.rowMajor_val_two]
  show (r.val * 8 + e.val / 128) * 128 + e.val % 128 = r.val * 1024 + e.val
  omega

/-- Narrowing 128 rows just taken in. -/
theorem pay101_eq (A : Vec F S1x2048x8x128 .f32) :
    k0_pay101 (kvM.view.readAt (Elt F) (Rect.unit (s := S2x512x8x128) ![0, 0, 0, 0] S1x128x8x128.size inb_S2x512x8x128_S1x128x8x128_0_0_0_0).toLoadRect (kvX A 0 (by decide)))
      = haloV A := by
  funext i
  unfold k0_pay101 haloV
  rw [shapeCast_self]
  refine congrArg (FloatOps.truncf .bf16 bitsLt_bf16_f32) ?_
  rw [eq_ix2 i]
  refine (cast_rows (n := 128) _ shapeCasts_S1x128x8x128_S128x8x128 shapeCasts_S128x8x128_S128x1024 (i 0) (i 1)).trans ?_
  refine congrArg A (funext fun a => ?_)
  match a with
  | ⟨0, _⟩ => rfl
  | ⟨1, _⟩ => exact Fin.ext (by show 0 + (0 + 1 * (i 0).val) = (i 0).val; omega)
  | ⟨2, _⟩ => exact Fin.ext (by show 0 + 1 * ((i 1).val / 128) = _; exact Nat.zero_add _ |>.trans (Nat.one_mul _))
  | ⟨3, _⟩ => exact Fin.ext (by show 0 + 1 * ((i 1).val % 128) = _; exact Nat.zero_add _ |>.trans (Nat.one_mul _))

theorem pay102_eq (A : Vec F S1x2048x8x128 .f32) :
    k0_pay102 (kvM.view.readAt (Elt F) (Rect.unit (s := S2x512x8x128) ![0, 0, 0, 0] S1x128x8x128.size inb_S2x512x8x128_S1x128x8x128_0_0_0_0).toLoadRect (kvX A 0 (by decide)))
      = haloV A := pay101_eq A

omit [FloatOps F] [Named F] in
/-- Two complementary parts of a buffer, whatever they hold. -/
theorem join_any (ℓ : Loc nD τ sig) (I : Finset (Idx ℓ)) :
    iprop((∃ f, ℓ ↦[I]{fullShare} f) ∗ (∃ f, ℓ ↦[Finset.univ \ I]{fullShare} f)) ⊢ (iprop(∃ f, ℓ ↦{fullShare} f) : sProp 𝕄) := by
  classical
  iintro ⟨⟨%f, Hf⟩, ⟨%g, Hg⟩⟩
  iexists (fun i => if i ∈ I then f i else g i)
  iapply (pointsTo_split_subset (Finset.subset_univ I)).2
  rw [pointsTo_congr (f := fun i => if i ∈ I then f i else g i) (g := f) (I := I) (fun i hi => if_pos hi),
    pointsTo_congr (f := fun i => if i ∈ I then f i else g i) (g := g) (I := Finset.univ \ I) (fun i hi => if_neg (Finset.mem_sdiff.mp hi).2)]
  isplitl [Hf]; · iexact Hf
  iexact Hg
theorem join_7 (c : Dev nD) (I : Finset (Idx ((c : Thread nD τ).loc cc0_scratch7))) :
    iprop((∃ f, (c : Thread nD τ).loc cc0_scratch7 ↦[I]{fullShare} f) ∗ (∃ f, (c : Thread nD τ).loc cc0_scratch7 ↦[Finset.univ \ I]{fullShare} f))
      ⊢ (iprop(∃ f, (c : Thread nD τ).loc cc0_scratch7 ↦{fullShare} f) : sProp 𝕄) := join_any _ I

/-! ## The rows device 1 sends to device 0 -/

theorem kvS1_set : kvS1.view.set = kvM.view.setOn (Rect.unit (s := S2x512x8x128) ![0, 0, 0, 0] S1x128x8x128.size inb_S2x512x8x128_S1x128x8x128_0_0_0_0).set :=
  (View.set_reshape _ _).trans (View.set_slice _ _)

theorem halo_read (A B : Vec F S1x2048x8x128 .f32) (h : ∀ a, (![2048, 0] : Fin 2 → ℕ) a + S128x1024.size a ≤ S2176x1024.size a) (y : S128x1024.Idx) :
    haloV B y = kbV A B ((Rect.unit (s := S2176x1024) ![2048, 0] S128x1024.size h).emb y) := by
  unfold haloV kbV
  refine congrArg (FloatOps.truncf .bf16 bitsLt_bf16_f32) ?_
  rw [dif_neg (show ¬ ((Rect.unit (s := S2176x1024) ![2048, 0] S128x1024.size h).emb y 0).val < 2048 from by show ¬ 2048 + 1 * (y 0).val < 2048; omega)]
  refine congrArg B (funext fun a => ?_)
  match a with
  | ⟨0, _⟩ => rfl
  | ⟨1, _⟩ => exact Fin.ext (by show (y 0).val = 2048 + 1 * (y 0).val - 2048; omega)
  | ⟨2, _⟩ => exact Fin.ext (by show (y 1).val / 128 = (0 + 1 * (y 1).val) / 128; rw [Nat.zero_add, Nat.one_mul])
  | ⟨3, _⟩ => exact Fin.ext (by show (y 1).val % 128 = (0 + 1 * (y 1).val) % 128; rw [Nat.zero_add, Nat.one_mul])

omit [FloatOps F] [Named F] in
theorem store_hk (f w : Vec F S128x1024 .bf16) : (hkM.access (Rect.unit (s := S128x1024) ![0, 0] S128x1024.size inb_S128x1024_S128x1024_0_0)).write (Elt F) f w Finset.univ = w := by
  funext i
  have he : (Rect.unit (s := S128x1024) ![0, 0] S128x1024.size inb_S128x1024_S128x1024_0_0).emb i = i := funext fun a => match a with
    | ⟨0, _⟩ => Fin.ext (by show 0 + 1 * (i 0).val = (i 0).val; omega)
    | ⟨1, _⟩ => Fin.ext (by show 0 + 1 * (i 1).val = (i 1).val; omega)
  have h := View.write_emb_of_mem (v := hkM.access (Rect.unit (s := S128x1024) ![0, 0] S128x1024.size inb_S128x1024_S128x1024_0_0)) (Val := Elt F) f w (Finset.mem_univ i)
  exact (congrArg ((hkM.access (Rect.unit (s := S128x1024) ![0, 0] S128x1024.size inb_S128x1024_S128x1024_0_0)).write (Elt F) f w Finset.univ) he.symm).trans h

/-- The 128 rows taken in are narrowed and stored, to be sent. -/
theorem wp_hk (A : Vec F S1x2048x8x128 .f32) (f : Vec F S128x1024 .bf16)
    {hl1 : kvM.view.LoadsAt (Rect.unit (s := S2x512x8x128) ![0, 0, 0, 0] S1x128x8x128.size inb_S2x512x8x128_S1x128x8x128_0_0_0_0).toLoadRect} {hl2 : hkM.view.LoadsAt (Rect.unit (s := S128x1024) ![0, 0] S128x1024.size inb_S128x1024_S128x1024_0_0).toLoadRect}
    {hx : (hkM.access (Rect.unit (s := S128x1024) ![0, 0] S128x1024.size inb_S128x1024_S128x1024_0_0)).Stores Finset.univ} {hm : (Finset.univ : Finset (Rect.unit (s := S128x1024) ![0, 0] S128x1024.size inb_S128x1024_S128x1024_0_0).shape.Idx) = Finset.univ ∨ ∀ a, (Rect.unit (s := S128x1024) ![0, 0] S128x1024.size inb_S128x1024_S128x1024_0_0).stride a = 1}
    {α : Type} {Q : α → sProp 𝕄} {k : PUnit → Prog (TpuEff nD τ sig (Elt F) Λ₀ .tc) α} :
    iprop((kvS1.view.loc ((1 : Dev nD) : Thread nD τ) ↦[kvS1.view.set]{fullShare} kvX A 0 (by decide)) ∗ (((1 : Dev nD) : Thread nD τ).loc cc0_scratch5 ↦{fullShare} f))
      ⊢ iprop((((kvS1.view.loc ((1 : Dev nD) : Thread nD τ) ↦[kvS1.view.set]{fullShare} kvX A 0 (by decide))
                ∗ (hkM.view.loc ((1 : Dev nD) : Thread nD τ) ↦[hkM.view.set]{fullShare} haloV A))
              -∗ wpD 1 (k ⟨⟩) Q)
          -∗ wpD 1
              (.op (.load kvM (Rect.unit (s := S2x512x8x128) ![0, 0, 0, 0] S1x128x8x128.size inb_S2x512x8x128_S1x128x8x128_0_0_0_0).toLoadRect hl1) fun v => .op (.load hkM (Rect.unit (s := S128x1024) ![0, 0] S128x1024.size inb_S128x1024_S128x1024_0_0).toLoadRect hl2) fun _ =>
                .op (.store hkM (Rect.unit (s := S128x1024) ![0, 0] S128x1024.size inb_S128x1024_S128x1024_0_0) (k0_pay101 v) Finset.univ hx hm) k) Q) := by
  iintro ⟨Hb, Ho⟩ Hk
  iapply (wp_load 𝒱₀ ((1 : Dev nD) : Thread nD τ) none Set.univ (m := kvM) (S := kvS1.view.set) (q := fullShare) (f := kvX A 0 (by decide))
    (le_of_eq kvS1_set.symm)) $$ [Hb]
  · iexact Hb
  iintro Hb
  iapply (wp_load 𝒱₀ ((1 : Dev nD) : Thread nD τ) none Set.univ (m := hkM) (S := Finset.univ) (q := fullShare) (f := f) (Finset.subset_univ _)) $$ [Ho]
  · iexact Ho
  iintro Ho
  iapply (wp_store 𝒱₀ ((1 : Dev nD) : Thread nD τ) none Set.univ (m := hkM) (S := Finset.univ) (f := f) (Finset.subset_univ _)) $$ [Ho]
  · iexact Ho
  rw [store_hk, pay101_eq]
  iintro Ho
  iapply Hk
  isplitl [Hb]; · iexact Hb
  rw [show (hkM : Memref sig .tc .vmem S128x1024 .bf16).view.set = Finset.univ from View.set_whole _]
  iexact Ho

omit [FloatOps F] [Named F] in
theorem store_hv (f w : Vec F S128x1024 .bf16) : (hvM.access (Rect.unit (s := S128x1024) ![0, 0] S128x1024.size inb_S128x1024_S128x1024_0_0)).write (Elt F) f w Finset.univ = w := by
  funext i
  have he : (Rect.unit (s := S128x1024) ![0, 0] S128x1024.size inb_S128x1024_S128x1024_0_0).emb i = i := funext fun a => match a with
    | ⟨0, _⟩ => Fin.ext (by show 0 + 1 * (i 0).val = (i 0).val; omega)
    | ⟨1, _⟩ => Fin.ext (by show 0 + 1 * (i 1).val = (i 1).val; omega)
  have h := View.write_emb_of_mem (v := hvM.access (Rect.unit (s := S128x1024) ![0, 0] S128x1024.size inb_S128x1024_S128x1024_0_0)) (Val := Elt F) f w (Finset.mem_univ i)
  exact (congrArg ((hvM.access (Rect.unit (s := S128x1024) ![0, 0] S128x1024.size inb_S128x1024_S128x1024_0_0)).write (Elt F) f w Finset.univ) he.symm).trans h

/-- The 128 rows taken in are narrowed and stored, to be sent. -/
theorem wp_hv (A : Vec F S1x2048x8x128 .f32) (f : Vec F S128x1024 .bf16)
    {hl1 : kvM.view.LoadsAt (Rect.unit (s := S2x512x8x128) ![0, 0, 0, 0] S1x128x8x128.size inb_S2x512x8x128_S1x128x8x128_0_0_0_0).toLoadRect} {hl2 : hvM.view.LoadsAt (Rect.unit (s := S128x1024) ![0, 0] S128x1024.size inb_S128x1024_S128x1024_0_0).toLoadRect}
    {hx : (hvM.access (Rect.unit (s := S128x1024) ![0, 0] S128x1024.size inb_S128x1024_S128x1024_0_0)).Stores Finset.univ} {hm : (Finset.univ : Finset (Rect.unit (s := S128x1024) ![0, 0] S128x1024.size inb_S128x1024_S128x1024_0_0).shape.Idx) = Finset.univ ∨ ∀ a, (Rect.unit (s := S128x1024) ![0, 0] S128x1024.size inb_S128x1024_S128x1024_0_0).stride a = 1}
    {α : Type} {Q : α → sProp 𝕄} {k : PUnit → Prog (TpuEff nD τ sig (Elt F) Λ₀ .tc) α} :
    iprop((kvS1.view.loc ((1 : Dev nD) : Thread nD τ) ↦[kvS1.view.set]{fullShare} kvX A 0 (by decide)) ∗ (((1 : Dev nD) : Thread nD τ).loc cc0_scratch6 ↦{fullShare} f))
      ⊢ iprop((((kvS1.view.loc ((1 : Dev nD) : Thread nD τ) ↦[kvS1.view.set]{fullShare} kvX A 0 (by decide))
                ∗ (hvM.view.loc ((1 : Dev nD) : Thread nD τ) ↦[hvM.view.set]{fullShare} haloV A))
              -∗ wpD 1 (k ⟨⟩) Q)
          -∗ wpD 1
              (.op (.load kvM (Rect.unit (s := S2x512x8x128) ![0, 0, 0, 0] S1x128x8x128.size inb_S2x512x8x128_S1x128x8x128_0_0_0_0).toLoadRect hl1) fun v => .op (.load hvM (Rect.unit (s := S128x1024) ![0, 0] S128x1024.size inb_S128x1024_S128x1024_0_0).toLoadRect hl2) fun _ =>
                .op (.store hvM (Rect.unit (s := S128x1024) ![0, 0] S128x1024.size inb_S128x1024_S128x1024_0_0) (k0_pay102 v) Finset.univ hx hm) k) Q) := by
  iintro ⟨Hb, Ho⟩ Hk
  iapply (wp_load 𝒱₀ ((1 : Dev nD) : Thread nD τ) none Set.univ (m := kvM) (S := kvS1.view.set) (q := fullShare) (f := kvX A 0 (by decide))
    (le_of_eq kvS1_set.symm)) $$ [Hb]
  · iexact Hb
  iintro Hb
  iapply (wp_load 𝒱₀ ((1 : Dev nD) : Thread nD τ) none Set.univ (m := hvM) (S := Finset.univ) (q := fullShare) (f := f) (Finset.subset_univ _)) $$ [Ho]
  · iexact Ho
  iintro Ho
  iapply (wp_store 𝒱₀ ((1 : Dev nD) : Thread nD τ) none Set.univ (m := hvM) (S := Finset.univ) (f := f) (Finset.subset_univ _)) $$ [Ho]
  · iexact Ho
  rw [store_hv, pay102_eq]
  iintro Ho
  iapply Hk
  isplitl [Hb]; · iexact Hb
  rw [show (hvM : Memref sig .tc .vmem S128x1024 .bf16).view.set = Finset.univ from View.set_whole _]
  iexact Ho

end Cert.KIProof

end
-- ==== Proof.KI.Chunk.lean ====
/-
# Device 0's steps

Rows taken into a staging slot are narrowed and appended to the key or value buffer; one attention head is formed from
the two buffers and laid beside the earlier ones; a finished chunk is projected and stored.
-/
module

public import proofs.«01_k».proof.Proof.KI.Local

@[expose] public section

noncomputable section

namespace Cert.KIProof

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

section
variable {m}

/-! ## Values -/

omit [FloatOps F] [Named F] in
theorem qh_eq (q : FVec F S512x1024 .bf16) (h : Fin 8) (o : ℕ) (ho : o = 128 * h.val) (hs : S512x1024.Slices ![0, o] S512x128) :
    extractStridedSlice S512x128 ![0, o] q hs = qh q h := by
  subst ho
  refine funext fun j => congrArg q (funext fun a => ?_)
  match a with
  | ⟨0, _⟩ => exact Fin.ext (by show 0 + (j 0).val = (j 0).val; omega)
  | ⟨1, _⟩ => rfl

section
variable (W : FVec F S1024x1024 .bf16) (x : Vec F S1x512x1024 .f32) (k v : Vec F S768x128 .bf16)
/-- A head's context, as the kernel computes it from the whole query block. -/
def hd (c : Fin 4) (h : Fin 8) (W : FVec F S1024x1024 .bf16) (x : Vec F S1x512x1024 .f32) (k v : Vec F S768x128 .bf16) : FVec F S512x128 .bf16 :=
  k0_pay18 (maskC c) (qh (k0_pay14 W x) h) k v
theorem hdE (c : Fin 4) (h : Fin 8) (o : ℕ) (ho : o = 128 * h.val) (hs : S512x1024.Slices ![0, o] S512x128) :
    k0_pay18 (maskC c) (extractStridedSlice S512x128 ![0, o] (k0_pay14 W x) hs) k v = hd c h W x k v := by
  rw [qh_eq _ h o ho]; rfl
theorem pay_0_0 : k0_pay16 W x k v = hd 0 0 W x k v :=
  hdE W x k v 0 0 0 rfl slices_S512x1024_o0_0_S512x128
theorem pay_0_1 : k0_pay18 k0_pay15 (k0_pay17 W x) k v = hd 0 1 W x k v :=
  hdE W x k v 0 1 128 rfl slices_S512x1024_o0_128_S512x128
theorem pay_0_2 : k0_pay19 (k0_pay14 W x) k0_pay15 k v = hd 0 2 W x k v :=
  hdE W x k v 0 2 256 rfl slices_S512x1024_o0_256_S512x128
theorem pay_0_3 : k0_pay21 k0_pay15 (k0_pay20 (k0_pay14 W x)) k v = hd 0 3 W x k v :=
  hdE W x k v 0 3 384 rfl slices_S512x1024_o0_384_S512x128
theorem pay_0_4 : k0_pay22 (k0_pay14 W x) k0_pay15 k v = hd 0 4 W x k v :=
  hdE W x k v 0 4 512 rfl slices_S512x1024_o0_512_S512x128
theorem pay_0_5 : k0_pay23 (k0_pay14 W x) k0_pay15 k v = hd 0 5 W x k v :=
  hdE W x k v 0 5 640 rfl slices_S512x1024_o0_640_S512x128
theorem pay_0_6 : k0_pay25 (k0_pay24 (k0_pay14 W x) k0_pay15 k v) = hd 0 6 W x k v :=
  hdE W x k v 0 6 768 rfl slices_S512x1024_o0_768_S512x128
theorem pay_0_7 : k0_pay26 (k0_pay14 W x) k0_pay15 k v = hd 0 7 W x k v :=
  hdE W x k v 0 7 896 rfl slices_S512x1024_o0_896_S512x128
theorem pay_1_0 : k0_pay34 (k0_pay30 W x) k0_pay31 k0_pay32 k v = hd 1 0 W x k v :=
  hdE W x k v 1 0 0 rfl slices_S512x1024_o0_0_S512x128
theorem pay_1_1 : k0_pay36 (k0_pay35 (k0_pay30 W x) k0_pay31 k0_pay32 k v) = hd 1 1 W x k v :=
  hdE W x k v 1 1 128 rfl slices_S512x1024_o0_128_S512x128
theorem pay_1_2 : k0_pay37 (k0_pay30 W x) (k0_pay33 k0_pay31 k0_pay32) k v = hd 1 2 W x k v :=
  hdE W x k v 1 2 256 rfl slices_S512x1024_o0_256_S512x128
theorem pay_1_3 : k0_pay41 (k0_pay39 (k0_pay30 W x) (k0_pay33 k0_pay31 k0_pay32) k) (k0_pay40 (k0_pay30 W x) (k0_pay33 k0_pay31 k0_pay32) k v) = hd 1 3 W x k v :=
  hdE W x k v 1 3 384 rfl slices_S512x1024_o0_384_S512x128
theorem pay_1_4 : k0_pay42 (k0_pay30 W x) (k0_pay33 k0_pay31 k0_pay32) k v = hd 1 4 W x k v :=
  hdE W x k v 1 4 512 rfl slices_S512x1024_o0_512_S512x128
theorem pay_1_5 : k0_pay46 (k0_pay44 (k0_pay30 W x) (k0_pay33 k0_pay31 k0_pay32) k) (k0_pay45 (k0_pay30 W x) (k0_pay33 k0_pay31 k0_pay32) k) v = hd 1 5 W x k v :=
  hdE W x k v 1 5 640 rfl slices_S512x1024_o0_640_S512x128
theorem pay_1_6 : k0_pay47 (k0_pay30 W x) (k0_pay33 k0_pay31 k0_pay32) k v = hd 1 6 W x k v :=
  hdE W x k v 1 6 768 rfl slices_S512x1024_o0_768_S512x128
theorem pay_1_7 : k0_pay51 (k0_pay49 (k0_pay30 W x) (k0_pay33 k0_pay31 k0_pay32) k) (k0_pay50 (k0_pay30 W x) (k0_pay33 k0_pay31 k0_pay32) k) v = hd 1 7 W x k v :=
  hdE W x k v 1 7 896 rfl slices_S512x1024_o0_896_S512x128
theorem pay_2_0 : k0_pay60 (k0_pay57 W x k) (k0_pay58 W x k) k0_pay59 v = hd 2 0 W x k v :=
  hdE W x k v 2 0 0 rfl slices_S512x1024_o0_0_S512x128
theorem pay_2_1 : k0_pay61 (k0_pay55 W x) k0_pay56 k v = hd 2 1 W x k v :=
  hdE W x k v 2 1 128 rfl slices_S512x1024_o0_128_S512x128
theorem pay_2_2 : k0_pay64 (k0_pay62 (k0_pay55 W x) k0_pay56 k) (k0_pay63 (k0_pay55 W x) k0_pay56 k) v = hd 2 2 W x k v :=
  hdE W x k v 2 2 256 rfl slices_S512x1024_o0_256_S512x128
theorem pay_2_3 : k0_pay65 (k0_pay55 W x) k0_pay56 k v = hd 2 3 W x k v :=
  hdE W x k v 2 3 384 rfl slices_S512x1024_o0_384_S512x128
theorem pay_2_4 : k0_pay67 (k0_pay66 (k0_pay55 W x) k0_pay56 k) v = hd 2 4 W x k v :=
  hdE W x k v 2 4 512 rfl slices_S512x1024_o0_512_S512x128
theorem pay_2_5 : k0_pay68 (k0_pay55 W x) k0_pay56 k v = hd 2 5 W x k v :=
  hdE W x k v 2 5 640 rfl slices_S512x1024_o0_640_S512x128
theorem pay_2_6 : k0_pay70 (k0_pay69 (k0_pay55 W x) k0_pay56 k) v = hd 2 6 W x k v :=
  hdE W x k v 2 6 768 rfl slices_S512x1024_o0_768_S512x128
theorem pay_2_7 : k0_pay71 (k0_pay55 W x) k0_pay56 k v = hd 2 7 W x k v :=
  hdE W x k v 2 7 896 rfl slices_S512x1024_o0_896_S512x128
theorem pay_3_0 : k0_pay81 (k0_pay79 (k0_pay76 W x) k v) (k0_pay80 (k0_pay76 W x) k) = hd 3 0 W x k v :=
  hdE W x k v 3 0 0 rfl slices_S512x1024_o0_0_S512x128
theorem pay_3_1 : k0_pay82 (k0_pay76 W x) k0_pay77 k v = hd 3 1 W x k v :=
  hdE W x k v 3 1 128 rfl slices_S512x1024_o0_128_S512x128
theorem pay_3_2 : k0_pay86 (k0_pay84 (k0_pay76 W x) k0_pay77 k) (k0_pay85 (k0_pay76 W x) k0_pay77 k) v (constant S512x128 .f32 0x00000000#32) = hd 3 2 W x k v :=
  hdE W x k v 3 2 256 rfl slices_S512x1024_o0_256_S512x128
theorem pay_3_3 : k0_pay87 (k0_pay76 W x) k0_pay77 k v = hd 3 3 W x k v :=
  hdE W x k v 3 3 384 rfl slices_S512x1024_o0_384_S512x128
theorem pay_3_4 : k0_pay91 (k0_pay89 (k0_pay76 W x) k0_pay77 k) (k0_pay90 (k0_pay76 W x) k0_pay77 k) v = hd 3 4 W x k v :=
  hdE W x k v 3 4 512 rfl slices_S512x1024_o0_512_S512x128
theorem pay_3_5 : k0_pay92 (k0_pay76 W x) k0_pay77 k v = hd 3 5 W x k v :=
  hdE W x k v 3 5 640 rfl slices_S512x1024_o0_640_S512x128
theorem pay_3_6 : k0_pay96 (k0_pay94 (k0_pay76 W x) k0_pay77 k) (k0_pay95 (k0_pay76 W x) k0_pay77 k) v = hd 3 6 W x k v :=
  hdE W x k v 3 6 768 rfl slices_S512x1024_o0_768_S512x128
theorem pay_3_7 : k0_pay97 (k0_pay76 W x) k0_pay77 k v = hd 3 7 W x k v :=
  hdE W x k v 3 7 896 rfl slices_S512x1024_o0_896_S512x128
end

omit [FloatOps F] [Named F] in
theorem xs_load (A : Vec F S1x2048x1024 .f32) (s o : ℕ) (hs : ∀ a, (![s, 0, 0] : Fin 3 → ℕ) a + S1x512x1024.size a ≤ S2x512x1024.size a) (h : o + 512 ≤ 2048)
    (c : Fin 4) (hc : o = 512 * c.val) :
    xsM.view.readAt (Elt F) (Rect.unit (s := S2x512x1024) ![s, 0, 0] S1x512x1024.size hs).toLoadRect (xsX A o h) = xC A c := by
  subst hc
  refine funext fun j => congrArg A (funext fun a => ?_)
  match a with
  | ⟨0, _⟩ => rfl
  | ⟨1, _⟩ => exact Fin.ext (by show 512 * c.val + (0 + 1 * (j 1).val) = 512 * c.val + (j 1).val; omega)
  | ⟨2, _⟩ => exact Fin.ext (by show 0 + 1 * (j 2).val = (j 2).val; omega)

omit [FloatOps F] [Named F] in
theorem kb_load (kb : Vec F S2176x1024 .bf16) (c : Fin 4) (h : Fin 8) (o p : ℕ) (ho : o = ks c) (hp : p = 128 * h.val)
    (hin : ∀ a, (![o, p] : Fin 2 → ℕ) a + S768x128.size a ≤ S2176x1024.size a) :
    kbM.view.readAt (Elt F) (Rect.unit (s := S2176x1024) ![o, p] S768x128.size hin).toLoadRect kb = kh kb c h := by
  subst ho; subst hp
  refine funext fun j => congrArg kb (funext fun a => ?_)
  match a with
  | ⟨0, _⟩ => exact Fin.ext (by show ks c + 1 * (j 0).val = ks c + (j 0).val; omega)
  | ⟨1, _⟩ => exact Fin.ext (by show 128 * h.val + 1 * (j 1).val = 128 * h.val + (j 1).val; omega)

omit [FloatOps F] [Named F] in
theorem w0_load (f : Vec F S1024x1024 .f32) (hin : ∀ a, (![0, 0] : Fin 2 → ℕ) a + S1024x1024.size a ≤ S1024x1024.size a) :
    (Memref.whole cc0_stg0_0 : Memref sig .tc .vmem S1024x1024 .f32).view.readAt (Elt F) (Rect.unit (s := S1024x1024) ![0, 0] S1024x1024.size hin).toLoadRect f = f := by
  refine funext fun j => congrArg f (funext fun a => ?_)
  match a with
  | ⟨0, _⟩ => exact Fin.ext (by show 0 + 1 * (j 0).val = (j 0).val; omega)
  | ⟨1, _⟩ => exact Fin.ext (by show 0 + 1 * (j 1).val = (j 1).val; omega)

omit [FloatOps F] [Named F] in
theorem w1_load (f : Vec F S1024x1024 .f32) (hin : ∀ a, (![0, 0] : Fin 2 → ℕ) a + S1024x1024.size a ≤ S1024x1024.size a) :
    (Memref.whole cc0_stg1_0 : Memref sig .tc .vmem S1024x1024 .f32).view.readAt (Elt F) (Rect.unit (s := S1024x1024) ![0, 0] S1024x1024.size hin).toLoadRect f = f := w0_load f hin

abbrev cM : Memref sig .tc .vmem S512x1024 .bf16 := Memref.whole cc0_scratch4

omit [FloatOps F] [Named F] in
theorem ctx_load (f : Vec F S512x1024 .bf16) (hin : ∀ a, (![0, 0] : Fin 2 → ℕ) a + S512x1024.size a ≤ S512x1024.size a) :
    cM.view.readAt (Elt F) (Rect.unit (s := S512x1024) ![0, 0] S512x1024.size hin).toLoadRect f = f := by
  refine funext fun j => congrArg f (funext fun a => ?_)
  match a with
  | ⟨0, _⟩ => exact Fin.ext (by show 0 + 1 * (j 0).val = (j 0).val; omega)
  | ⟨1, _⟩ => exact Fin.ext (by show 0 + 1 * (j 1).val = (j 1).val; omega)

/-- Narrowing 512 rows just taken in. -/
theorem pay5_eq (A B : Vec F S1x2048x8x128 .f32) (s o : ℕ) (hs) (h : o + 512 ≤ 2048)
    (ho : ∀ a, (![o, 0] : Fin 2 → ℕ) a + S512x1024.size a ≤ S2176x1024.size a) (y : S512x1024.Idx) :
    k0_pay5 (kvM.view.readAt (Elt F) (kvR s hs).toLoadRect (kvX A o h)) y
      = kbV A B ((Rect.unit (s := S2176x1024) ![o, 0] S512x1024.size ho).emb y) := by
  have hy : (y 0).val < 512 := (y 0).isLt
  unfold k0_pay5 kbV
  rw [shapeCast_self, dif_pos (show ((Rect.unit (s := S2176x1024) ![o, 0] S512x1024.size ho).emb y 0).val < 2048 from by show o + 1 * (y 0).val < 2048; omega)]
  refine congrArg (FloatOps.truncf .bf16 bitsLt_bf16_f32) ?_
  refine ((congrArg (shapeCast S512x1024 (shapeCast S512x8x128 (kvM.view.readAt (Elt F) (kvR s hs).toLoadRect (kvX A o h)) shapeCasts_S1x512x8x128_S512x8x128)
    shapeCasts_S512x8x128_S512x1024) (eq_ix2 y)).trans
    (cast_rows (n := 512) (kvM.view.readAt (Elt F) (kvR s hs).toLoadRect (kvX A o h)) shapeCasts_S1x512x8x128_S512x8x128 shapeCasts_S512x8x128_S512x1024 (y 0) (y 1))).trans ?_
  refine congrArg A (funext fun a => ?_)
  match a with
  | ⟨0, _⟩ => rfl
  | ⟨1, _⟩ => exact Fin.ext (by show o + (0 + 1 * (y 0).val) = o + 1 * (y 0).val; omega)
  | ⟨2, _⟩ => exact Fin.ext (by show 0 + 1 * ((y 1).val / 128) = (0 + 1 * (y 1).val) / 128; rw [Nat.zero_add, Nat.one_mul, Nat.zero_add, Nat.one_mul])
  | ⟨3, _⟩ => exact Fin.ext (by show 0 + 1 * ((y 1).val % 128) = (0 + 1 * (y 1).val) % 128; rw [Nat.zero_add, Nat.one_mul, Nat.zero_add, Nat.one_mul])

theorem kvS_set (s : ℕ) (hs : ∀ a, (![s, 0, 0, 0] : Fin 4 → ℕ) a + S1x512x8x128.size a ≤ S2x512x8x128.size a) :
    (kvS s hs).view.set = kvM.view.setOn (kvR s hs).set := (View.set_reshape _ _).trans (View.set_slice _ _)
theorem xsS_set (s : ℕ) (hs : ∀ a, (![s, 0, 0] : Fin 3 → ℕ) a + S1x512x1024.size a ≤ S2x512x1024.size a) :
    (xsS s hs).view.set = xsM.view.setOn (Rect.unit (s := S2x512x1024) ![s, 0, 0] S1x512x1024.size hs).set := (View.set_reshape _ _).trans (View.set_slice _ _)

/-! ## Storing a rectangle -/

omit [FloatOps F] [Named F] in
theorem put_at {a b o p n w : ℕ} {P P' : (⟨2, ![a, b]⟩ : Shape).Idx → Prop} {f g X : Vec F ⟨2, ![a, b]⟩ .bf16} (hf : ∀ i, P i → f i = X i)
    (h : ∀ d, (![o, p] : Fin 2 → ℕ) d + (⟨2, ![n, w]⟩ : Shape).size d ≤ (⟨2, ![a, b]⟩ : Shape).size d)
    (hg : ∀ y, g ((Rect.unit (s := ⟨2, ![a, b]⟩) ![o, p] (⟨2, ![n, w]⟩ : Shape).size h).emb y) = X ((Rect.unit (s := ⟨2, ![a, b]⟩) ![o, p] (⟨2, ![n, w]⟩ : Shape).size h).emb y))
    (hg' : ∀ i, i ∉ Finset.univ.map (Rect.unit (s := ⟨2, ![a, b]⟩) ![o, p] (⟨2, ![n, w]⟩ : Shape).size h).emb → g i = f i)
    (hP : ∀ i, P' i → P i ∨ ((o ≤ (i 0).val ∧ (i 0).val < o + n) ∧ (p ≤ (i 1).val ∧ (i 1).val < p + w))) (i) (hi : P' i) : g i = X i := by
  by_cases hm : ∃ y, (Rect.unit (s := ⟨2, ![a, b]⟩) ![o, p] (⟨2, ![n, w]⟩ : Shape).size h).emb y = i
  · obtain ⟨y, rfl⟩ := hm
    exact hg y
  · refine (hg' i fun hi' => ?_).trans (hf i ((hP i hi).resolve_right fun hr => ?_))
    · obtain ⟨y, -, hy⟩ := Finset.mem_map.mp hi'
      exact hm ⟨y, hy⟩
    · refine hm ⟨ix2 ⟨(i 0).val - o, by omega⟩ ⟨(i 1).val - p, by omega⟩, funext fun d => ?_⟩
      match d with
      | ⟨0, _⟩ => exact Fin.ext (by show o + 1 * ((i 0).val - o) = (i 0).val; omega)
      | ⟨1, _⟩ => exact Fin.ext (by show p + 1 * ((i 1).val - p) = (i 1).val; omega)

omit [FloatOps F] [Named F] in
theorem kb_put {P P' : S2176x1024.Idx → Prop} {f X : Vec F S2176x1024 .bf16} {o p n w : ℕ} (hf : ∀ i, P i → f i = X i)
    (h : ∀ a, (![o, p] : Fin 2 → ℕ) a + (⟨2, ![n, w]⟩ : Shape).size a ≤ S2176x1024.size a) (u : (⟨2, ![n, w]⟩ : Shape).Idx → F .bf16)
    (hu : ∀ y, u y = X ((Rect.unit (s := S2176x1024) ![o, p] (⟨2, ![n, w]⟩ : Shape).size h).emb y))
    (hP : ∀ i, P' i → P i ∨ ((o ≤ (i 0).val ∧ (i 0).val < o + n) ∧ (p ≤ (i 1).val ∧ (i 1).val < p + w))) :
    ∀ i, P' i → (kbM.access (Rect.unit (s := S2176x1024) ![o, p] (⟨2, ![n, w]⟩ : Shape).size h)).write (Elt F) f u Finset.univ i = X i :=
  put_at hf h (fun y => (View.write_emb_of_mem (v := kbM.access (Rect.unit (s := S2176x1024) ![o, p] (⟨2, ![n, w]⟩ : Shape).size h)) f u (Finset.mem_univ y)).trans (hu y))
    (fun _ hi => View.write_of_not_mem (v := kbM.access (Rect.unit (s := S2176x1024) ![o, p] (⟨2, ![n, w]⟩ : Shape).size h)) (M := Finset.univ) f u hi) hP

omit [FloatOps F] [Named F] in
theorem vb_put {P P' : S2176x1024.Idx → Prop} {f X : Vec F S2176x1024 .bf16} {o p n w : ℕ} (hf : ∀ i, P i → f i = X i)
    (h : ∀ a, (![o, p] : Fin 2 → ℕ) a + (⟨2, ![n, w]⟩ : Shape).size a ≤ S2176x1024.size a) (u : (⟨2, ![n, w]⟩ : Shape).Idx → F .bf16)
    (hu : ∀ y, u y = X ((Rect.unit (s := S2176x1024) ![o, p] (⟨2, ![n, w]⟩ : Shape).size h).emb y))
    (hP : ∀ i, P' i → P i ∨ ((o ≤ (i 0).val ∧ (i 0).val < o + n) ∧ (p ≤ (i 1).val ∧ (i 1).val < p + w))) :
    ∀ i, P' i → (vbM.access (Rect.unit (s := S2176x1024) ![o, p] (⟨2, ![n, w]⟩ : Shape).size h)).write (Elt F) f u Finset.univ i = X i :=
  put_at hf h (fun y => (View.write_emb_of_mem (v := vbM.access (Rect.unit (s := S2176x1024) ![o, p] (⟨2, ![n, w]⟩ : Shape).size h)) f u (Finset.mem_univ y)).trans (hu y))
    (fun _ hi => View.write_of_not_mem (v := vbM.access (Rect.unit (s := S2176x1024) ![o, p] (⟨2, ![n, w]⟩ : Shape).size h)) (M := Finset.univ) f u hi) hP

omit [FloatOps F] [Named F] in
theorem ctx_put {P P' : S512x1024.Idx → Prop} {f X : Vec F S512x1024 .bf16} {o p n w : ℕ} (hf : ∀ i, P i → f i = X i)
    (h : ∀ a, (![o, p] : Fin 2 → ℕ) a + (⟨2, ![n, w]⟩ : Shape).size a ≤ S512x1024.size a) (u : (⟨2, ![n, w]⟩ : Shape).Idx → F .bf16)
    (hu : ∀ y, u y = X ((Rect.unit (s := S512x1024) ![o, p] (⟨2, ![n, w]⟩ : Shape).size h).emb y))
    (hP : ∀ i, P' i → P i ∨ ((o ≤ (i 0).val ∧ (i 0).val < o + n) ∧ (p ≤ (i 1).val ∧ (i 1).val < p + w))) :
    ∀ i, P' i → (cM.access (Rect.unit (s := S512x1024) ![o, p] (⟨2, ![n, w]⟩ : Shape).size h)).write (Elt F) f u Finset.univ i = X i :=
  put_at hf h (fun y => (View.write_emb_of_mem (v := cM.access (Rect.unit (s := S512x1024) ![o, p] (⟨2, ![n, w]⟩ : Shape).size h)) f u (Finset.mem_univ y)).trans (hu y))
    (fun _ hi => View.write_of_not_mem (v := cM.access (Rect.unit (s := S512x1024) ![o, p] (⟨2, ![n, w]⟩ : Shape).size h)) (M := Finset.univ) f u hi) hP

omit [FloatOps F] [Named F] in
theorem ob_put {P P' : S2048x1024.Idx → Prop} {f X : Vec F S2048x1024 .bf16} {o p n w : ℕ} (hf : ∀ i, P i → f i = X i)
    (h : ∀ a, (![o, p] : Fin 2 → ℕ) a + (⟨2, ![n, w]⟩ : Shape).size a ≤ S2048x1024.size a) (u : (⟨2, ![n, w]⟩ : Shape).Idx → F .bf16)
    (hu : ∀ y, u y = X ((Rect.unit (s := S2048x1024) ![o, p] (⟨2, ![n, w]⟩ : Shape).size h).emb y))
    (hP : ∀ i, P' i → P i ∨ ((o ≤ (i 0).val ∧ (i 0).val < o + n) ∧ (p ≤ (i 1).val ∧ (i 1).val < p + w))) :
    ∀ i, P' i → (obM.access (Rect.unit (s := S2048x1024) ![o, p] (⟨2, ![n, w]⟩ : Shape).size h)).write (Elt F) f u Finset.univ i = X i :=
  put_at hf h (fun y => (View.write_emb_of_mem (v := obM.access (Rect.unit (s := S2048x1024) ![o, p] (⟨2, ![n, w]⟩ : Shape).size h)) f u (Finset.mem_univ y)).trans (hu y))
    (fun _ hi => View.write_of_not_mem (v := obM.access (Rect.unit (s := S2048x1024) ![o, p] (⟨2, ![n, w]⟩ : Shape).size h)) (M := Finset.univ) f u hi) hP

/-- The rows of the key or value buffer device 0 fills itself. -/
def loK : Finset (Idx (t0.loc cc0_scratch0)) := Finset.univ \ kbH.view.set
def loV : Finset (Idx (t0.loc cc0_scratch1)) := Finset.univ \ vbH.view.set

theorem mem_loK (i : S2176x1024.Idx) : i ∈ loK ↔ (i 0).val < 2048 := by
  have hlt : (i 0).val < 2176 := (i 0).isLt
  refine ⟨fun h => ?_, fun h => Finset.mem_sdiff.mpr ⟨Finset.mem_univ _, fun hm => ?_⟩⟩
  · by_contra hc
    refine (Finset.mem_sdiff.mp h).2 (Finset.mem_map.mpr ⟨ix2 (⟨(i 0).val - 2048, by omega⟩ : Fin 128) (i 1), Finset.mem_univ _, funext fun a => ?_⟩)
    match a with
    | ⟨0, _⟩ => exact Fin.ext (by show 2048 + 1 * ((i 0).val - 2048) = (i 0).val; omega)
    | ⟨1, _⟩ => exact Fin.ext (by show 0 + 1 * (i 1).val = (i 1).val; omega)
  · obtain ⟨y, -, hy⟩ := Finset.mem_map.mp hm
    have hv : (i 0).val = 2048 + 1 * (y 0).val := by rw [← hy]; rfl
    omega

theorem mem_loV (i : S2176x1024.Idx) : i ∈ loV ↔ (i 0).val < 2048 := by
  have hlt : (i 0).val < 2176 := (i 0).isLt
  refine ⟨fun h => ?_, fun h => Finset.mem_sdiff.mpr ⟨Finset.mem_univ _, fun hm => ?_⟩⟩
  · by_contra hc
    refine (Finset.mem_sdiff.mp h).2 (Finset.mem_map.mpr ⟨ix2 (⟨(i 0).val - 2048, by omega⟩ : Fin 128) (i 1), Finset.mem_univ _, funext fun a => ?_⟩)
    match a with
    | ⟨0, _⟩ => exact Fin.ext (by show 2048 + 1 * ((i 0).val - 2048) = (i 0).val; omega)
    | ⟨1, _⟩ => exact Fin.ext (by show 0 + 1 * (i 1).val = (i 1).val; omega)
  · obtain ⟨y, -, hy⟩ := Finset.mem_map.mp hm
    have hv : (i 0).val = 2048 + 1 * (y 0).val := by rw [← hy]; rfl
    omega

/-- The 512 rows in a slot are narrowed and stored. -/
theorem wp_fill_kb (s : ℕ) (hs : ∀ a, (![s, 0, 0, 0] : Fin 4 → ℕ) a + S1x512x8x128.size a ≤ S2x512x8x128.size a) (o : ℕ) (h : o + 512 ≤ 2048)
    (ho : ∀ a, (![o, 0] : Fin 2 → ℕ) a + S512x1024.size a ≤ S2176x1024.size a) (A B : Vec F S1x2048x8x128 .f32)
    (f : Vec F S2176x1024 .bf16) (hf : ∀ i : S2176x1024.Idx, (i 0).val < o → f i = kbV A B i)
    (pay : Vec F S1x512x8x128 .f32 → FVec F S512x1024 .bf16) (hpay : pay = k0_pay5)
    {hl1 : kvM.view.LoadsAt (kvR s hs).toLoadRect} {hl2 : kbM.view.LoadsAt (Rect.unit (s := S2176x1024) ![o, 0] S512x1024.size ho).toLoadRect} {hx : (kbM.access (Rect.unit (s := S2176x1024) ![o, 0] S512x1024.size ho)).Stores Finset.univ}
    {hm : (Finset.univ : Finset (Rect.unit (s := S2176x1024) ![o, 0] S512x1024.size ho).shape.Idx) = Finset.univ ∨ ∀ a, (Rect.unit (s := S2176x1024) ![o, 0] S512x1024.size ho).stride a = 1}
    {α : Type} {Q : α → sProp 𝕄} {k : PUnit → Prog (TpuEff nD τ sig (Elt F) Λ₀ .tc) α} :
    iprop(((kvS s hs).view.loc t0 ↦[(kvS s hs).view.set]{fullShare} kvX A o h) ∗ (t0.loc cc0_scratch0 ↦[loK]{fullShare} f))
      ⊢ iprop(((((kvS s hs).view.loc t0 ↦[(kvS s hs).view.set]{fullShare} kvX A o h)
                ∗ ∃ f' : Vec F S2176x1024 .bf16, ⌜∀ i : S2176x1024.Idx, (i 0).val < o + 512 → f' i = kbV A B i⌝ ∗ (t0.loc cc0_scratch0 ↦[loK]{fullShare} f'))
              -∗ wpD 0 (k ⟨⟩) Q)
          -∗ wpD 0 (.op (.load kvM (kvR s hs).toLoadRect hl1) fun v => .op (.load kbM (Rect.unit (s := S2176x1024) ![o, 0] S512x1024.size ho).toLoadRect hl2) fun _ =>
                .op (.store kbM (Rect.unit (s := S2176x1024) ![o, 0] S512x1024.size ho) (pay v) Finset.univ hx hm) k) Q) := by
  subst hpay
  have hsub : (kbM.access (Rect.unit (s := S2176x1024) ![o, 0] S512x1024.size ho)).set ⊆ loK := by
    intro i hi
    obtain ⟨y, -, hy⟩ := Finset.mem_map.mp hi
    have hv : (i 0).val = o + 1 * (y 0).val := by rw [← hy]; rfl
    have hlt : (y 0).val < 512 := (y 0).isLt
    exact (mem_loK i).mpr (by omega)
  iintro ⟨Hb, Ho⟩ Hk
  iapply (wp_load 𝒱₀ t0 none Set.univ (m := kvM) (S := (kvS s hs).view.set) (q := fullShare) (f := kvX A o h)
    (le_of_eq (kvS_set s hs).symm)) $$ [Hb]
  · iexact Hb
  iintro Hb
  iapply (wp_load 𝒱₀ t0 none Set.univ (m := kbM) (S := loK) (q := fullShare) (f := f) (Finset.Subset.trans (Finset.subset_of_eq (View.set_slice _ _).symm) hsub)) $$ [Ho]
  · iexact Ho
  iintro Ho
  iapply (wp_store 𝒱₀ t0 none Set.univ (m := kbM) (r := (Rect.unit (s := S2176x1024) ![o, 0] S512x1024.size ho)) (S := loK) (f := f) hsub) $$ [Ho]
  · iexact Ho
  iintro Ho
  iapply Hk
  isplitl [Hb]; · iexact Hb
  iexists _
  isplitr
  rotate_left
  · iexact Ho
  ipureintro
  exact kb_put (n := 512) (w := 1024) hf ho _ (pay5_eq A B s o hs h ho) fun i hi => by
    have h1 : (i 1).val < 1024 := (i 1).isLt
    by_cases hc : (i 0).val < o
    · exact .inl hc
    · exact .inr ⟨⟨by omega, hi⟩, by omega, by omega⟩

/-- The 512 rows in a slot are narrowed and stored. -/
theorem wp_fill_vb (s : ℕ) (hs : ∀ a, (![s, 0, 0, 0] : Fin 4 → ℕ) a + S1x512x8x128.size a ≤ S2x512x8x128.size a) (o : ℕ) (h : o + 512 ≤ 2048)
    (ho : ∀ a, (![o, 0] : Fin 2 → ℕ) a + S512x1024.size a ≤ S2176x1024.size a) (A B : Vec F S1x2048x8x128 .f32)
    (f : Vec F S2176x1024 .bf16) (hf : ∀ i : S2176x1024.Idx, (i 0).val < o → f i = kbV A B i)
    (pay : Vec F S1x512x8x128 .f32 → FVec F S512x1024 .bf16) (hpay : pay = k0_pay5)
    {hl1 : kvM.view.LoadsAt (kvR s hs).toLoadRect} {hl2 : vbM.view.LoadsAt (Rect.unit (s := S2176x1024) ![o, 0] S512x1024.size ho).toLoadRect} {hx : (vbM.access (Rect.unit (s := S2176x1024) ![o, 0] S512x1024.size ho)).Stores Finset.univ}
    {hm : (Finset.univ : Finset (Rect.unit (s := S2176x1024) ![o, 0] S512x1024.size ho).shape.Idx) = Finset.univ ∨ ∀ a, (Rect.unit (s := S2176x1024) ![o, 0] S512x1024.size ho).stride a = 1}
    {α : Type} {Q : α → sProp 𝕄} {k : PUnit → Prog (TpuEff nD τ sig (Elt F) Λ₀ .tc) α} :
    iprop(((kvS s hs).view.loc t0 ↦[(kvS s hs).view.set]{fullShare} kvX A o h) ∗ (t0.loc cc0_scratch1 ↦[loV]{fullShare} f))
      ⊢ iprop(((((kvS s hs).view.loc t0 ↦[(kvS s hs).view.set]{fullShare} kvX A o h)
                ∗ ∃ f' : Vec F S2176x1024 .bf16, ⌜∀ i : S2176x1024.Idx, (i 0).val < o + 512 → f' i = kbV A B i⌝ ∗ (t0.loc cc0_scratch1 ↦[loV]{fullShare} f'))
              -∗ wpD 0 (k ⟨⟩) Q)
          -∗ wpD 0 (.op (.load kvM (kvR s hs).toLoadRect hl1) fun v => .op (.load vbM (Rect.unit (s := S2176x1024) ![o, 0] S512x1024.size ho).toLoadRect hl2) fun _ =>
                .op (.store vbM (Rect.unit (s := S2176x1024) ![o, 0] S512x1024.size ho) (pay v) Finset.univ hx hm) k) Q) := by
  subst hpay
  have hsub : (vbM.access (Rect.unit (s := S2176x1024) ![o, 0] S512x1024.size ho)).set ⊆ loV := by
    intro i hi
    obtain ⟨y, -, hy⟩ := Finset.mem_map.mp hi
    have hv : (i 0).val = o + 1 * (y 0).val := by rw [← hy]; rfl
    have hlt : (y 0).val < 512 := (y 0).isLt
    exact (mem_loV i).mpr (by omega)
  iintro ⟨Hb, Ho⟩ Hk
  iapply (wp_load 𝒱₀ t0 none Set.univ (m := kvM) (S := (kvS s hs).view.set) (q := fullShare) (f := kvX A o h)
    (le_of_eq (kvS_set s hs).symm)) $$ [Hb]
  · iexact Hb
  iintro Hb
  iapply (wp_load 𝒱₀ t0 none Set.univ (m := vbM) (S := loV) (q := fullShare) (f := f) (Finset.Subset.trans (Finset.subset_of_eq (View.set_slice _ _).symm) hsub)) $$ [Ho]
  · iexact Ho
  iintro Ho
  iapply (wp_store 𝒱₀ t0 none Set.univ (m := vbM) (r := (Rect.unit (s := S2176x1024) ![o, 0] S512x1024.size ho)) (S := loV) (f := f) hsub) $$ [Ho]
  · iexact Ho
  iintro Ho
  iapply Hk
  isplitl [Hb]; · iexact Hb
  iexists _
  isplitr
  rotate_left
  · iexact Ho
  ipureintro
  exact vb_put (n := 512) (w := 1024) hf ho _ (pay5_eq A B s o hs h ho) fun i hi => by
    have h1 : (i 1).val < 1024 := (i 1).isLt
    by_cases hc : (i 0).val < o
    · exact .inl hc
    · exact .inr ⟨⟨by omega, hi⟩, by omega, by omega⟩

/-- A slot's rows of `x` are loaded. -/
theorem wp_x (A : Vec F S1x2048x1024 .f32) (s o : ℕ) (hs : ∀ a, (![s, 0, 0] : Fin 3 → ℕ) a + S1x512x1024.size a ≤ S2x512x1024.size a) (h : o + 512 ≤ 2048)
    (c : Fin 4) (hc : o = 512 * c.val) {hl : xsM.view.LoadsAt (Rect.unit (s := S2x512x1024) ![s, 0, 0] S1x512x1024.size hs).toLoadRect}
    {α : Type} {Q : α → sProp 𝕄} {k : Vec F S1x512x1024 .f32 → Prog (TpuEff nD τ sig (Elt F) Λ₀ .tc) α} :
    iprop((xsS s hs).view.loc t0 ↦[(xsS s hs).view.set]{fullShare} xsX A o h)
      ⊢ iprop((((xsS s hs).view.loc t0 ↦[(xsS s hs).view.set]{fullShare} xsX A o h) -∗ wpD 0 (k (xC A c)) Q)
          -∗ wpD 0 (.op (.load xsM (Rect.unit (s := S2x512x1024) ![s, 0, 0] S1x512x1024.size hs).toLoadRect hl) k) Q) := by
  rw [← xs_load A s o hs h c hc]
  exact wp_load 𝒱₀ t0 none Set.univ (m := xsM) (S := (xsS s hs).view.set) (q := fullShare) (f := xsX A o h) (le_of_eq (xsS_set s hs).symm)

/-- A window is loaded whole. -/
theorem wp_w0 (f : Vec F S1024x1024 .f32) (hin : ∀ a, (![0, 0] : Fin 2 → ℕ) a + S1024x1024.size a ≤ S1024x1024.size a)
    {hl : (Memref.whole cc0_stg0_0 : Memref sig .tc .vmem S1024x1024 .f32).view.LoadsAt (Rect.unit (s := S1024x1024) ![0, 0] S1024x1024.size hin).toLoadRect}
    {α : Type} {Q : α → sProp 𝕄} {k : Vec F S1024x1024 .f32 → Prog (TpuEff nD τ sig (Elt F) Λ₀ .tc) α} :
    iprop(t0.loc cc0_stg0_0 ↦{fullShare} f)
      ⊢ iprop(((t0.loc cc0_stg0_0 ↦{fullShare} f) -∗ wpD 0 (k f) Q)
          -∗ wpD 0 (.op (.load (Memref.whole cc0_stg0_0 : Memref sig .tc .vmem S1024x1024 .f32) (Rect.unit (s := S1024x1024) ![0, 0] S1024x1024.size hin).toLoadRect hl) k) Q) := by
  iintro H Hk
  iapply (wp_load 𝒱₀ t0 none Set.univ (m := (Memref.whole cc0_stg0_0 : Memref sig .tc .vmem S1024x1024 .f32)) (S := Finset.univ) (q := fullShare) (f := f) (Finset.subset_univ _)) $$ [H]
  · iexact H
  rw [w0_load f hin]
  iintro H
  iapply Hk
  iexact H
theorem wp_w1 (f : Vec F S1024x1024 .f32) (hin : ∀ a, (![0, 0] : Fin 2 → ℕ) a + S1024x1024.size a ≤ S1024x1024.size a)
    {hl : (Memref.whole cc0_stg1_0 : Memref sig .tc .vmem S1024x1024 .f32).view.LoadsAt (Rect.unit (s := S1024x1024) ![0, 0] S1024x1024.size hin).toLoadRect}
    {α : Type} {Q : α → sProp 𝕄} {k : Vec F S1024x1024 .f32 → Prog (TpuEff nD τ sig (Elt F) Λ₀ .tc) α} :
    iprop(t0.loc cc0_stg1_0 ↦{fullShare} f)
      ⊢ iprop(((t0.loc cc0_stg1_0 ↦{fullShare} f) -∗ wpD 0 (k f) Q)
          -∗ wpD 0 (.op (.load (Memref.whole cc0_stg1_0 : Memref sig .tc .vmem S1024x1024 .f32) (Rect.unit (s := S1024x1024) ![0, 0] S1024x1024.size hin).toLoadRect hl) k) Q) := by
  iintro H Hk
  iapply (wp_load 𝒱₀ t0 none Set.univ (m := (Memref.whole cc0_stg1_0 : Memref sig .tc .vmem S1024x1024 .f32)) (S := Finset.univ) (q := fullShare) (f := f) (Finset.subset_univ _)) $$ [H]
  · iexact H
  rw [w1_load f hin]
  iintro H
  iapply Hk
  iexact H

theorem ctx_val (q : FVec F S512x1024 .bf16) (kb vb : Vec F S2176x1024 .bf16) (c : Fin 4) (h : Fin 8) (p : ℕ) (hp : p = 128 * h.val)
    (hin : ∀ a, (![0, p] : Fin 2 → ℕ) a + S512x128.size a ≤ S512x1024.size a) (y : S512x128.Idx) :
    head q kb vb c h y = ctxC q kb vb c ((Rect.unit (s := S512x1024) ![0, p] S512x128.size hin).emb y) := by
  subst hp
  have hy : (y 1).val < 128 := (y 1).isLt
  have hh := h.isLt
  have e1 : h = ⟨((Rect.unit (s := S512x1024) ![0, 128 * h.val] S512x128.size hin).emb y 1).val / 128,
      Nat.div_lt_of_lt_mul ((Rect.unit (s := S512x1024) ![0, 128 * h.val] S512x128.size hin).emb y 1).isLt⟩ :=
    Fin.ext (by show h.val = (128 * h.val + 1 * (y 1).val) / 128; omega)
  have e2 : y = ix2 ((Rect.unit (s := S512x1024) ![0, 128 * h.val] S512x128.size hin).emb y 0)
      ⟨((Rect.unit (s := S512x1024) ![0, 128 * h.val] S512x128.size hin).emb y 1).val % 128, Nat.mod_lt _ (by decide)⟩ := by
    funext a
    match a with
    | ⟨0, _⟩ => exact Fin.ext (by show (y 0).val = 0 + 1 * (y 0).val; omega)
    | ⟨1, _⟩ => exact Fin.ext (by show (y 1).val = (128 * h.val + 1 * (y 1).val) % 128; omega)
  unfold ctxC
  exact congr (congrArg (head q kb vb c) e1) e2

/-- One head: its lanes of the keys' and values' windows are loaded, the head is formed and stored beside the others. -/
theorem wp_head (c : Fin 4) (h : Fin 8) (q : FVec F S512x1024 .bf16) (kb vb : Vec F S2176x1024 .bf16) (f : Vec F S512x1024 .bf16)
    (S : Finset (Idx (t0.loc cc0_scratch0))) (S' : Finset (Idx (t0.loc cc0_scratch1)))
    (pay : Vec F S768x128 .bf16 → Vec F S768x128 .bf16 → FVec F S512x128 .bf16) (hpay : ∀ k v, pay k v = k0_pay18 (maskC c) (qh q h) k v)
    (hf : ∀ i : S512x1024.Idx, (i 1).val < 128 * h.val → f i = ctxC q kb vb c i) (o p : ℕ) (ho : o = ks c) (hp : p = 128 * h.val)
    (hin : ∀ a, (![o, p] : Fin 2 → ℕ) a + S768x128.size a ≤ S2176x1024.size a) (hin' : ∀ a, (![0, p] : Fin 2 → ℕ) a + S512x128.size a ≤ S512x1024.size a)
    (hS : ∀ i : S2176x1024.Idx, (i 0).val < o + 768 → i ∈ S) (hS' : ∀ i : S2176x1024.Idx, (i 0).val < o + 768 → i ∈ S')
    {hl1 : kbM.view.LoadsAt (Rect.unit (s := S2176x1024) ![o, p] S768x128.size hin).toLoadRect} {hl2 : vbM.view.LoadsAt (Rect.unit (s := S2176x1024) ![o, p] S768x128.size hin).toLoadRect} {hl3 : cM.view.LoadsAt (Rect.unit (s := S512x1024) ![0, p] S512x128.size hin').toLoadRect}
    {hx : (cM.access (Rect.unit (s := S512x1024) ![0, p] S512x128.size hin')).Stores Finset.univ} {hm : (Finset.univ : Finset (Rect.unit (s := S512x1024) ![0, p] S512x128.size hin').shape.Idx) = Finset.univ ∨ ∀ a, (Rect.unit (s := S512x1024) ![0, p] S512x128.size hin').stride a = 1}
    {α : Type} {Q : α → sProp 𝕄} {k : PUnit → Prog (TpuEff nD τ sig (Elt F) Λ₀ .tc) α} :
    iprop((t0.loc cc0_scratch0 ↦[S]{fullShare} kb) ∗ (t0.loc cc0_scratch1 ↦[S']{fullShare} vb) ∗ (t0.loc cc0_scratch4 ↦{fullShare} f))
      ⊢ iprop((((t0.loc cc0_scratch0 ↦[S]{fullShare} kb) ∗ (t0.loc cc0_scratch1 ↦[S']{fullShare} vb)
                ∗ ∃ f' : Vec F S512x1024 .bf16, ⌜∀ i : S512x1024.Idx, (i 1).val < p + 128 → f' i = ctxC q kb vb c i⌝ ∗ (t0.loc cc0_scratch4 ↦{fullShare} f'))
              -∗ wpD 0 (k ⟨⟩) Q)
          -∗ wpD 0 (.op (.load kbM (Rect.unit (s := S2176x1024) ![o, p] S768x128.size hin).toLoadRect hl1) fun v => .op (.load vbM (Rect.unit (s := S2176x1024) ![o, p] S768x128.size hin).toLoadRect hl2) fun u => .op (.load cM (Rect.unit (s := S512x1024) ![0, p] S512x128.size hin').toLoadRect hl3) fun _ =>
                .op (.store cM (Rect.unit (s := S512x1024) ![0, p] S512x128.size hin') (pay v u) Finset.univ hx hm) k) Q) := by
  have hsub : ∀ i : S2176x1024.Idx, i ∈ (kbM.access (Rect.unit (s := S2176x1024) ![o, p] S768x128.size hin)).set → (i 0).val < o + 768 := fun i hi => by
    obtain ⟨y, -, hy⟩ := Finset.mem_map.mp hi
    have hv : (i 0).val = o + 1 * (y 0).val := by rw [← hy]; rfl
    have hlt : (y 0).val < 768 := (y 0).isLt
    omega
  iintro ⟨HK, HV, Hc⟩ Hk
  iapply (wp_load 𝒱₀ t0 none Set.univ (m := kbM) (S := S) (q := fullShare) (f := kb) (Finset.Subset.trans (Finset.subset_of_eq (View.set_slice _ _).symm) fun i hi => hS i (hsub i hi))) $$ [HK]
  · iexact HK
  iintro HK
  iapply (wp_load 𝒱₀ t0 none Set.univ (m := vbM) (S := S') (q := fullShare) (f := vb) (Finset.Subset.trans (Finset.subset_of_eq (View.set_slice _ _).symm) fun i hi => hS' i (hsub i hi))) $$ [HV]
  · iexact HV
  iintro HV
  iapply (wp_load 𝒱₀ t0 none Set.univ (m := cM) (S := Finset.univ) (q := fullShare) (f := f) (Finset.subset_univ _)) $$ [Hc]
  · iexact Hc
  iintro Hc
  iapply (wp_store 𝒱₀ t0 none Set.univ (m := cM) (S := Finset.univ) (f := f) (Finset.subset_univ _)) $$ [Hc]
  · iexact Hc
  iintro Hc
  iapply Hk
  isplitl [HK]; · iexact HK
  isplitl [HV]; · iexact HV
  iexists _
  isplitr
  rotate_left
  · iexact Hc
  ipureintro
  refine ctx_put (n := 512) (w := 128) hf hin' _ (fun y => ?_) fun i hi => ?_
  · rw [hpay, kb_load kb c h o p ho hp hin, show vbM.view.readAt (Elt F) (Rect.unit (s := S2176x1024) ![o, p] S768x128.size hin).toLoadRect vb = kh vb c h from kb_load vb c h o p ho hp hin]
    exact ctx_val q kb vb c h p hp hin' y
  · have h1 : (i 0).val < 512 := (i 0).isLt
    by_cases hc : (i 1).val < 128 * h.val
    · exact .inl hc
    · exact .inr ⟨⟨by omega, by omega⟩, by omega, hi⟩

/-- Two pieces of the buffer that is sent. -/
def obW (o o' : ℕ) (h1 : ∀ a, (![o, 0] : Fin 2 → ℕ) a + S256x1024.size a ≤ S2048x1024.size a) (h2 : ∀ a, (![o', 0] : Fin 2 → ℕ) a + S256x1024.size a ≤ S2048x1024.size a) :
    Finset (Idx (t0.loc cc0_scratch2)) := (obS o h1).view.set ∪ (obS o' h2).view.set
omit [FloatOps F] [Named F] in
theorem obW_split {o o' : ℕ} {h1} {h2} (hd : Disjoint (obS o h1).view.set (obS o' h2).view.set) (f : Vec F S2048x1024 .bf16) :
    (t0.loc cc0_scratch2 ↦[obW o o' h1 h2]{fullShare} f : sProp 𝕄) ⊣⊢ iprop(((obS o h1).view.loc t0 ↦[(obS o h1).view.set]{fullShare} f) ∗ ((obS o' h2).view.loc t0 ↦[(obS o' h2).view.set]{fullShare} f)) :=
  pointsTo_union hd

theorem ocV_at (x : Vec F S1x2048x1024 .f32) (Wq : Vec F S1024x1024 .f32) (kb vb : Vec F S2176x1024 .bf16) (Wo : Vec F S1024x1024 .f32) (c : Fin 4)
    (r : Fin 2048) (e : Fin 1024) (i : Fin 512) (e' : Fin 1024) (hr : r.val = 512 * c.val + i.val) (he : e.val = e'.val) :
    oc x Wq kb vb Wo c (ix2 i e') = ocV x Wq kb vb Wo r e := by
  have hi := i.isLt
  obtain rfl : c = ⟨r.val / 512, Nat.div_lt_of_lt_mul r.isLt⟩ := Fin.ext (by show c.val = r.val / 512; omega)
  obtain rfl : i = ⟨r.val % 512, Nat.mod_lt _ (by decide)⟩ := Fin.ext (by show i.val = r.val % 512; omega)
  obtain rfl : e' = e := Fin.ext he.symm
  rfl

theorem proj_val (c : Fin 4) (x : Vec F S1x2048x1024 .f32) (Wq Wo : Vec F S1024x1024 .f32) (kb vb : Vec F S2176x1024 .bf16) (f : Vec F S512x1024 .bf16)
    (hf : f = ctxC (qC x Wq c) kb vb c) (o : ℕ) (ho : o = 512 * c.val) (hin : ∀ a, (![o, 0] : Fin 2 → ℕ) a + S512x1024.size a ≤ S2048x1024.size a) (y : S512x1024.Idx) :
    k0_pay28 (k0_pay4 Wo) f y = obV x Wq kb vb Wo ((Rect.unit (s := S2048x1024) ![o, 0] S512x1024.size hin).emb y) := by
  subst hf; subst ho
  unfold k0_pay28 obV
  rw [shapeCast_self]
  refine congrArg (FloatOps.truncf .bf16 bitsLt_bf16_f32) ?_
  refine Eq.trans ?_ (ocV_at x Wq kb vb Wo c _ _ (y 0) (y 1) ?_ ?_)
  · exact congrArg (oc x Wq kb vb Wo c) (eq_ix2 y)
  · show 512 * c.val + 1 * (y 0).val = _; omega
  · show 0 + 1 * (y 1).val = _; omega

/-- The heads of a chunk are projected; the rounded rows go into two pieces of the buffer that is sent. -/
theorem wp_proj (c : Fin 4) (x : Vec F S1x2048x1024 .f32) (Wq Wo : Vec F S1024x1024 .f32) (kb vb : Vec F S2176x1024 .bf16) (f : Vec F S512x1024 .bf16) (fo : Vec F S2048x1024 .bf16)
    (hf : ∀ i : S512x1024.Idx, (i 1).val < 1024 → f i = ctxC (qC x Wq c) kb vb c i) (o o' : ℕ) (ho : o = 512 * c.val) (ho' : o' = o + 256)
    (pay : Vec F S512x1024 .bf16 → FVec F S512x1024 .bf16) (hpay : pay = k0_pay28 (k0_pay4 Wo))
    (h1 : ∀ a, (![o, 0] : Fin 2 → ℕ) a + S256x1024.size a ≤ S2048x1024.size a) (h2 : ∀ a, (![o', 0] : Fin 2 → ℕ) a + S256x1024.size a ≤ S2048x1024.size a)
    (hin : ∀ a, (![o, 0] : Fin 2 → ℕ) a + S512x1024.size a ≤ S2048x1024.size a) (hin' : ∀ a, (![0, 0] : Fin 2 → ℕ) a + S512x1024.size a ≤ S512x1024.size a)
    {hl1 : cM.view.LoadsAt (Rect.unit (s := S512x1024) ![0, 0] S512x1024.size hin').toLoadRect} {hl2 : obM.view.LoadsAt (Rect.unit (s := S2048x1024) ![o, 0] S512x1024.size hin).toLoadRect}
    {hx : (obM.access (Rect.unit (s := S2048x1024) ![o, 0] S512x1024.size hin)).Stores Finset.univ} {hm : (Finset.univ : Finset (Rect.unit (s := S2048x1024) ![o, 0] S512x1024.size hin).shape.Idx) = Finset.univ ∨ ∀ a, (Rect.unit (s := S2048x1024) ![o, 0] S512x1024.size hin).stride a = 1}
    {α : Type} {Q : α → sProp 𝕄} {k : Vec F S512x1024 .bf16 → PUnit → Prog (TpuEff nD τ sig (Elt F) Λ₀ .tc) α} :
    iprop((t0.loc cc0_scratch4 ↦{fullShare} f) ∗ ((obS o h1).view.loc t0 ↦[(obS o h1).view.set]{fullShare} fo) ∗ ((obS o' h2).view.loc t0 ↦[(obS o' h2).view.set]{fullShare} fo))
      ⊢ iprop((((t0.loc cc0_scratch4 ↦{fullShare} f) ∗ ((obS o h1).view.loc t0 ↦[(obS o h1).view.set]{fullShare} (obV x Wq kb vb Wo)) ∗ ((obS o' h2).view.loc t0 ↦[(obS o' h2).view.set]{fullShare} (obV x Wq kb vb Wo)))
              -∗ wpD 0 (k (ctxC (qC x Wq c) kb vb c) ⟨⟩) Q)
          -∗ wpD 0 (.op (.load cM (Rect.unit (s := S512x1024) ![0, 0] S512x1024.size hin').toLoadRect hl1) fun v => .op (.load obM (Rect.unit (s := S2048x1024) ![o, 0] S512x1024.size hin).toLoadRect hl2) fun _ =>
                .op (.store obM (Rect.unit (s := S2048x1024) ![o, 0] S512x1024.size hin) (pay v) Finset.univ hx hm) (k v)) Q) := by
  subst hpay
  have hfe : f = ctxC (qC x Wq c) kb vb c := funext fun i => hf i (i 1).isLt
  have hu : ∀ i : S2048x1024.Idx, i ∈ (obW o o' h1 h2) ↔ (o ≤ (i 0).val ∧ (i 0).val < o + 512) := fun i => by
    show i ∈ (obS o h1).view.set ∪ (obS o' h2).view.set ↔ _; rw [Finset.mem_union, mem_obS, mem_obS]; omega
  have hd : Disjoint (obS o h1).view.set (obS o' h2).view.set := Finset.disjoint_left.mpr fun i ha hb => by
    have := (mem_obS h1 i).mp ha; have := (mem_obS h2 i).mp hb; omega
  have hsub : (obM.access (Rect.unit (s := S2048x1024) ![o, 0] S512x1024.size hin)).set ⊆ (obW o o' h1 h2) := by
    intro i hi
    obtain ⟨y, -, hy⟩ := Finset.mem_map.mp hi
    have hv : (i 0).val = o + 1 * (y 0).val := by rw [← hy]; rfl
    have hlt : (y 0).val < 512 := (y 0).isLt
    exact (hu i).mpr (by omega)
  iintro ⟨Hc, Ha, Hb⟩ Hk
  iapply (wp_load 𝒱₀ t0 none Set.univ (m := cM) (S := Finset.univ) (q := fullShare) (f := f) (Finset.subset_univ _)) $$ [Hc]
  · iexact Hc
  iintro Hc
  rw [ctx_load f hin']
  ihave Hab : (t0.loc cc0_scratch2 ↦[(obW o o' h1 h2)]{fullShare} fo) $$ [Ha Hb]
  · iapply (obW_split hd fo).2
    isplitl [Ha]; · iexact Ha
    iexact Hb
  iapply (wp_load 𝒱₀ t0 none Set.univ (m := obM) (S := (obW o o' h1 h2)) (q := fullShare) (f := fo) (Finset.Subset.trans (Finset.subset_of_eq (View.set_slice _ _).symm) hsub)) $$ [Hab]
  · iexact Hab
  iintro Hab
  iapply (wp_store 𝒱₀ t0 none Set.univ (m := obM) (r := (Rect.unit (s := S2048x1024) ![o, 0] S512x1024.size hin)) (S := (obW o o' h1 h2)) (f := fo) hsub) $$ [Hab]
  · iexact Hab
  have hw : ∀ i : S2048x1024.Idx, (o ≤ (i 0).val ∧ (i 0).val < o + 512) →
      (obM.access (Rect.unit (s := S2048x1024) ![o, 0] S512x1024.size hin)).write (Elt F) fo (k0_pay28 (k0_pay4 Wo) f) Finset.univ i = obV x Wq kb vb Wo i :=
    ob_put (n := 512) (w := 1024) (P := fun _ => False) (fun _ h => h.elim) hin _ (fun y => proj_val c x Wq Wo kb vb f hfe o ho hin y) fun i hi => by
      have : (i 1).val < 1024 := (i 1).isLt
      exact .inr ⟨hi, by omega, by omega⟩
  iintro Hab
  ihave Hab := (Entails.of_eq (pointsTo_congr (ℓ := t0.loc cc0_scratch2) (I := obW o o' h1 h2) (q := fullShare) (f := (obM.access (Rect.unit (s := S2048x1024) ![o, 0] S512x1024.size hin)).write (Elt F) fo (k0_pay28 (k0_pay4 Wo) f) Finset.univ) (g := obV x Wq kb vb Wo) (fun i hi => hw i ((hu i).mp hi)))) $$ Hab
  ihave Hab := (obW_split hd (obV x Wq kb vb Wo)).1 $$ Hab
  icases Hab with ⟨Ha, Hb⟩
  rw [hfe]
  iapply Hk
  isplitl [Hc]; · iexact Hc
  isplitl [Ha]; · iexact Ha
  iexact Hb

/-- The rows of a chunk, in f32, go into the result. -/
theorem wp_out0 (c : Fin 4) (x : Vec F S1x2048x1024 .f32) (Wq Wo : Vec F S1024x1024 .f32) (kb vb : Vec F S2176x1024 .bf16) (f : Vec F S1x2048x1024 .f32)
    {l : List ℕ} (hf : UpTo f (out0V x Wq kb vb Wo) l) (o : ℕ) (ho : o = 512 * c.val)
    (h5 : ∀ a, (![0, o, 0] : Fin 3 → ℕ) a + S1x512x1024.size a ≤ S1x2048x1024.size a)
    (pay : FVec F S1x512x1024 .f32) (hpay : pay = k0_pay29 (oc x Wq kb vb Wo c))
    {hl5 : oM.view.LoadsAt (Rect.unit (s := S1x2048x1024) ![0, o, 0] S1x512x1024.size h5).toLoadRect} {hx : (oM.access (Rect.unit (s := S1x2048x1024) ![0, o, 0] S1x512x1024.size h5)).Stores Finset.univ}
    {hm : (Finset.univ : Finset (Rect.unit (s := S1x2048x1024) ![0, o, 0] S1x512x1024.size h5).shape.Idx) = Finset.univ ∨ ∀ a, (Rect.unit (s := S1x2048x1024) ![0, o, 0] S1x512x1024.size h5).stride a = 1}
    {α : Type} {Q : α → sProp 𝕄} {k : PUnit → Prog (TpuEff nD τ sig (Elt F) Λ₀ .tc) α} :
    iprop(t0.loc cc0_stg2_0 ↦{fullShare} f)
      ⊢ iprop(((∃ f' : Vec F S1x2048x1024 .f32, ⌜UpTo f' (out0V x Wq kb vb Wo) (2 * c.val :: (2 * c.val + 1) :: l)⌝ ∗ (t0.loc cc0_stg2_0 ↦{fullShare} f'))
              -∗ wpD 0 (k ⟨⟩) Q)
          -∗ wpD 0 (.op (.load oM (Rect.unit (s := S1x2048x1024) ![0, o, 0] S1x512x1024.size h5).toLoadRect hl5) fun _ => .op (.store oM (Rect.unit (s := S1x2048x1024) ![0, o, 0] S1x512x1024.size h5) pay Finset.univ hx hm) k) Q) := by
  subst hpay
  iintro Ho Hk
  iapply (wp_load 𝒱₀ t0 none Set.univ (m := oM) (S := Finset.univ) (q := fullShare) (f := f) (Finset.subset_univ _)) $$ [Ho]
  · iexact Ho
  iintro Ho
  iapply (wp_store 𝒱₀ t0 none Set.univ (m := oM) (S := Finset.univ) (f := f) (Finset.subset_univ _)) $$ [Ho]
  · iexact Ho
  iintro Ho
  iapply Hk
  iexists _
  isplitr
  rotate_left
  · iexact Ho
  ipureintro
  subst ho
  refine UpTo.store (n := 512) hf (fun r hr => ?_) h5 _ fun y => ?_
  · rcases List.mem_cons.mp hr with h | h
    · right; omega
    rcases List.mem_cons.mp h with h | h
    · right; omega
    · left; exact h
  · rw [eq_ix3 y]
    refine (shapeCast_ab_1ab_apply (a := 512) (b := 1024) (oc x Wq kb vb Wo c) shapeCasts_S512x1024_S1x512x1024 (y 0) (y 1) (y 2)).trans ?_
    refine ocV_at x Wq kb vb Wo c _ _ (y 1) (y 2) ?_ ?_
    · show 512 * c.val + 1 * (y 1).val = _; omega
    · show 0 + 1 * (y 2).val = _; omega

end

end Cert.KIProof

end
-- ==== Proof.KI.Body0.lean ====
/-
# Device 0

It takes its keys and values in, 512 rows at a time, forms the four chunks of the result one after the other, and sends
the rounded rows of each to devices 1 and 3 while it goes on; before the last chunk it waits for device 1's rows.
-/
module

public import proofs.«01_k».proof.Proof.KI.Chunk

@[expose] public section

noncomputable section

namespace Cert.KIProof

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem dev1_0 : (⟨k0_dev1 0, k0_dev1_lt 0⟩ : Dev nD) = 1 := by decide
theorem dev2_0 : (⟨k0_dev2 0, k0_dev2_lt 0⟩ : Dev nD) = 2 := by decide
theorem dev3_0 : (⟨k0_dev3 0, k0_dev3_lt 0⟩ : Dev nD) = 3 := by decide
theorem dev4_0 (h : k0_cond1 (0 : Dev nD) = 1#1) : (⟨k0_dev4, k0_dev4_lt 0 h⟩ : Dev nD) = 1 := Fin.ext (show k0_dev4 = 1 from by decide)
theorem dev5_0 (h : k0_cond1 (0 : Dev nD) = 1#1) : (⟨k0_dev5, k0_dev5_lt 0 h⟩ : Dev nD) = 3 := Fin.ext (show k0_dev5 = 3 from by decide)
theorem dev6_0 (h : k0_cond1 (0 : Dev nD) = 1#1) : (⟨k0_dev6, k0_dev6_lt 0 h⟩ : Dev nD) = 1 := Fin.ext (show k0_dev6 = 1 from by decide)
theorem dev7_0 (h : k0_cond1 (0 : Dev nD) = 1#1) : (⟨k0_dev7, k0_dev7_lt 0 h⟩ : Dev nD) = 3 := Fin.ext (show k0_dev7 = 3 from by decide)
theorem dev8_0 (h : k0_cond1 (0 : Dev nD) = 1#1) : (⟨k0_dev8, k0_dev8_lt 0 h⟩ : Dev nD) = 1 := Fin.ext (show k0_dev8 = 1 from by decide)
theorem dev9_0 (h : k0_cond1 (0 : Dev nD) = 1#1) : (⟨k0_dev9, k0_dev9_lt 0 h⟩ : Dev nD) = 3 := Fin.ext (show k0_dev9 = 3 from by decide)
theorem dev10_0 (h : k0_cond1 (0 : Dev nD) = 1#1) : (⟨k0_dev10, k0_dev10_lt 0 h⟩ : Dev nD) = 1 := Fin.ext (show k0_dev10 = 1 from by decide)
theorem dev11_0 (h : k0_cond1 (0 : Dev nD) = 1#1) : (⟨k0_dev11, k0_dev11_lt 0 h⟩ : Dev nD) = 3 := Fin.ext (show k0_dev11 = 3 from by decide)
theorem dev12_0 (h : k0_cond1 (0 : Dev nD) = 1#1) : (⟨k0_dev12, k0_dev12_lt 0 h⟩ : Dev nD) = 1 := Fin.ext (show k0_dev12 = 1 from by decide)
theorem dev13_0 (h : k0_cond1 (0 : Dev nD) = 1#1) : (⟨k0_dev13, k0_dev13_lt 0 h⟩ : Dev nD) = 3 := Fin.ext (show k0_dev13 = 3 from by decide)
theorem dev14_0 (h : k0_cond1 (0 : Dev nD) = 1#1) : (⟨k0_dev14, k0_dev14_lt 0 h⟩ : Dev nD) = 1 := Fin.ext (show k0_dev14 = 1 from by decide)
theorem dev15_0 (h : k0_cond1 (0 : Dev nD) = 1#1) : (⟨k0_dev15, k0_dev15_lt 0 h⟩ : Dev nD) = 3 := Fin.ext (show k0_dev15 = 3 from by decide)
theorem dev16_0 (h : k0_cond1 (0 : Dev nD) = 1#1) : (⟨k0_dev16, k0_dev16_lt 0 h⟩ : Dev nD) = 1 := Fin.ext (show k0_dev16 = 1 from by decide)
theorem dev17_0 (h : k0_cond1 (0 : Dev nD) = 1#1) : (⟨k0_dev17, k0_dev17_lt 0 h⟩ : Dev nD) = 3 := Fin.ext (show k0_dev17 = 3 from by decide)
theorem dev18_0 (h : k0_cond1 (0 : Dev nD) = 1#1) : (⟨k0_dev18, k0_dev18_lt 0 h⟩ : Dev nD) = 1 := Fin.ext (show k0_dev18 = 1 from by decide)
theorem dev19_0 (h : k0_cond1 (0 : Dev nD) = 1#1) : (⟨k0_dev19, k0_dev19_lt 0 h⟩ : Dev nD) = 3 := Fin.ext (show k0_dev19 = 3 from by decide)

theorem mem_kvS (s : ℕ) (h) (i : S2x512x8x128.Idx) : i ∈ (kvS s h).view.set ↔ (i 0).val = s := by
  rw [show (kvS s h).view.set = (kvM.view.slice (kvR s h)).set from View.set_reshape _ _]
  constructor
  · intro hm
    obtain ⟨y, -, hy⟩ := Finset.mem_map.mp hm
    have hv : (i 0).val = s + 1 * (y 0).val := by rw [← hy]; rfl
    have hlt : (y 0).val < 1 := (y 0).isLt
    omega
  · intro hi
    refine Finset.mem_map.mpr ⟨ix4 (0 : Fin 1) (i 1) (i 2) (i 3), Finset.mem_univ _, funext fun a => ?_⟩
    match a with
    | ⟨0, _⟩ => exact Fin.ext (by show s + 1 * 0 = (i 0).val; omega)
    | ⟨1, _⟩ => exact Fin.ext (by show 0 + 1 * (i 1).val = (i 1).val; omega)
    | ⟨2, _⟩ => exact Fin.ext (by show 0 + 1 * (i 2).val = (i 2).val; omega)
    | ⟨3, _⟩ => exact Fin.ext (by show 0 + 1 * (i 3).val = (i 3).val; omega)
theorem mem_xsS (s : ℕ) (h) (i : S2x512x1024.Idx) : i ∈ (xsS s h).view.set ↔ (i 0).val = s := by
  rw [show (xsS s h).view.set = (xsM.view.slice (Rect.unit (s := S2x512x1024) ![s, 0, 0] S1x512x1024.size h)).set from View.set_reshape _ _]
  constructor
  · intro hm
    obtain ⟨y, -, hy⟩ := Finset.mem_map.mp hm
    have hv : (i 0).val = s + 1 * (y 0).val := by rw [← hy]; rfl
    have hlt : (y 0).val < 1 := (y 0).isLt
    omega
  · intro hi
    refine Finset.mem_map.mpr ⟨ix3 (0 : Fin 1) (i 1) (i 2), Finset.mem_univ _, funext fun a => ?_⟩
    match a with
    | ⟨0, _⟩ => exact Fin.ext (by show s + 1 * 0 = (i 0).val; omega)
    | ⟨1, _⟩ => exact Fin.ext (by show 0 + 1 * (i 1).val = (i 1).val; omega)
    | ⟨2, _⟩ => exact Fin.ext (by show 0 + 1 * (i 2).val = (i 2).val; omega)
theorem kv_compl : (Finset.univ : Finset S2x512x8x128.Idx) \ kv0.view.set = kv1.view.set := by
  ext i
  have hi : (i 0).val < 2 := (i 0).isLt
  rw [Finset.mem_sdiff, mem_kvS, mem_kvS]
  exact ⟨fun h => by have := h.2; omega, fun h => ⟨Finset.mem_univ _, by omega⟩⟩
theorem xs_compl : (Finset.univ : Finset S2x512x1024.Idx) \ xs0.view.set = xs1.view.set := by
  ext i
  have hi : (i 0).val < 2 := (i 0).isLt
  rw [Finset.mem_sdiff, mem_xsS, mem_xsS]
  exact ⟨fun h => by have := h.2; omega, fun h => ⟨Finset.mem_univ _, by omega⟩⟩
omit [FloatOps F] [Named F] in
/-- A pair of slots is taken apart, and put together again whatever they hold. -/
theorem kv_open (f : Vec F S2x512x8x128 .f32) : (((0 : Dev nD) : Thread nD τ).loc cc0_scratch7 ↦{fullShare} f : sProp 𝕄) ⊢ iprop((kv0.view.loc ((0 : Dev nD) : Thread nD τ) ↦[kv0.view.set]{fullShare} f) ∗ (kv1.view.loc ((0 : Dev nD) : Thread nD τ) ↦[kv1.view.set]{fullShare} f)) := by
  refine (pointsTo_split_subset (Finset.subset_univ kv0.view.set)).1.trans (BIClass.sep_mono (oe rfl) (Entails.of_eq ?_))
  exact congrArg (fun I => (((0 : Dev nD) : Thread nD τ).loc cc0_scratch7 ↦[I]{fullShare} f : sProp 𝕄)) kv_compl
omit [FloatOps F] [Named F] in
theorem kv_close : iprop((∃ f : Vec F S2x512x8x128 .f32, (kv0.view.loc ((0 : Dev nD) : Thread nD τ) ↦[kv0.view.set]{fullShare} f)) ∗ ∃ f : Vec F S2x512x8x128 .f32, (kv1.view.loc ((0 : Dev nD) : Thread nD τ) ↦[kv1.view.set]{fullShare} f)) ⊢ (iprop(∃ f, ((0 : Dev nD) : Thread nD τ).loc cc0_scratch7 ↦{fullShare} f) : sProp 𝕄) := by
  refine BIBase.Entails.trans ?_ (join_any (((0 : Dev nD) : Thread nD τ).loc cc0_scratch7) kv0.view.set)
  refine BIClass.sep_mono (oe rfl) (Entails.of_eq ?_)
  exact congrArg (fun I => (iprop(∃ f, ((0 : Dev nD) : Thread nD τ).loc cc0_scratch7 ↦[I]{fullShare} f) : sProp 𝕄)) kv_compl.symm
omit [FloatOps F] [Named F] in
/-- A pair of slots is taken apart, and put together again whatever they hold. -/
theorem xs_open (f : Vec F S2x512x1024 .f32) : (((0 : Dev nD) : Thread nD τ).loc cc0_scratch3 ↦{fullShare} f : sProp 𝕄) ⊢ iprop((xs0.view.loc ((0 : Dev nD) : Thread nD τ) ↦[xs0.view.set]{fullShare} f) ∗ (xs1.view.loc ((0 : Dev nD) : Thread nD τ) ↦[xs1.view.set]{fullShare} f)) := by
  refine (pointsTo_split_subset (Finset.subset_univ xs0.view.set)).1.trans (BIClass.sep_mono (oe rfl) (Entails.of_eq ?_))
  exact congrArg (fun I => (((0 : Dev nD) : Thread nD τ).loc cc0_scratch3 ↦[I]{fullShare} f : sProp 𝕄)) xs_compl
omit [FloatOps F] [Named F] in
theorem xs_close : iprop((∃ f : Vec F S2x512x1024 .f32, (xs0.view.loc ((0 : Dev nD) : Thread nD τ) ↦[xs0.view.set]{fullShare} f)) ∗ ∃ f : Vec F S2x512x1024 .f32, (xs1.view.loc ((0 : Dev nD) : Thread nD τ) ↦[xs1.view.set]{fullShare} f)) ⊢ (iprop(∃ f, ((0 : Dev nD) : Thread nD τ).loc cc0_scratch3 ↦{fullShare} f) : sProp 𝕄) := by
  refine BIBase.Entails.trans ?_ (join_any (((0 : Dev nD) : Thread nD τ).loc cc0_scratch3) xs0.view.set)
  refine BIClass.sep_mono (oe rfl) (Entails.of_eq ?_)
  exact congrArg (fun I => (iprop(∃ f, ((0 : Dev nD) : Thread nD τ).loc cc0_scratch3 ↦[I]{fullShare} f) : sProp 𝕄)) xs_compl.symm
omit [FloatOps F] [Named F] in
theorem kb_split (f : Vec F S2176x1024 .bf16) : (((0 : Dev nD) : Thread nD τ).loc cc0_scratch0 ↦{fullShare} f : sProp 𝕄) ⊣⊢ iprop(kbHP f ∗ (((0 : Dev nD) : Thread nD τ).loc cc0_scratch0 ↦[loK]{fullShare} f)) :=
  pointsTo_split_subset (Finset.subset_univ kbH.view.set)
theorem kb_full (f : Vec F S2176x1024 .bf16) (h : ∀ i : S2176x1024.Idx, (i 0).val < 2048 → f i = kbA m i) :
    (((0 : Dev nD) : Thread nD τ).loc cc0_scratch0 ↦[loK]{fullShare} f : sProp 𝕄) ⊢ (((0 : Dev nD) : Thread nD τ).loc cc0_scratch0 ↦[loK]{fullShare} kbA m) :=
  Entails.of_eq (pointsTo_congr fun i hi => h i ((mem_loK i).mp hi))
theorem inK {n : ℕ} (hn : n ≤ 2048) (i : S2176x1024.Idx) (h : (i 0).val < n) : i ∈ loK := (mem_loK i).mpr (lt_of_lt_of_le h hn)
omit [FloatOps F] [Named F] in
theorem vb_split (f : Vec F S2176x1024 .bf16) : (((0 : Dev nD) : Thread nD τ).loc cc0_scratch1 ↦{fullShare} f : sProp 𝕄) ⊣⊢ iprop(vbHP f ∗ (((0 : Dev nD) : Thread nD τ).loc cc0_scratch1 ↦[loV]{fullShare} f)) :=
  pointsTo_split_subset (Finset.subset_univ vbH.view.set)
theorem vb_full (f : Vec F S2176x1024 .bf16) (h : ∀ i : S2176x1024.Idx, (i 0).val < 2048 → f i = vbA m i) :
    (((0 : Dev nD) : Thread nD τ).loc cc0_scratch1 ↦[loV]{fullShare} f : sProp 𝕄) ⊢ (((0 : Dev nD) : Thread nD τ).loc cc0_scratch1 ↦[loV]{fullShare} vbA m) :=
  Entails.of_eq (pointsTo_congr fun i hi => h i ((mem_loV i).mp hi))
theorem inV {n : ℕ} (hn : n ≤ 2048) (i : S2176x1024.Idx) (h : (i 0).val < n) : i ∈ loV := (mem_loV i).mpr (lt_of_lt_of_le h hn)

set_option maxHeartbeats 3200000 in
/-- Device 0's body. -/
theorem body0 (K : Dev nD × Fin 37 → ℕ) (o : Vec F S1x2048x1024 .f32) (W : Waits sig Unit) (Kt : PUnit → sProp 𝕄) :
    iprop(bodyFrom m K 0 (wqA m) (woA m) o W ∗ (bodyTo m 0 (wqA m) (woA m) (out0V (xA m) (wqA m) (kbA m) (vbA m) (woA m)) -∗ Kt ⟨⟩))
      ⊢ wpD 0 theBody Kt := by
  unfold theBody; simp only [cc0_body_eq_skeleton]; unfold cc0_body_skel
  simp only [k0_part56_eq_skeleton, k0_part56_skel, semSignalWord, semWaitWord, Prog.lift, Prog.bind_op, Prog.bind_ret, Prog.pure_eq_ret, wp_deviceId]
  rw [dif_pos (show k0_cond1 (0 : Dev nD) = 1#1 by decide), dif_neg (by decide), dif_neg (by decide), dif_neg (by decide)]
  rw [dev1_0, dev2_0, dev3_0]
  unfold bodyFrom ghost scr arrs
  rw [at_start0]
  iintro ⟨⟨⟨#HR, Hat, Htok⟩, Hcr, #Hlev, Hls, Harr, ⟨⟨%fk, Hkb⟩, ⟨%fv, Hvb⟩, ⟨%fo, Hob⟩, Hs3, Hs4, ⟨%f5, Hhk⟩, ⟨%f6, Hhv⟩, Hs7⟩, HO, Hwq, Hwo, Hout⟩, Hk⟩
  ihave Hcr := (cred_start0 (F := F)) $$ Hcr
  ihave Htok := (tok_start0 (F := F)) $$ Htok
  icases Hat with ⟨⟨AB, A3, A4, A7, A8, A9, A10, A11, A12, A13, A14, A15, A16, A17, A18, A19, A20, A21, A22⟩, Hun⟩
  icases Hcr with ⟨CB, C3, C4⟩
  icases Htok with ⟨T1b, T2b, T3b, T1_23, T3_23, T1_24, T3_24, T1_25, T3_25, T1_26, T3_26, T1_27, T3_27, T1_28, T3_28, T1_29, T3_29, T1_30, T3_30, T0_7, T0_8, T0_9, T0_10, T0_11, T0_12, T0_13, T0_14, T0_15, T0_16, T0_17, T0_18, T0_19, T0_20, T0_21, T0_22⟩
  rw [show owesL (dues 0) = owesL [(1, none), (2, none), (3, none), (1, some 23), (3, some 23), (1, some 24), (3, some 24), (1, some 25), (3, some 25), (1, some 26), (3, some 26), (1, some 27), (3, some 27), (1, some 28), (3, some 28), (1, some 29), (3, some 29), (1, some 30), (3, some 30)] from rfl]
  ihave Hob := (oe (ob_pieces 0 fullShare fo)) $$ Hob
  icases Hob with ⟨B0, B1, B2, B3, B4, B5, B6, B7⟩
  unfold lsems
  icases Hls with ⟨S39, S40, S41, S42⟩
  icases Harr with ⟨HX, HK, HV⟩
  icases Hs7 with ⟨%f7, H7⟩
  ihave H7 := (kv_open f7) $$ H7
  icases H7 with ⟨V0, V1⟩
  icases Hs3 with ⟨%f3, H3⟩
  ihave H3 := (xs_open f3) $$ H3
  icases H3 with ⟨X0, X1⟩
  icases Hs4 with ⟨%f4, Hc⟩
  ihave Hkb := (kb_split fk).1 $$ Hkb
  icases Hkb with ⟨EK, Hkb⟩
  ihave Hvb := (vb_split fv).1 $$ Hvb
  icases Hvb with ⟨EV, Hvb⟩
  ihave B0 := (oe (show (obP 0 0 fullShare fo : sProp 𝕄) = obQ oB0 0 fullShare fo from rfl)) $$ B0
  ihave B1 := (oe (show (obP 0 1 fullShare fo : sProp 𝕄) = obQ oB1 0 fullShare fo from rfl)) $$ B1
  ihave B2 := (oe (show (obP 0 2 fullShare fo : sProp 𝕄) = obQ oB2 0 fullShare fo from rfl)) $$ B2
  ihave B3 := (oe (show (obP 0 3 fullShare fo : sProp 𝕄) = obQ oB3 0 fullShare fo from rfl)) $$ B3
  ihave B4 := (oe (show (obP 0 4 fullShare fo : sProp 𝕄) = obQ oB4 0 fullShare fo from rfl)) $$ B4
  ihave B5 := (oe (show (obP 0 5 fullShare fo : sProp 𝕄) = obQ oB5 0 fullShare fo from rfl)) $$ B5
  ihave B6 := (oe (show (obP 0 6 fullShare fo : sProp 𝕄) = obQ oB6 0 fullShare fo from rfl)) $$ B6
  ihave B7 := (oe (show (obP 0 7 fullShare fo : sProp 𝕄) = obQ oB7 0 fullShare fo from rfl)) $$ B7
  iapply (wp_sig m K 0 _ 1 rfl (by decide) ((2, none) :: (3, none) :: du16)) $$ [HO T1b EK EV]
  · isplitr; · iexact HR
    isplitl [HO]; · iexact HO
    isplitl [T1b]; · iexact T1b
    rw [show (barPay (F := F) 1 0 : sProp 𝕄) = iprop((∃ f, kbHP f) ∗ ∃ f, vbHP f) from rfl]
    isplitl [EK]; · iexists fk; iexact EK
    iexists fv; iexact EV
  iintro HO
  iapply (wp_sig m K 0 _ 2 rfl (by decide) ((3, none) :: du16)) $$ [HO T2b]
  · isplitr; · iexact HR
    isplitl [HO]; · iexact HO
    isplitl [T2b]; · iexact T2b
    rw [show (barPay (F := F) 2 0 : sProp 𝕄) = iprop(emp) from rfl]; iempintro
  iintro HO
  iapply (wp_sig m K 0 _ 3 rfl (by decide) du16) $$ [HO T3b]
  · isplitr; · iexact HR
    isplitl [HO]; · iexact HO
    isplitl [T3b]; · iexact T3b
    rw [show (barPay (F := F) 3 0 : sProp 𝕄) = iprop(emp) from rfl]; iempintro
  iintro HO
  iapply (wp_bar m K 0 1 2 3 (by decide) (by decide) (by decide) du16 (by decide)) $$ [CB HO AB]
  · isplitr; · iexact HR
    isplitr; · iexact Hlev
    isplitl [CB]; · iexact CB
    isplitl [HO]; · iexact HO
    iexact AB
  iintro ⟨HO, AB, HP1, -, HP3⟩
  ihave HP1 := (oe (show (barPay (F := F) 0 1 : sProp 𝕄) = iprop((∃ f, obQ oB0 1 fullShare f) ∗ (∃ f, obQ oB1 1 fullShare f) ∗ (∃ f, obQ oB2 1 fullShare f) ∗ (∃ f, obQ oB3 1 fullShare f) ∗ (∃ f, obQ oB4 1 fullShare f) ∗ (∃ f, obQ oB5 1 fullShare f) ∗ (∃ f, obQ oB6 1 fullShare f) ∗ (∃ f, obQ oB7 1 fullShare f)) from rfl)) $$ HP1
  icases HP1 with ⟨⟨%e10, E10⟩, ⟨%e11, E11⟩, ⟨%e12, E12⟩, ⟨%e13, E13⟩, ⟨%e14, E14⟩, ⟨%e15, E15⟩, ⟨%e16, E16⟩, ⟨%e17, E17⟩⟩
  ihave HP3 := (oe (show (barPay (F := F) 0 3 : sProp 𝕄) = iprop((∃ f, obQ oB0 3 fullShare f) ∗ (∃ f, obQ oB1 3 fullShare f) ∗ (∃ f, obQ oB2 3 fullShare f) ∗ (∃ f, obQ oB3 3 fullShare f) ∗ (∃ f, obQ oB4 3 fullShare f) ∗ (∃ f, obQ oB5 3 fullShare f) ∗ (∃ f, obQ oB6 3 fullShare f) ∗ (∃ f, obQ oB7 3 fullShare f)) from rfl)) $$ HP3
  icases HP3 with ⟨⟨%e30, E30⟩, ⟨%e31, E31⟩, ⟨%e32, E32⟩, ⟨%e33, E33⟩, ⟨%e34, E34⟩, ⟨%e35, E35⟩, ⟨%e36, E36⟩, ⟨%e37, E37⟩⟩
  simp only [k0_part38_eq_skeleton, k0_part38_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, Prog.lift, Prog.bind_op, Prog.bind_ret, Prog.pure_eq_ret]
  iapply (wp_w0 (wqA m) inb_S1024x1024_S1024x1024_0_0) $$ [Hwq]
  · iexact Hwq
  iintro Hwq
  iapply (wp_w1 (woA m) inb_S1024x1024_S1024x1024_0_0) $$ [Hwo]
  · iexact Hwo
  iintro Hwo
  iapply (wp_fetch 0 39 sem_cp0 kc0 kv0 kv0.view.dmaCredit rfl (View.dmaCredit_pos _ (by decide)) (kA m 0) (f7) (kvX (kA m 0) 0 (by decide)) (kS_read (kA m 0) 0 0 _ _ (by decide))) $$ [HK V0 S39]
  · isplitl [HK]; · iexact HK
    isplitl [V0]; · iexact V0
    iexact S39
  iintro F39
  iapply (wp_fetch 0 40 sem_cp1 vc0 kv1 kv1.view.dmaCredit rfl (View.dmaCredit_pos _ (by decide)) (vA m 0) (f7) (kvX (vA m 0) 0 (by decide)) (vS_read (vA m 0) 1 0 _ _ (by decide))) $$ [HV V1 S40]
  · isplitl [HV]; · iexact HV
    isplitl [V1]; · iexact V1
    iexact S40
  iintro F40
  iapply (wp_fetch 0 41 sem_xc0 xc0 xs0 xs0.view.dmaCredit rfl (View.dmaCredit_pos _ (by decide)) (xA m) (f3) (xsX (xA m) 0 (by decide)) (xS_read (xA m) 0 0 _ _ (by decide))) $$ [HX X0 S41]
  · isplitl [HX]; · iexact HX
    isplitl [X0]; · iexact X0
    iexact S41
  iintro F41
  iapply (wp_fetched 0 39 sem_cp0 du16 kc0 kv0 (by decide) kv0.view.dmaCredit rfl (kA m 0) (kvX (kA m 0) 0 (by decide))) $$ [F39 HO]
  · isplitr; · iexact Hlev
    isplitl [F39]; · iexact F39
    iexact HO
  iintro ⟨HO, S39, V0, HK⟩
  iapply (wp_fill_kb 0 inb_S2x512x8x128_S1x512x8x128_0_0_0_0 0 (by decide) inb_S2176x1024_S512x1024_0_0 (kA m 0) (kA m 1) fk (fun _ h => absurd h (Nat.not_lt_zero _)) (k0_pay5) rfl) $$ [V0 Hkb]
  · isplitl [V0]; · iexact V0
    iexact Hkb
  iintro ⟨V0, %kb0, %hkb0, Hkb⟩
  iapply (wp_fetch 0 39 sem_cp0 kc1 kv0 kv0.view.dmaCredit rfl (View.dmaCredit_pos _ (by decide)) (kA m 0) (kvX (kA m 0) 0 (by decide)) (kvX (kA m 0) 512 (by decide)) (kS_read (kA m 0) 0 512 _ _ (by decide))) $$ [HK V0 S39]
  · isplitl [HK]; · iexact HK
    isplitl [V0]; · iexact V0
    iexact S39
  iintro F39
  iapply (wp_fetched 0 40 sem_cp1 du16 vc0 kv1 (by decide) kv1.view.dmaCredit rfl (vA m 0) (kvX (vA m 0) 0 (by decide))) $$ [F40 HO]
  · isplitr; · iexact Hlev
    isplitl [F40]; · iexact F40
    iexact HO
  iintro ⟨HO, S40, V1, HV⟩
  iapply (wp_fill_vb 1 inb_S2x512x8x128_S1x512x8x128_1_0_0_0 0 (by decide) inb_S2176x1024_S512x1024_0_0 (vA m 0) (vA m 1) fv (fun _ h => absurd h (Nat.not_lt_zero _)) (k0_pay6) rfl) $$ [V1 Hvb]
  · isplitl [V1]; · iexact V1
    iexact Hvb
  iintro ⟨V1, %vb0, %hvb0, Hvb⟩
  iapply (wp_fetch 0 40 sem_cp1 vc1 kv1 kv1.view.dmaCredit rfl (View.dmaCredit_pos _ (by decide)) (vA m 0) (kvX (vA m 0) 0 (by decide)) (kvX (vA m 0) 512 (by decide)) (vS_read (vA m 0) 1 512 _ _ (by decide))) $$ [HV V1 S40]
  · isplitl [HV]; · iexact HV
    isplitl [V1]; · iexact V1
    iexact S40
  iintro F40
  iapply (wp_fetched 0 39 sem_cp0 du16 kc1 kv0 (by decide) kv0.view.dmaCredit rfl (kA m 0) (kvX (kA m 0) 512 (by decide))) $$ [F39 HO]
  · isplitr; · iexact Hlev
    isplitl [F39]; · iexact F39
    iexact HO
  iintro ⟨HO, S39, V0, HK⟩
  iapply (wp_fill_kb 0 inb_S2x512x8x128_S1x512x8x128_0_0_0_0 512 (by decide) inb_S2176x1024_S512x1024_512_0 (kA m 0) (kA m 1) kb0 hkb0 (k0_pay7) rfl) $$ [V0 Hkb]
  · isplitl [V0]; · iexact V0
    iexact Hkb
  iintro ⟨V0, %kb1, %hkb1, Hkb⟩
  iapply (wp_fetch 0 39 sem_cp0 kc2 kv0 kv0.view.dmaCredit rfl (View.dmaCredit_pos _ (by decide)) (kA m 0) (kvX (kA m 0) 512 (by decide)) (kvX (kA m 0) 1024 (by decide)) (kS_read (kA m 0) 0 1024 _ _ (by decide))) $$ [HK V0 S39]
  · isplitl [HK]; · iexact HK
    isplitl [V0]; · iexact V0
    iexact S39
  iintro F39
  iapply (wp_fetched 0 40 sem_cp1 du16 vc1 kv1 (by decide) kv1.view.dmaCredit rfl (vA m 0) (kvX (vA m 0) 512 (by decide))) $$ [F40 HO]
  · isplitr; · iexact Hlev
    isplitl [F40]; · iexact F40
    iexact HO
  iintro ⟨HO, S40, V1, HV⟩
  iapply (wp_fill_vb 1 inb_S2x512x8x128_S1x512x8x128_1_0_0_0 512 (by decide) inb_S2176x1024_S512x1024_512_0 (vA m 0) (vA m 1) vb0 hvb0 (k0_pay8) rfl) $$ [V1 Hvb]
  · isplitl [V1]; · iexact V1
    iexact Hvb
  iintro ⟨V1, %vb1, %hvb1, Hvb⟩
  iapply (wp_fetch 0 40 sem_cp1 vc2 kv1 kv1.view.dmaCredit rfl (View.dmaCredit_pos _ (by decide)) (vA m 0) (kvX (vA m 0) 512 (by decide)) (kvX (vA m 0) 1024 (by decide)) (vS_read (vA m 0) 1 1024 _ _ (by decide))) $$ [HV V1 S40]
  · isplitl [HV]; · iexact HV
    isplitl [V1]; · iexact V1
    iexact S40
  iintro F40
  iapply (wp_fetched 0 39 sem_cp0 du16 kc2 kv0 (by decide) kv0.view.dmaCredit rfl (kA m 0) (kvX (kA m 0) 1024 (by decide))) $$ [F39 HO]
  · isplitr; · iexact Hlev
    isplitl [F39]; · iexact F39
    iexact HO
  iintro ⟨HO, S39, V0, HK⟩
  iapply (wp_fill_kb 0 inb_S2x512x8x128_S1x512x8x128_0_0_0_0 1024 (by decide) inb_S2176x1024_S512x1024_1024_0 (kA m 0) (kA m 1) kb1 hkb1 (k0_pay9) rfl) $$ [V0 Hkb]
  · isplitl [V0]; · iexact V0
    iexact Hkb
  iintro ⟨V0, %kb2, %hkb2, Hkb⟩
  iapply (wp_fetch 0 39 sem_cp0 kc3 kv0 kv0.view.dmaCredit rfl (View.dmaCredit_pos _ (by decide)) (kA m 0) (kvX (kA m 0) 1024 (by decide)) (kvX (kA m 0) 1536 (by decide)) (kS_read (kA m 0) 0 1536 _ _ (by decide))) $$ [HK V0 S39]
  · isplitl [HK]; · iexact HK
    isplitl [V0]; · iexact V0
    iexact S39
  iintro F39
  iapply (wp_fetched 0 40 sem_cp1 du16 vc2 kv1 (by decide) kv1.view.dmaCredit rfl (vA m 0) (kvX (vA m 0) 1024 (by decide))) $$ [F40 HO]
  · isplitr; · iexact Hlev
    isplitl [F40]; · iexact F40
    iexact HO
  iintro ⟨HO, S40, V1, HV⟩
  iapply (wp_fill_vb 1 inb_S2x512x8x128_S1x512x8x128_1_0_0_0 1024 (by decide) inb_S2176x1024_S512x1024_1024_0 (vA m 0) (vA m 1) vb1 hvb1 (k0_pay10) rfl) $$ [V1 Hvb]
  · isplitl [V1]; · iexact V1
    iexact Hvb
  iintro ⟨V1, %vb2, %hvb2, Hvb⟩
  iapply (wp_fetch 0 40 sem_cp1 vc3 kv1 kv1.view.dmaCredit rfl (View.dmaCredit_pos _ (by decide)) (vA m 0) (kvX (vA m 0) 1024 (by decide)) (kvX (vA m 0) 1536 (by decide)) (vS_read (vA m 0) 1 1536 _ _ (by decide))) $$ [HV V1 S40]
  · isplitl [HV]; · iexact HV
    isplitl [V1]; · iexact V1
    iexact S40
  iintro F40
  iapply (wp_fetched 0 39 sem_cp0 du16 kc3 kv0 (by decide) kv0.view.dmaCredit rfl (kA m 0) (kvX (kA m 0) 1536 (by decide))) $$ [F39 HO]
  · isplitr; · iexact Hlev
    isplitl [F39]; · iexact F39
    iexact HO
  iintro ⟨HO, S39, V0, HK⟩
  iapply (wp_fill_kb 0 inb_S2x512x8x128_S1x512x8x128_0_0_0_0 1536 (by decide) inb_S2176x1024_S512x1024_1536_0 (kA m 0) (kA m 1) kb2 hkb2 (fun v => k0_pay12 (k0_pay11 v)) rfl) $$ [V0 Hkb]
  · isplitl [V0]; · iexact V0
    iexact Hkb
  iintro ⟨V0, %kb3, %hkb3, Hkb⟩
  iapply (wp_fetched 0 40 sem_cp1 du16 vc3 kv1 (by decide) kv1.view.dmaCredit rfl (vA m 0) (kvX (vA m 0) 1536 (by decide))) $$ [F40 HO]
  · isplitr; · iexact Hlev
    isplitl [F40]; · iexact F40
    iexact HO
  iintro ⟨HO, S40, V1, HV⟩
  iapply (wp_fill_vb 1 inb_S2x512x8x128_S1x512x8x128_1_0_0_0 1536 (by decide) inb_S2176x1024_S512x1024_1536_0 (vA m 0) (vA m 1) vb2 hvb2 (k0_pay13) rfl) $$ [V1 Hvb]
  · isplitl [V1]; · iexact V1
    iexact Hvb
  iintro ⟨V1, %vb3, %hvb3, Hvb⟩
  iapply (wp_fetched 0 41 sem_xc0 du16 xc0 xs0 (by decide) xs0.view.dmaCredit rfl (xA m) (xsX (xA m) 0 (by decide))) $$ [F41 HO]
  · isplitr; · iexact Hlev
    isplitl [F41]; · iexact F41
    iexact HO
  iintro ⟨HO, S41, X0, HX⟩
  iapply (wp_fetch 0 42 sem_xc1 xc1 xs1 xs1.view.dmaCredit rfl (View.dmaCredit_pos _ (by decide)) (xA m) (f3) (xsX (xA m) 512 (by decide)) (xS_read (xA m) 1 512 _ _ (by decide))) $$ [HX X1 S42]
  · isplitl [HX]; · iexact HX
    isplitl [X1]; · iexact X1
    iexact S42
  iintro F42
  ihave Hkb := (kb_full m kb3 hkb3) $$ Hkb
  ihave Hvb := (vb_full m vb3 hvb3) $$ Hvb
  simp only [k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, Prog.lift, Prog.bind_op, Prog.bind_ret, Prog.pure_eq_ret]
  iapply (wp_x (xA m) 0 0 inb_S2x512x1024_S1x512x1024_0_0_0 (by decide) 0 rfl) $$ [X0]
  · iexact X0
  iintro X0
  iapply (wp_head 0 0 (qC (xA m) (wqA m) 0) (kbA m) (vbA m) f4 loK loV _ (pay_0_0 (k0_pay3 (wqA m)) (xC (xA m) 0)) (fun _ h => absurd h (Nat.not_lt_zero _)) 0 0 rfl rfl _ _ (inK (by decide)) (inV (by decide))) $$ [Hkb Hvb Hc]
  · isplitl [Hkb]; · iexact Hkb
    isplitl [Hvb]; · iexact Hvb
    iexact Hc
  iintro ⟨Hkb, Hvb, %c00, %hc00, Hc⟩
  iapply (wp_head 0 1 (qC (xA m) (wqA m) 0) (kbA m) (vbA m) c00 loK loV _ (pay_0_1 (k0_pay3 (wqA m)) (xC (xA m) 0)) hc00 0 128 rfl rfl _ _ (inK (by decide)) (inV (by decide))) $$ [Hkb Hvb Hc]
  · isplitl [Hkb]; · iexact Hkb
    isplitl [Hvb]; · iexact Hvb
    iexact Hc
  iintro ⟨Hkb, Hvb, %c01, %hc01, Hc⟩
  iapply (wp_head 0 2 (qC (xA m) (wqA m) 0) (kbA m) (vbA m) c01 loK loV _ (pay_0_2 (k0_pay3 (wqA m)) (xC (xA m) 0)) hc01 0 256 rfl rfl _ _ (inK (by decide)) (inV (by decide))) $$ [Hkb Hvb Hc]
  · isplitl [Hkb]; · iexact Hkb
    isplitl [Hvb]; · iexact Hvb
    iexact Hc
  iintro ⟨Hkb, Hvb, %c02, %hc02, Hc⟩
  iapply (wp_head 0 3 (qC (xA m) (wqA m) 0) (kbA m) (vbA m) c02 loK loV _ (pay_0_3 (k0_pay3 (wqA m)) (xC (xA m) 0)) hc02 0 384 rfl rfl _ _ (inK (by decide)) (inV (by decide))) $$ [Hkb Hvb Hc]
  · isplitl [Hkb]; · iexact Hkb
    isplitl [Hvb]; · iexact Hvb
    iexact Hc
  iintro ⟨Hkb, Hvb, %c03, %hc03, Hc⟩
  iapply (wp_head 0 4 (qC (xA m) (wqA m) 0) (kbA m) (vbA m) c03 loK loV _ (pay_0_4 (k0_pay3 (wqA m)) (xC (xA m) 0)) hc03 0 512 rfl rfl _ _ (inK (by decide)) (inV (by decide))) $$ [Hkb Hvb Hc]
  · isplitl [Hkb]; · iexact Hkb
    isplitl [Hvb]; · iexact Hvb
    iexact Hc
  iintro ⟨Hkb, Hvb, %c04, %hc04, Hc⟩
  iapply (wp_head 0 5 (qC (xA m) (wqA m) 0) (kbA m) (vbA m) c04 loK loV _ (pay_0_5 (k0_pay3 (wqA m)) (xC (xA m) 0)) hc04 0 640 rfl rfl _ _ (inK (by decide)) (inV (by decide))) $$ [Hkb Hvb Hc]
  · isplitl [Hkb]; · iexact Hkb
    isplitl [Hvb]; · iexact Hvb
    iexact Hc
  iintro ⟨Hkb, Hvb, %c05, %hc05, Hc⟩
  iapply (wp_head 0 6 (qC (xA m) (wqA m) 0) (kbA m) (vbA m) c05 loK loV _ (pay_0_6 (k0_pay3 (wqA m)) (xC (xA m) 0)) hc05 0 768 rfl rfl _ _ (inK (by decide)) (inV (by decide))) $$ [Hkb Hvb Hc]
  · isplitl [Hkb]; · iexact Hkb
    isplitl [Hvb]; · iexact Hvb
    iexact Hc
  iintro ⟨Hkb, Hvb, %c06, %hc06, Hc⟩
  iapply (wp_head 0 7 (qC (xA m) (wqA m) 0) (kbA m) (vbA m) c06 loK loV _ (pay_0_7 (k0_pay3 (wqA m)) (xC (xA m) 0)) hc06 0 896 rfl rfl _ _ (inK (by decide)) (inV (by decide))) $$ [Hkb Hvb Hc]
  · isplitl [Hkb]; · iexact Hkb
    isplitl [Hvb]; · iexact Hvb
    iexact Hc
  iintro ⟨Hkb, Hvb, %c07, %hc07, Hc⟩
  iapply (wp_proj 0 (xA m) (wqA m) (woA m) (kbA m) (vbA m) c07 fo hc07 0 256 rfl rfl (k0_pay28 (k0_pay4 (woA m))) rfl inb_S2048x1024_S256x1024_0_0 inb_S2048x1024_S256x1024_256_0 inb_S2048x1024_S512x1024_0_0 inb_S512x1024_S512x1024_0_0) $$ [Hc B0 B1]
  · isplitl [Hc]; · iexact Hc
    isplitl [B0]; · iexact B0
    iexact B1
  iintro ⟨Hc, B0, B1⟩
  ihave B0 := (pointsTo_share (PosShare.mem_left_op_right fullShare)).1 $$ B0
  icases B0 with ⟨L0, R0⟩
  ihave B1 := (pointsTo_share (PosShare.mem_left_op_right fullShare)).1 $$ B1
  icases B1 with ⟨L1, R1⟩
  iapply (wp_send m K 0 (src := oB0) (dst := oB0) _ 1 (dev4_0 (by decide)) 7 23 sem_cs00 sem_cr00 du15 (by decide) (by decide) (by decide) (by decide) (amt_ob 0 inb_S2048x1024_S256x1024_0_0) rfl fullShare.left (obA m) e10
    (oe rfl) (oe ((landed (src := oB0) (dst := oB0) (c := 0) (d := 1) (obA m) e10 (obA m) fullShare fun _ => rfl).trans rfl))) $$ [L0 E10 HO T0_7 T1_23]
  · isplitr; · iexact HR
    isplitl [L0]; · iexact L0
    isplitl [E10]; · iexact E10
    isplitl [HO]; · iexact HO
    isplitl [T0_7]; · iexact T0_7
    iexact T1_23
  iintro ⟨C7, HO⟩
  iapply (wp_send m K 0 (src := oB0) (dst := oB0) _ 3 (dev5_0 (by decide)) 8 23 sem_cs01 sem_cr00 du14 (by decide) (by decide) (by decide) (by decide) (amt_ob 0 inb_S2048x1024_S256x1024_0_0) rfl fullShare.right (obA m) e30
    (oe rfl) (oe ((landed (src := oB0) (dst := oB0) (c := 0) (d := 3) (obA m) e30 (obA m) fullShare fun _ => rfl).trans rfl))) $$ [R0 E30 HO T0_8 T3_23]
  · isplitr; · iexact HR
    isplitl [R0]; · iexact R0
    isplitl [E30]; · iexact E30
    isplitl [HO]; · iexact HO
    isplitl [T0_8]; · iexact T0_8
    iexact T3_23
  iintro ⟨C8, HO⟩
  iapply (wp_send m K 0 (src := oB1) (dst := oB1) _ 1 (dev6_0 (by decide)) 9 24 sem_cs02 sem_cr01 du13 (by decide) (by decide) (by decide) (by decide) (amt_ob 256 inb_S2048x1024_S256x1024_256_0) rfl fullShare.left (obA m) e11
    (oe rfl) (oe ((landed (src := oB1) (dst := oB1) (c := 0) (d := 1) (obA m) e11 (obA m) fullShare fun _ => rfl).trans rfl))) $$ [L1 E11 HO T0_9 T1_24]
  · isplitr; · iexact HR
    isplitl [L1]; · iexact L1
    isplitl [E11]; · iexact E11
    isplitl [HO]; · iexact HO
    isplitl [T0_9]; · iexact T0_9
    iexact T1_24
  iintro ⟨C9, HO⟩
  iapply (wp_send m K 0 (src := oB1) (dst := oB1) _ 3 (dev7_0 (by decide)) 10 24 sem_cs03 sem_cr01 du12 (by decide) (by decide) (by decide) (by decide) (amt_ob 256 inb_S2048x1024_S256x1024_256_0) rfl fullShare.right (obA m) e31
    (oe rfl) (oe ((landed (src := oB1) (dst := oB1) (c := 0) (d := 3) (obA m) e31 (obA m) fullShare fun _ => rfl).trans rfl))) $$ [R1 E31 HO T0_10 T3_24]
  · isplitr; · iexact HR
    isplitl [R1]; · iexact R1
    isplitl [E31]; · iexact E31
    isplitl [HO]; · iexact HO
    isplitl [T0_10]; · iexact T0_10
    iexact T3_24
  iintro ⟨C10, HO⟩
  iapply (wp_out0 0 (xA m) (wqA m) (woA m) (kbA m) (vbA m) o (UpTo.zero _ _) 0 rfl inb_S1x2048x1024_S1x512x1024_0_0_0 (k0_pay29 (k0_pay27 (k0_pay4 (woA m)) (ctxC (qC (xA m) (wqA m) 0) (kbA m) (vbA m) 0))) rfl) $$ [Hout]
  · iexact Hout
  iintro ⟨%o0, %ho0, Hout⟩
  simp only [k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, Prog.lift, Prog.bind_op, Prog.bind_ret, Prog.pure_eq_ret]
  iapply (wp_fetched 0 42 sem_xc1 du12 xc1 xs1 (by decide) xs1.view.dmaCredit rfl (xA m) (xsX (xA m) 512 (by decide))) $$ [F42 HO]
  · isplitr; · iexact Hlev
    isplitl [F42]; · iexact F42
    iexact HO
  iintro ⟨HO, S42, X1, HX⟩
  iapply (wp_fetch 0 41 sem_xc0 xc2 xs0 xs0.view.dmaCredit rfl (View.dmaCredit_pos _ (by decide)) (xA m) (xsX (xA m) 0 (by decide)) (xsX (xA m) 1024 (by decide)) (xS_read (xA m) 0 1024 _ _ (by decide))) $$ [HX X0 S41]
  · isplitl [HX]; · iexact HX
    isplitl [X0]; · iexact X0
    iexact S41
  iintro F41
  iapply (wp_x (xA m) 1 512 inb_S2x512x1024_S1x512x1024_1_0_0 (by decide) 1 rfl) $$ [X1]
  · iexact X1
  iintro X1
  iapply (wp_head 1 0 (qC (xA m) (wqA m) 1) (kbA m) (vbA m) c07 loK loV _ (pay_1_0 (k0_pay3 (wqA m)) (xC (xA m) 1)) (fun _ h => absurd h (Nat.not_lt_zero _)) 384 0 rfl rfl _ _ (inK (by decide)) (inV (by decide))) $$ [Hkb Hvb Hc]
  · isplitl [Hkb]; · iexact Hkb
    isplitl [Hvb]; · iexact Hvb
    iexact Hc
  iintro ⟨Hkb, Hvb, %c10, %hc10, Hc⟩
  iapply (wp_head 1 1 (qC (xA m) (wqA m) 1) (kbA m) (vbA m) c10 loK loV _ (pay_1_1 (k0_pay3 (wqA m)) (xC (xA m) 1)) hc10 384 128 rfl rfl _ _ (inK (by decide)) (inV (by decide))) $$ [Hkb Hvb Hc]
  · isplitl [Hkb]; · iexact Hkb
    isplitl [Hvb]; · iexact Hvb
    iexact Hc
  iintro ⟨Hkb, Hvb, %c11, %hc11, Hc⟩
  iapply (wp_head 1 2 (qC (xA m) (wqA m) 1) (kbA m) (vbA m) c11 loK loV _ (pay_1_2 (k0_pay3 (wqA m)) (xC (xA m) 1)) hc11 384 256 rfl rfl _ _ (inK (by decide)) (inV (by decide))) $$ [Hkb Hvb Hc]
  · isplitl [Hkb]; · iexact Hkb
    isplitl [Hvb]; · iexact Hvb
    iexact Hc
  iintro ⟨Hkb, Hvb, %c12, %hc12, Hc⟩
  iapply (wp_head 1 3 (qC (xA m) (wqA m) 1) (kbA m) (vbA m) c12 loK loV _ (pay_1_3 (k0_pay3 (wqA m)) (xC (xA m) 1)) hc12 384 384 rfl rfl _ _ (inK (by decide)) (inV (by decide))) $$ [Hkb Hvb Hc]
  · isplitl [Hkb]; · iexact Hkb
    isplitl [Hvb]; · iexact Hvb
    iexact Hc
  iintro ⟨Hkb, Hvb, %c13, %hc13, Hc⟩
  iapply (wp_head 1 4 (qC (xA m) (wqA m) 1) (kbA m) (vbA m) c13 loK loV _ (pay_1_4 (k0_pay3 (wqA m)) (xC (xA m) 1)) hc13 384 512 rfl rfl _ _ (inK (by decide)) (inV (by decide))) $$ [Hkb Hvb Hc]
  · isplitl [Hkb]; · iexact Hkb
    isplitl [Hvb]; · iexact Hvb
    iexact Hc
  iintro ⟨Hkb, Hvb, %c14, %hc14, Hc⟩
  iapply (wp_head 1 5 (qC (xA m) (wqA m) 1) (kbA m) (vbA m) c14 loK loV _ (pay_1_5 (k0_pay3 (wqA m)) (xC (xA m) 1)) hc14 384 640 rfl rfl _ _ (inK (by decide)) (inV (by decide))) $$ [Hkb Hvb Hc]
  · isplitl [Hkb]; · iexact Hkb
    isplitl [Hvb]; · iexact Hvb
    iexact Hc
  iintro ⟨Hkb, Hvb, %c15, %hc15, Hc⟩
  iapply (wp_head 1 6 (qC (xA m) (wqA m) 1) (kbA m) (vbA m) c15 loK loV _ (pay_1_6 (k0_pay3 (wqA m)) (xC (xA m) 1)) hc15 384 768 rfl rfl _ _ (inK (by decide)) (inV (by decide))) $$ [Hkb Hvb Hc]
  · isplitl [Hkb]; · iexact Hkb
    isplitl [Hvb]; · iexact Hvb
    iexact Hc
  iintro ⟨Hkb, Hvb, %c16, %hc16, Hc⟩
  iapply (wp_head 1 7 (qC (xA m) (wqA m) 1) (kbA m) (vbA m) c16 loK loV _ (pay_1_7 (k0_pay3 (wqA m)) (xC (xA m) 1)) hc16 384 896 rfl rfl _ _ (inK (by decide)) (inV (by decide))) $$ [Hkb Hvb Hc]
  · isplitl [Hkb]; · iexact Hkb
    isplitl [Hvb]; · iexact Hvb
    iexact Hc
  iintro ⟨Hkb, Hvb, %c17, %hc17, Hc⟩
  iapply (wp_proj 1 (xA m) (wqA m) (woA m) (kbA m) (vbA m) c17 fo hc17 512 768 rfl rfl (k0_pay53 (k0_pay4 (woA m))) rfl inb_S2048x1024_S256x1024_512_0 inb_S2048x1024_S256x1024_768_0 inb_S2048x1024_S512x1024_512_0 inb_S512x1024_S512x1024_0_0) $$ [Hc B2 B3]
  · isplitl [Hc]; · iexact Hc
    isplitl [B2]; · iexact B2
    iexact B3
  iintro ⟨Hc, B2, B3⟩
  ihave B2 := (pointsTo_share (PosShare.mem_left_op_right fullShare)).1 $$ B2
  icases B2 with ⟨L2, R2⟩
  ihave B3 := (pointsTo_share (PosShare.mem_left_op_right fullShare)).1 $$ B3
  icases B3 with ⟨L3, R3⟩
  iapply (wp_send m K 0 (src := oB2) (dst := oB2) _ 1 (dev8_0 (by decide)) 11 25 sem_cs10 sem_cr10 du11 (by decide) (by decide) (by decide) (by decide) (amt_ob 512 inb_S2048x1024_S256x1024_512_0) rfl fullShare.left (obA m) e12
    (oe rfl) (oe ((landed (src := oB2) (dst := oB2) (c := 0) (d := 1) (obA m) e12 (obA m) fullShare fun _ => rfl).trans rfl))) $$ [L2 E12 HO T0_11 T1_25]
  · isplitr; · iexact HR
    isplitl [L2]; · iexact L2
    isplitl [E12]; · iexact E12
    isplitl [HO]; · iexact HO
    isplitl [T0_11]; · iexact T0_11
    iexact T1_25
  iintro ⟨C11, HO⟩
  iapply (wp_send m K 0 (src := oB2) (dst := oB2) _ 3 (dev9_0 (by decide)) 12 25 sem_cs11 sem_cr10 du10 (by decide) (by decide) (by decide) (by decide) (amt_ob 512 inb_S2048x1024_S256x1024_512_0) rfl fullShare.right (obA m) e32
    (oe rfl) (oe ((landed (src := oB2) (dst := oB2) (c := 0) (d := 3) (obA m) e32 (obA m) fullShare fun _ => rfl).trans rfl))) $$ [R2 E32 HO T0_12 T3_25]
  · isplitr; · iexact HR
    isplitl [R2]; · iexact R2
    isplitl [E32]; · iexact E32
    isplitl [HO]; · iexact HO
    isplitl [T0_12]; · iexact T0_12
    iexact T3_25
  iintro ⟨C12, HO⟩
  iapply (wp_send m K 0 (src := oB3) (dst := oB3) _ 1 (dev10_0 (by decide)) 13 26 sem_cs12 sem_cr11 du9 (by decide) (by decide) (by decide) (by decide) (amt_ob 768 inb_S2048x1024_S256x1024_768_0) rfl fullShare.left (obA m) e13
    (oe rfl) (oe ((landed (src := oB3) (dst := oB3) (c := 0) (d := 1) (obA m) e13 (obA m) fullShare fun _ => rfl).trans rfl))) $$ [L3 E13 HO T0_13 T1_26]
  · isplitr; · iexact HR
    isplitl [L3]; · iexact L3
    isplitl [E13]; · iexact E13
    isplitl [HO]; · iexact HO
    isplitl [T0_13]; · iexact T0_13
    iexact T1_26
  iintro ⟨C13, HO⟩
  iapply (wp_send m K 0 (src := oB3) (dst := oB3) _ 3 (dev11_0 (by decide)) 14 26 sem_cs13 sem_cr11 du8 (by decide) (by decide) (by decide) (by decide) (amt_ob 768 inb_S2048x1024_S256x1024_768_0) rfl fullShare.right (obA m) e33
    (oe rfl) (oe ((landed (src := oB3) (dst := oB3) (c := 0) (d := 3) (obA m) e33 (obA m) fullShare fun _ => rfl).trans rfl))) $$ [R3 E33 HO T0_14 T3_26]
  · isplitr; · iexact HR
    isplitl [R3]; · iexact R3
    isplitl [E33]; · iexact E33
    isplitl [HO]; · iexact HO
    isplitl [T0_14]; · iexact T0_14
    iexact T3_26
  iintro ⟨C14, HO⟩
  iapply (wp_out0 1 (xA m) (wqA m) (woA m) (kbA m) (vbA m) o0 ho0 512 rfl inb_S1x2048x1024_S1x512x1024_0_512_0 (k0_pay54 (k0_pay52 (k0_pay4 (woA m)) (ctxC (qC (xA m) (wqA m) 1) (kbA m) (vbA m) 1))) rfl) $$ [Hout]
  · iexact Hout
  iintro ⟨%o1, %ho1, Hout⟩
  simp only [k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, Prog.lift, Prog.bind_op, Prog.bind_ret, Prog.pure_eq_ret]
  iapply (wp_fetched 0 41 sem_xc0 du8 xc2 xs0 (by decide) xs0.view.dmaCredit rfl (xA m) (xsX (xA m) 1024 (by decide))) $$ [F41 HO]
  · isplitr; · iexact Hlev
    isplitl [F41]; · iexact F41
    iexact HO
  iintro ⟨HO, S41, X0, HX⟩
  iapply (wp_fetch 0 42 sem_xc1 xc3 xs1 xs1.view.dmaCredit rfl (View.dmaCredit_pos _ (by decide)) (xA m) (xsX (xA m) 512 (by decide)) (xsX (xA m) 1536 (by decide)) (xS_read (xA m) 1 1536 _ _ (by decide))) $$ [HX X1 S42]
  · isplitl [HX]; · iexact HX
    isplitl [X1]; · iexact X1
    iexact S42
  iintro F42
  iapply (wp_x (xA m) 0 1024 inb_S2x512x1024_S1x512x1024_0_0_0 (by decide) 2 rfl) $$ [X0]
  · iexact X0
  iintro X0
  iapply (wp_head 2 0 (qC (xA m) (wqA m) 2) (kbA m) (vbA m) c17 loK loV _ (pay_2_0 (k0_pay3 (wqA m)) (xC (xA m) 2)) (fun _ h => absurd h (Nat.not_lt_zero _)) 896 0 rfl rfl _ _ (inK (by decide)) (inV (by decide))) $$ [Hkb Hvb Hc]
  · isplitl [Hkb]; · iexact Hkb
    isplitl [Hvb]; · iexact Hvb
    iexact Hc
  iintro ⟨Hkb, Hvb, %c20, %hc20, Hc⟩
  iapply (wp_head 2 1 (qC (xA m) (wqA m) 2) (kbA m) (vbA m) c20 loK loV _ (pay_2_1 (k0_pay3 (wqA m)) (xC (xA m) 2)) hc20 896 128 rfl rfl _ _ (inK (by decide)) (inV (by decide))) $$ [Hkb Hvb Hc]
  · isplitl [Hkb]; · iexact Hkb
    isplitl [Hvb]; · iexact Hvb
    iexact Hc
  iintro ⟨Hkb, Hvb, %c21, %hc21, Hc⟩
  iapply (wp_head 2 2 (qC (xA m) (wqA m) 2) (kbA m) (vbA m) c21 loK loV _ (pay_2_2 (k0_pay3 (wqA m)) (xC (xA m) 2)) hc21 896 256 rfl rfl _ _ (inK (by decide)) (inV (by decide))) $$ [Hkb Hvb Hc]
  · isplitl [Hkb]; · iexact Hkb
    isplitl [Hvb]; · iexact Hvb
    iexact Hc
  iintro ⟨Hkb, Hvb, %c22, %hc22, Hc⟩
  iapply (wp_head 2 3 (qC (xA m) (wqA m) 2) (kbA m) (vbA m) c22 loK loV _ (pay_2_3 (k0_pay3 (wqA m)) (xC (xA m) 2)) hc22 896 384 rfl rfl _ _ (inK (by decide)) (inV (by decide))) $$ [Hkb Hvb Hc]
  · isplitl [Hkb]; · iexact Hkb
    isplitl [Hvb]; · iexact Hvb
    iexact Hc
  iintro ⟨Hkb, Hvb, %c23, %hc23, Hc⟩
  iapply (wp_head 2 4 (qC (xA m) (wqA m) 2) (kbA m) (vbA m) c23 loK loV _ (pay_2_4 (k0_pay3 (wqA m)) (xC (xA m) 2)) hc23 896 512 rfl rfl _ _ (inK (by decide)) (inV (by decide))) $$ [Hkb Hvb Hc]
  · isplitl [Hkb]; · iexact Hkb
    isplitl [Hvb]; · iexact Hvb
    iexact Hc
  iintro ⟨Hkb, Hvb, %c24, %hc24, Hc⟩
  iapply (wp_head 2 5 (qC (xA m) (wqA m) 2) (kbA m) (vbA m) c24 loK loV _ (pay_2_5 (k0_pay3 (wqA m)) (xC (xA m) 2)) hc24 896 640 rfl rfl _ _ (inK (by decide)) (inV (by decide))) $$ [Hkb Hvb Hc]
  · isplitl [Hkb]; · iexact Hkb
    isplitl [Hvb]; · iexact Hvb
    iexact Hc
  iintro ⟨Hkb, Hvb, %c25, %hc25, Hc⟩
  iapply (wp_head 2 6 (qC (xA m) (wqA m) 2) (kbA m) (vbA m) c25 loK loV _ (pay_2_6 (k0_pay3 (wqA m)) (xC (xA m) 2)) hc25 896 768 rfl rfl _ _ (inK (by decide)) (inV (by decide))) $$ [Hkb Hvb Hc]
  · isplitl [Hkb]; · iexact Hkb
    isplitl [Hvb]; · iexact Hvb
    iexact Hc
  iintro ⟨Hkb, Hvb, %c26, %hc26, Hc⟩
  iapply (wp_head 2 7 (qC (xA m) (wqA m) 2) (kbA m) (vbA m) c26 loK loV _ (pay_2_7 (k0_pay3 (wqA m)) (xC (xA m) 2)) hc26 896 896 rfl rfl _ _ (inK (by decide)) (inV (by decide))) $$ [Hkb Hvb Hc]
  · isplitl [Hkb]; · iexact Hkb
    isplitl [Hvb]; · iexact Hvb
    iexact Hc
  iintro ⟨Hkb, Hvb, %c27, %hc27, Hc⟩
  iapply (wp_proj 2 (xA m) (wqA m) (woA m) (kbA m) (vbA m) c27 fo hc27 1024 1280 rfl rfl (fun v => k0_pay74 (k0_pay73 (k0_pay4 (woA m)) v)) rfl inb_S2048x1024_S256x1024_1024_0 inb_S2048x1024_S256x1024_1280_0 inb_S2048x1024_S512x1024_1024_0 inb_S512x1024_S512x1024_0_0) $$ [Hc B4 B5]
  · isplitl [Hc]; · iexact Hc
    isplitl [B4]; · iexact B4
    iexact B5
  iintro ⟨Hc, B4, B5⟩
  ihave B4 := (pointsTo_share (PosShare.mem_left_op_right fullShare)).1 $$ B4
  icases B4 with ⟨L4, R4⟩
  ihave B5 := (pointsTo_share (PosShare.mem_left_op_right fullShare)).1 $$ B5
  icases B5 with ⟨L5, R5⟩
  iapply (wp_send m K 0 (src := oB4) (dst := oB4) _ 1 (dev12_0 (by decide)) 15 27 sem_cs20 sem_cr20 du7 (by decide) (by decide) (by decide) (by decide) (amt_ob 1024 inb_S2048x1024_S256x1024_1024_0) rfl fullShare.left (obA m) e14
    (oe rfl) (oe ((landed (src := oB4) (dst := oB4) (c := 0) (d := 1) (obA m) e14 (obA m) fullShare fun _ => rfl).trans rfl))) $$ [L4 E14 HO T0_15 T1_27]
  · isplitr; · iexact HR
    isplitl [L4]; · iexact L4
    isplitl [E14]; · iexact E14
    isplitl [HO]; · iexact HO
    isplitl [T0_15]; · iexact T0_15
    iexact T1_27
  iintro ⟨C15, HO⟩
  iapply (wp_send m K 0 (src := oB4) (dst := oB4) _ 3 (dev13_0 (by decide)) 16 27 sem_cs21 sem_cr20 du6 (by decide) (by decide) (by decide) (by decide) (amt_ob 1024 inb_S2048x1024_S256x1024_1024_0) rfl fullShare.right (obA m) e34
    (oe rfl) (oe ((landed (src := oB4) (dst := oB4) (c := 0) (d := 3) (obA m) e34 (obA m) fullShare fun _ => rfl).trans rfl))) $$ [R4 E34 HO T0_16 T3_27]
  · isplitr; · iexact HR
    isplitl [R4]; · iexact R4
    isplitl [E34]; · iexact E34
    isplitl [HO]; · iexact HO
    isplitl [T0_16]; · iexact T0_16
    iexact T3_27
  iintro ⟨C16, HO⟩
  iapply (wp_send m K 0 (src := oB5) (dst := oB5) _ 1 (dev14_0 (by decide)) 17 28 sem_cs22 sem_cr21 du5 (by decide) (by decide) (by decide) (by decide) (amt_ob 1280 inb_S2048x1024_S256x1024_1280_0) rfl fullShare.left (obA m) e15
    (oe rfl) (oe ((landed (src := oB5) (dst := oB5) (c := 0) (d := 1) (obA m) e15 (obA m) fullShare fun _ => rfl).trans rfl))) $$ [L5 E15 HO T0_17 T1_28]
  · isplitr; · iexact HR
    isplitl [L5]; · iexact L5
    isplitl [E15]; · iexact E15
    isplitl [HO]; · iexact HO
    isplitl [T0_17]; · iexact T0_17
    iexact T1_28
  iintro ⟨C17, HO⟩
  iapply (wp_send m K 0 (src := oB5) (dst := oB5) _ 3 (dev15_0 (by decide)) 18 28 sem_cs23 sem_cr21 du4 (by decide) (by decide) (by decide) (by decide) (amt_ob 1280 inb_S2048x1024_S256x1024_1280_0) rfl fullShare.right (obA m) e35
    (oe rfl) (oe ((landed (src := oB5) (dst := oB5) (c := 0) (d := 3) (obA m) e35 (obA m) fullShare fun _ => rfl).trans rfl))) $$ [R5 E35 HO T0_18 T3_28]
  · isplitr; · iexact HR
    isplitl [R5]; · iexact R5
    isplitl [E35]; · iexact E35
    isplitl [HO]; · iexact HO
    isplitl [T0_18]; · iexact T0_18
    iexact T3_28
  iintro ⟨C18, HO⟩
  iapply (wp_out0 2 (xA m) (wqA m) (woA m) (kbA m) (vbA m) o1 ho1 1024 rfl inb_S1x2048x1024_S1x512x1024_0_1024_0 (k0_pay75 (k0_pay72 (k0_pay4 (woA m)) (ctxC (qC (xA m) (wqA m) 2) (kbA m) (vbA m) 2))) rfl) $$ [Hout]
  · iexact Hout
  iintro ⟨%o2, %ho2, Hout⟩
  simp only [k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, Prog.lift, Prog.bind_op, Prog.bind_ret, Prog.pure_eq_ret]
  iapply (wp_fetched 0 42 sem_xc1 du4 xc3 xs1 (by decide) xs1.view.dmaCredit rfl (xA m) (xsX (xA m) 1536 (by decide))) $$ [F42 HO]
  · isplitr; · iexact Hlev
    isplitl [F42]; · iexact F42
    iexact HO
  iintro ⟨HO, S42, X1, HX⟩
  iapply (wp_x (xA m) 1 1536 inb_S2x512x1024_S1x512x1024_1_0_0 (by decide) 3 rfl) $$ [X1]
  · iexact X1
  iintro X1
  iapply (wp_dwait m K 0 3 sem_hr0 du4 1 (by decide) (by decide) (by decide) amt_kbH) $$ [HO C3 A3]
  · isplitr; · iexact HR
    isplitr; · iexact Hlev
    isplitl [C3]; · iexact C3
    isplitl [HO]; · iexact HO
    iexact A3
  iintro ⟨HO, A3, P3⟩
  ihave P3 := (oe (show (dmaPay m 0 (3 : DmaSem sig).val : sProp 𝕄) = kbHP (kbA m) from rfl)) $$ P3
  ihave Hkb := ((kb_split (kbA m)).2) $$ [P3 Hkb]
  · isplitl [P3]; · iexact P3
    iexact Hkb
  iapply (wp_dwait m K 0 4 sem_hr1 du4 1 (by decide) (by decide) (by decide) amt_vbH) $$ [HO C4 A4]
  · isplitr; · iexact HR
    isplitr; · iexact Hlev
    isplitl [C4]; · iexact C4
    isplitl [HO]; · iexact HO
    iexact A4
  iintro ⟨HO, A4, P4⟩
  ihave P4 := (oe (show (dmaPay m 0 (4 : DmaSem sig).val : sProp 𝕄) = vbHP (vbA m) from rfl)) $$ P4
  ihave Hvb := ((vb_split (vbA m)).2) $$ [P4 Hvb]
  · isplitl [P4]; · iexact P4
    iexact Hvb
  iapply (wp_head 3 0 (qC (xA m) (wqA m) 3) (kbA m) (vbA m) c27 Finset.univ Finset.univ _ (pay_3_0 (k0_pay3 (wqA m)) (xC (xA m) 3)) (fun _ h => absurd h (Nat.not_lt_zero _)) 1408 0 rfl rfl _ _ (fun _ _ => Finset.mem_univ _) (fun _ _ => Finset.mem_univ _)) $$ [Hkb Hvb Hc]
  · isplitl [Hkb]; · iexact Hkb
    isplitl [Hvb]; · iexact Hvb
    iexact Hc
  iintro ⟨Hkb, Hvb, %c30, %hc30, Hc⟩
  iapply (wp_head 3 1 (qC (xA m) (wqA m) 3) (kbA m) (vbA m) c30 Finset.univ Finset.univ _ (pay_3_1 (k0_pay3 (wqA m)) (xC (xA m) 3)) hc30 1408 128 rfl rfl _ _ (fun _ _ => Finset.mem_univ _) (fun _ _ => Finset.mem_univ _)) $$ [Hkb Hvb Hc]
  · isplitl [Hkb]; · iexact Hkb
    isplitl [Hvb]; · iexact Hvb
    iexact Hc
  iintro ⟨Hkb, Hvb, %c31, %hc31, Hc⟩
  iapply (wp_head 3 2 (qC (xA m) (wqA m) 3) (kbA m) (vbA m) c31 Finset.univ Finset.univ _ (pay_3_2 (k0_pay3 (wqA m)) (xC (xA m) 3)) hc31 1408 256 rfl rfl _ _ (fun _ _ => Finset.mem_univ _) (fun _ _ => Finset.mem_univ _)) $$ [Hkb Hvb Hc]
  · isplitl [Hkb]; · iexact Hkb
    isplitl [Hvb]; · iexact Hvb
    iexact Hc
  iintro ⟨Hkb, Hvb, %c32, %hc32, Hc⟩
  iapply (wp_head 3 3 (qC (xA m) (wqA m) 3) (kbA m) (vbA m) c32 Finset.univ Finset.univ _ (pay_3_3 (k0_pay3 (wqA m)) (xC (xA m) 3)) hc32 1408 384 rfl rfl _ _ (fun _ _ => Finset.mem_univ _) (fun _ _ => Finset.mem_univ _)) $$ [Hkb Hvb Hc]
  · isplitl [Hkb]; · iexact Hkb
    isplitl [Hvb]; · iexact Hvb
    iexact Hc
  iintro ⟨Hkb, Hvb, %c33, %hc33, Hc⟩
  iapply (wp_head 3 4 (qC (xA m) (wqA m) 3) (kbA m) (vbA m) c33 Finset.univ Finset.univ _ (pay_3_4 (k0_pay3 (wqA m)) (xC (xA m) 3)) hc33 1408 512 rfl rfl _ _ (fun _ _ => Finset.mem_univ _) (fun _ _ => Finset.mem_univ _)) $$ [Hkb Hvb Hc]
  · isplitl [Hkb]; · iexact Hkb
    isplitl [Hvb]; · iexact Hvb
    iexact Hc
  iintro ⟨Hkb, Hvb, %c34, %hc34, Hc⟩
  iapply (wp_head 3 5 (qC (xA m) (wqA m) 3) (kbA m) (vbA m) c34 Finset.univ Finset.univ _ (pay_3_5 (k0_pay3 (wqA m)) (xC (xA m) 3)) hc34 1408 640 rfl rfl _ _ (fun _ _ => Finset.mem_univ _) (fun _ _ => Finset.mem_univ _)) $$ [Hkb Hvb Hc]
  · isplitl [Hkb]; · iexact Hkb
    isplitl [Hvb]; · iexact Hvb
    iexact Hc
  iintro ⟨Hkb, Hvb, %c35, %hc35, Hc⟩
  iapply (wp_head 3 6 (qC (xA m) (wqA m) 3) (kbA m) (vbA m) c35 Finset.univ Finset.univ _ (pay_3_6 (k0_pay3 (wqA m)) (xC (xA m) 3)) hc35 1408 768 rfl rfl _ _ (fun _ _ => Finset.mem_univ _) (fun _ _ => Finset.mem_univ _)) $$ [Hkb Hvb Hc]
  · isplitl [Hkb]; · iexact Hkb
    isplitl [Hvb]; · iexact Hvb
    iexact Hc
  iintro ⟨Hkb, Hvb, %c36, %hc36, Hc⟩
  iapply (wp_head 3 7 (qC (xA m) (wqA m) 3) (kbA m) (vbA m) c36 Finset.univ Finset.univ _ (pay_3_7 (k0_pay3 (wqA m)) (xC (xA m) 3)) hc36 1408 896 rfl rfl _ _ (fun _ _ => Finset.mem_univ _) (fun _ _ => Finset.mem_univ _)) $$ [Hkb Hvb Hc]
  · isplitl [Hkb]; · iexact Hkb
    isplitl [Hvb]; · iexact Hvb
    iexact Hc
  iintro ⟨Hkb, Hvb, %c37, %hc37, Hc⟩
  iapply (wp_proj 3 (xA m) (wqA m) (woA m) (kbA m) (vbA m) c37 fo hc37 1536 1792 rfl rfl (k0_pay99 (k0_pay4 (woA m))) rfl inb_S2048x1024_S256x1024_1536_0 inb_S2048x1024_S256x1024_1792_0 inb_S2048x1024_S512x1024_1536_0 inb_S512x1024_S512x1024_0_0) $$ [Hc B6 B7]
  · isplitl [Hc]; · iexact Hc
    isplitl [B6]; · iexact B6
    iexact B7
  iintro ⟨Hc, B6, B7⟩
  ihave B6 := (pointsTo_share (PosShare.mem_left_op_right fullShare)).1 $$ B6
  icases B6 with ⟨L6, R6⟩
  ihave B7 := (pointsTo_share (PosShare.mem_left_op_right fullShare)).1 $$ B7
  icases B7 with ⟨L7, R7⟩
  iapply (wp_send m K 0 (src := oB6) (dst := oB6) _ 1 (dev16_0 (by decide)) 19 29 sem_cs30 sem_cr30 du3 (by decide) (by decide) (by decide) (by decide) (amt_ob 1536 inb_S2048x1024_S256x1024_1536_0) rfl fullShare.left (obA m) e16
    (oe rfl) (oe ((landed (src := oB6) (dst := oB6) (c := 0) (d := 1) (obA m) e16 (obA m) fullShare fun _ => rfl).trans rfl))) $$ [L6 E16 HO T0_19 T1_29]
  · isplitr; · iexact HR
    isplitl [L6]; · iexact L6
    isplitl [E16]; · iexact E16
    isplitl [HO]; · iexact HO
    isplitl [T0_19]; · iexact T0_19
    iexact T1_29
  iintro ⟨C19, HO⟩
  iapply (wp_send m K 0 (src := oB6) (dst := oB6) _ 3 (dev17_0 (by decide)) 20 29 sem_cs31 sem_cr30 du2 (by decide) (by decide) (by decide) (by decide) (amt_ob 1536 inb_S2048x1024_S256x1024_1536_0) rfl fullShare.right (obA m) e36
    (oe rfl) (oe ((landed (src := oB6) (dst := oB6) (c := 0) (d := 3) (obA m) e36 (obA m) fullShare fun _ => rfl).trans rfl))) $$ [R6 E36 HO T0_20 T3_29]
  · isplitr; · iexact HR
    isplitl [R6]; · iexact R6
    isplitl [E36]; · iexact E36
    isplitl [HO]; · iexact HO
    isplitl [T0_20]; · iexact T0_20
    iexact T3_29
  iintro ⟨C20, HO⟩
  iapply (wp_send m K 0 (src := oB7) (dst := oB7) _ 1 (dev18_0 (by decide)) 21 30 sem_cs32 sem_cr31 du1 (by decide) (by decide) (by decide) (by decide) (amt_ob 1792 inb_S2048x1024_S256x1024_1792_0) rfl fullShare.left (obA m) e17
    (oe rfl) (oe ((landed (src := oB7) (dst := oB7) (c := 0) (d := 1) (obA m) e17 (obA m) fullShare fun _ => rfl).trans rfl))) $$ [L7 E17 HO T0_21 T1_30]
  · isplitr; · iexact HR
    isplitl [L7]; · iexact L7
    isplitl [E17]; · iexact E17
    isplitl [HO]; · iexact HO
    isplitl [T0_21]; · iexact T0_21
    iexact T1_30
  iintro ⟨C21, HO⟩
  iapply (wp_send m K 0 (src := oB7) (dst := oB7) _ 3 (dev19_0 (by decide)) 22 30 sem_cs33 sem_cr31 [] (by decide) (by decide) (by decide) (by decide) (amt_ob 1792 inb_S2048x1024_S256x1024_1792_0) rfl fullShare.right (obA m) e37
    (oe rfl) (oe ((landed (src := oB7) (dst := oB7) (c := 0) (d := 3) (obA m) e37 (obA m) fullShare fun _ => rfl).trans rfl))) $$ [R7 E37 HO T0_22 T3_30]
  · isplitr; · iexact HR
    isplitl [R7]; · iexact R7
    isplitl [E37]; · iexact E37
    isplitl [HO]; · iexact HO
    isplitl [T0_22]; · iexact T0_22
    iexact T3_30
  iintro ⟨C22, HO⟩
  iapply (wp_out0 3 (xA m) (wqA m) (woA m) (kbA m) (vbA m) o2 ho2 1536 rfl inb_S1x2048x1024_S1x512x1024_0_1536_0 (k0_pay100 (k0_pay98 (k0_pay4 (woA m)) (ctxC (qC (xA m) (wqA m) 3) (kbA m) (vbA m) 3))) rfl) $$ [Hout]
  · iexact Hout
  iintro ⟨%o3, %ho3, Hout⟩
  simp only [k0_part34_eq_skeleton, k0_part34_skel, k0_part35_eq_skeleton, k0_part35_skel, k0_part36_eq_skeleton, k0_part36_skel, k0_part37_eq_skeleton, k0_part37_skel, Prog.lift, Prog.bind_op, Prog.bind_ret, Prog.pure_eq_ret]
  iapply (wp_dwait m K 0 7 sem_cs00 [] 0 (by decide) (by decide) (by decide) (amt_ob 0 inb_S2048x1024_S256x1024_0_0)) $$ [HO C7 A7]
  · isplitr; · iexact HR
    isplitr; · iexact Hlev
    isplitl [C7]; · iexact C7
    isplitl [HO]; · iexact HO
    iexact A7
  iintro ⟨HO, A7, P7⟩
  ihave P7 := (oe (show (dmaPay m 0 (7 : DmaSem sig).val : sProp 𝕄) = obQ oB0 0 fullShare.left (obA m) from rfl)) $$ P7
  iapply (wp_dwait m K 0 8 sem_cs01 [] 0 (by decide) (by decide) (by decide) (amt_ob 0 inb_S2048x1024_S256x1024_0_0)) $$ [HO C8 A8]
  · isplitr; · iexact HR
    isplitr; · iexact Hlev
    isplitl [C8]; · iexact C8
    isplitl [HO]; · iexact HO
    iexact A8
  iintro ⟨HO, A8, P8⟩
  ihave P8 := (oe (show (dmaPay m 0 (8 : DmaSem sig).val : sProp 𝕄) = obQ oB0 0 fullShare.right (obA m) from rfl)) $$ P8
  ihave B0 : obQ oB0 0 fullShare (obA m) $$ [P7 P8]
  · iapply (pointsTo_share (PosShare.mem_left_op_right fullShare)).2
    isplitl [P7]; · iexact P7
    iexact P8
  iapply (wp_dwait m K 0 9 sem_cs02 [] 0 (by decide) (by decide) (by decide) (amt_ob 256 inb_S2048x1024_S256x1024_256_0)) $$ [HO C9 A9]
  · isplitr; · iexact HR
    isplitr; · iexact Hlev
    isplitl [C9]; · iexact C9
    isplitl [HO]; · iexact HO
    iexact A9
  iintro ⟨HO, A9, P9⟩
  ihave P9 := (oe (show (dmaPay m 0 (9 : DmaSem sig).val : sProp 𝕄) = obQ oB1 0 fullShare.left (obA m) from rfl)) $$ P9
  iapply (wp_dwait m K 0 10 sem_cs03 [] 0 (by decide) (by decide) (by decide) (amt_ob 256 inb_S2048x1024_S256x1024_256_0)) $$ [HO C10 A10]
  · isplitr; · iexact HR
    isplitr; · iexact Hlev
    isplitl [C10]; · iexact C10
    isplitl [HO]; · iexact HO
    iexact A10
  iintro ⟨HO, A10, P10⟩
  ihave P10 := (oe (show (dmaPay m 0 (10 : DmaSem sig).val : sProp 𝕄) = obQ oB1 0 fullShare.right (obA m) from rfl)) $$ P10
  ihave B1 : obQ oB1 0 fullShare (obA m) $$ [P9 P10]
  · iapply (pointsTo_share (PosShare.mem_left_op_right fullShare)).2
    isplitl [P9]; · iexact P9
    iexact P10
  iapply (wp_dwait m K 0 11 sem_cs10 [] 0 (by decide) (by decide) (by decide) (amt_ob 512 inb_S2048x1024_S256x1024_512_0)) $$ [HO C11 A11]
  · isplitr; · iexact HR
    isplitr; · iexact Hlev
    isplitl [C11]; · iexact C11
    isplitl [HO]; · iexact HO
    iexact A11
  iintro ⟨HO, A11, P11⟩
  ihave P11 := (oe (show (dmaPay m 0 (11 : DmaSem sig).val : sProp 𝕄) = obQ oB2 0 fullShare.left (obA m) from rfl)) $$ P11
  iapply (wp_dwait m K 0 12 sem_cs11 [] 0 (by decide) (by decide) (by decide) (amt_ob 512 inb_S2048x1024_S256x1024_512_0)) $$ [HO C12 A12]
  · isplitr; · iexact HR
    isplitr; · iexact Hlev
    isplitl [C12]; · iexact C12
    isplitl [HO]; · iexact HO
    iexact A12
  iintro ⟨HO, A12, P12⟩
  ihave P12 := (oe (show (dmaPay m 0 (12 : DmaSem sig).val : sProp 𝕄) = obQ oB2 0 fullShare.right (obA m) from rfl)) $$ P12
  ihave B2 : obQ oB2 0 fullShare (obA m) $$ [P11 P12]
  · iapply (pointsTo_share (PosShare.mem_left_op_right fullShare)).2
    isplitl [P11]; · iexact P11
    iexact P12
  iapply (wp_dwait m K 0 13 sem_cs12 [] 0 (by decide) (by decide) (by decide) (amt_ob 768 inb_S2048x1024_S256x1024_768_0)) $$ [HO C13 A13]
  · isplitr; · iexact HR
    isplitr; · iexact Hlev
    isplitl [C13]; · iexact C13
    isplitl [HO]; · iexact HO
    iexact A13
  iintro ⟨HO, A13, P13⟩
  ihave P13 := (oe (show (dmaPay m 0 (13 : DmaSem sig).val : sProp 𝕄) = obQ oB3 0 fullShare.left (obA m) from rfl)) $$ P13
  iapply (wp_dwait m K 0 14 sem_cs13 [] 0 (by decide) (by decide) (by decide) (amt_ob 768 inb_S2048x1024_S256x1024_768_0)) $$ [HO C14 A14]
  · isplitr; · iexact HR
    isplitr; · iexact Hlev
    isplitl [C14]; · iexact C14
    isplitl [HO]; · iexact HO
    iexact A14
  iintro ⟨HO, A14, P14⟩
  ihave P14 := (oe (show (dmaPay m 0 (14 : DmaSem sig).val : sProp 𝕄) = obQ oB3 0 fullShare.right (obA m) from rfl)) $$ P14
  ihave B3 : obQ oB3 0 fullShare (obA m) $$ [P13 P14]
  · iapply (pointsTo_share (PosShare.mem_left_op_right fullShare)).2
    isplitl [P13]; · iexact P13
    iexact P14
  iapply (wp_dwait m K 0 15 sem_cs20 [] 0 (by decide) (by decide) (by decide) (amt_ob 1024 inb_S2048x1024_S256x1024_1024_0)) $$ [HO C15 A15]
  · isplitr; · iexact HR
    isplitr; · iexact Hlev
    isplitl [C15]; · iexact C15
    isplitl [HO]; · iexact HO
    iexact A15
  iintro ⟨HO, A15, P15⟩
  ihave P15 := (oe (show (dmaPay m 0 (15 : DmaSem sig).val : sProp 𝕄) = obQ oB4 0 fullShare.left (obA m) from rfl)) $$ P15
  iapply (wp_dwait m K 0 16 sem_cs21 [] 0 (by decide) (by decide) (by decide) (amt_ob 1024 inb_S2048x1024_S256x1024_1024_0)) $$ [HO C16 A16]
  · isplitr; · iexact HR
    isplitr; · iexact Hlev
    isplitl [C16]; · iexact C16
    isplitl [HO]; · iexact HO
    iexact A16
  iintro ⟨HO, A16, P16⟩
  ihave P16 := (oe (show (dmaPay m 0 (16 : DmaSem sig).val : sProp 𝕄) = obQ oB4 0 fullShare.right (obA m) from rfl)) $$ P16
  ihave B4 : obQ oB4 0 fullShare (obA m) $$ [P15 P16]
  · iapply (pointsTo_share (PosShare.mem_left_op_right fullShare)).2
    isplitl [P15]; · iexact P15
    iexact P16
  iapply (wp_dwait m K 0 17 sem_cs22 [] 0 (by decide) (by decide) (by decide) (amt_ob 1280 inb_S2048x1024_S256x1024_1280_0)) $$ [HO C17 A17]
  · isplitr; · iexact HR
    isplitr; · iexact Hlev
    isplitl [C17]; · iexact C17
    isplitl [HO]; · iexact HO
    iexact A17
  iintro ⟨HO, A17, P17⟩
  ihave P17 := (oe (show (dmaPay m 0 (17 : DmaSem sig).val : sProp 𝕄) = obQ oB5 0 fullShare.left (obA m) from rfl)) $$ P17
  iapply (wp_dwait m K 0 18 sem_cs23 [] 0 (by decide) (by decide) (by decide) (amt_ob 1280 inb_S2048x1024_S256x1024_1280_0)) $$ [HO C18 A18]
  · isplitr; · iexact HR
    isplitr; · iexact Hlev
    isplitl [C18]; · iexact C18
    isplitl [HO]; · iexact HO
    iexact A18
  iintro ⟨HO, A18, P18⟩
  ihave P18 := (oe (show (dmaPay m 0 (18 : DmaSem sig).val : sProp 𝕄) = obQ oB5 0 fullShare.right (obA m) from rfl)) $$ P18
  ihave B5 : obQ oB5 0 fullShare (obA m) $$ [P17 P18]
  · iapply (pointsTo_share (PosShare.mem_left_op_right fullShare)).2
    isplitl [P17]; · iexact P17
    iexact P18
  iapply (wp_dwait m K 0 19 sem_cs30 [] 0 (by decide) (by decide) (by decide) (amt_ob 1536 inb_S2048x1024_S256x1024_1536_0)) $$ [HO C19 A19]
  · isplitr; · iexact HR
    isplitr; · iexact Hlev
    isplitl [C19]; · iexact C19
    isplitl [HO]; · iexact HO
    iexact A19
  iintro ⟨HO, A19, P19⟩
  ihave P19 := (oe (show (dmaPay m 0 (19 : DmaSem sig).val : sProp 𝕄) = obQ oB6 0 fullShare.left (obA m) from rfl)) $$ P19
  iapply (wp_dwait m K 0 20 sem_cs31 [] 0 (by decide) (by decide) (by decide) (amt_ob 1536 inb_S2048x1024_S256x1024_1536_0)) $$ [HO C20 A20]
  · isplitr; · iexact HR
    isplitr; · iexact Hlev
    isplitl [C20]; · iexact C20
    isplitl [HO]; · iexact HO
    iexact A20
  iintro ⟨HO, A20, P20⟩
  ihave P20 := (oe (show (dmaPay m 0 (20 : DmaSem sig).val : sProp 𝕄) = obQ oB6 0 fullShare.right (obA m) from rfl)) $$ P20
  ihave B6 : obQ oB6 0 fullShare (obA m) $$ [P19 P20]
  · iapply (pointsTo_share (PosShare.mem_left_op_right fullShare)).2
    isplitl [P19]; · iexact P19
    iexact P20
  iapply (wp_dwait m K 0 21 sem_cs32 [] 0 (by decide) (by decide) (by decide) (amt_ob 1792 inb_S2048x1024_S256x1024_1792_0)) $$ [HO C21 A21]
  · isplitr; · iexact HR
    isplitr; · iexact Hlev
    isplitl [C21]; · iexact C21
    isplitl [HO]; · iexact HO
    iexact A21
  iintro ⟨HO, A21, P21⟩
  ihave P21 := (oe (show (dmaPay m 0 (21 : DmaSem sig).val : sProp 𝕄) = obQ oB7 0 fullShare.left (obA m) from rfl)) $$ P21
  iapply (wp_dwait m K 0 22 sem_cs33 [] 0 (by decide) (by decide) (by decide) (amt_ob 1792 inb_S2048x1024_S256x1024_1792_0)) $$ [HO C22 A22]
  · isplitr; · iexact HR
    isplitr; · iexact Hlev
    isplitl [C22]; · iexact C22
    isplitl [HO]; · iexact HO
    iexact A22
  iintro ⟨HO, A22, P22⟩
  ihave P22 := (oe (show (dmaPay m 0 (22 : DmaSem sig).val : sProp 𝕄) = obQ oB7 0 fullShare.right (obA m) from rfl)) $$ P22
  ihave B7 : obQ oB7 0 fullShare (obA m) $$ [P21 P22]
  · iapply (pointsTo_share (PosShare.mem_left_op_right fullShare)).2
    isplitl [P21]; · iexact P21
    iexact P22
  obtain rfl := ho3.all (by decide)
  rw [wpD, wp_ret]
  imodintro
  iapply Hk
  unfold bodyTo scr arrs lsems
  isplitl [AB A3 A4 A7 A8 A9 A10 A11 A12 A13 A14 A15 A16 A17 A18 A19 A20 A21 A22 Hun]
  · iapply (at_end0 (F := F))
    isplitr [Hun]
    rotate_left
    · iexact Hun
    isplitl [AB]; · iexact AB
    isplitl [A3]; · iexact A3
    isplitl [A4]; · iexact A4
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    isplitl [A19]; · iexact A19
    isplitl [A20]; · iexact A20
    isplitl [A21]; · iexact A21
    iexact A22
  isplitl [S39 S40 S41 S42]
  · isplitl [S39]; · iexact S39
    isplitl [S40]; · iexact S40
    isplitl [S41]; · iexact S41
    iexact S42
  isplitl [HX HK HV]
  · isplitl [HX]; · iexact HX
    isplitl [HK]; · iexact HK
    iexact HV
  isplitr [HO Hwq Hwo Hout]
  · isplitl [Hkb]; · iexists _; iexact Hkb
    isplitl [Hvb]; · iexists _; iexact Hvb
    isplitl [B0 B1 B2 B3 B4 B5 B6 B7]
    · iexists (obA m)
      rw [ob_rows 0]
      isplitl [B0]; · iexact B0
      isplitl [B1]; · iexact B1
      isplitl [B2]; · iexact B2
      isplitl [B3]; · iexact B3
      isplitl [B4]; · iexact B4
      isplitl [B5]; · iexact B5
      isplitl [B6]; · iexact B6
      iexact B7
    isplitl [X0 X1]
    · iapply (xs_close (F := F))
      isplitl [X0]; · iexists _; iexact X0
      iexists _; iexact X1
    isplitl [Hc]; · iexists _; iexact Hc
    isplitl [Hhk]; · iexists f5; iexact Hhk
    isplitl [Hhv]; · iexists f6; iexact Hhv
    iapply (kv_close (F := F))
    isplitl [V0]; · iexists _; iexact V0
    iexists _; iexact V1
  isplitl [HO]; · iexists _; iexact HO
  isplitl [Hwq]; · iexact Hwq
  isplitl [Hwo]; · iexact Hwo
  iexact Hout

end Cert.KIProof

end
-- ==== Proof.KI.Body1.lean ====
/-
# Device 1

It narrows its first 128 key and value rows and sends them to device 0, takes the pieces in as device 0 sends them, and
forwards the even ones to device 2.
-/
module

public import proofs.«01_k».proof.Proof.KI.Local

@[expose] public section

noncomputable section

namespace Cert.KIProof

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem dev1_1 : (⟨k0_dev1 1, k0_dev1_lt 1⟩ : Dev nD) = 2 := by decide
theorem dev2_1 : (⟨k0_dev2 1, k0_dev2_lt 1⟩ : Dev nD) = 3 := by decide
theorem dev3_1 : (⟨k0_dev3 1, k0_dev3_lt 1⟩ : Dev nD) = 0 := by decide
theorem dev20_1 (h : k0_cond2 (1 : Dev nD) = 1#1) : (⟨k0_dev20, k0_dev20_lt 1 h⟩ : Dev nD) = 0 := Fin.ext (show k0_dev20 = 0 from by decide)
theorem dev21_1 (h : k0_cond2 (1 : Dev nD) = 1#1) : (⟨k0_dev21, k0_dev21_lt 1 h⟩ : Dev nD) = 0 := Fin.ext (show k0_dev21 = 0 from by decide)
theorem dev22_1 (h : k0_cond2 (1 : Dev nD) = 1#1) : (⟨k0_dev22, k0_dev22_lt 1 h⟩ : Dev nD) = 2 := Fin.ext (show k0_dev22 = 2 from by decide)
theorem dev23_1 (h : k0_cond2 (1 : Dev nD) = 1#1) : (⟨k0_dev23, k0_dev23_lt 1 h⟩ : Dev nD) = 2 := Fin.ext (show k0_dev23 = 2 from by decide)
theorem dev24_1 (h : k0_cond2 (1 : Dev nD) = 1#1) : (⟨k0_dev24, k0_dev24_lt 1 h⟩ : Dev nD) = 2 := Fin.ext (show k0_dev24 = 2 from by decide)
theorem dev25_1 (h : k0_cond2 (1 : Dev nD) = 1#1) : (⟨k0_dev25, k0_dev25_lt 1 h⟩ : Dev nD) = 2 := Fin.ext (show k0_dev25 = 2 from by decide)

set_option maxHeartbeats 3200000 in
/-- Device 1's body. -/
theorem body1 (K : Dev nD × Fin 37 → ℕ) (Wq Wo : Vec F S1024x1024 .f32) (o : Vec F S1x2048x1024 .f32) (W : Waits sig Unit) (Kt : PUnit → sProp 𝕄) :
    iprop(bodyFrom m K 1 Wq Wo o W ∗ (bodyTo m 1 Wq Wo (outNV (obA m)) -∗ Kt ⟨⟩))
      ⊢ wpD 1 theBody Kt := by
  unfold theBody; simp only [cc0_body_eq_skeleton]; unfold cc0_body_skel
  simp only [k0_part56_eq_skeleton, k0_part56_skel, semSignalWord, semWaitWord, Prog.lift, Prog.bind_op, Prog.bind_ret, Prog.pure_eq_ret, wp_deviceId]
  rw [dif_neg (show ¬ (k0_cond1 (1 : Dev nD) = 1#1) by decide), dif_pos (show k0_cond2 (1 : Dev nD) = 1#1 by decide), dif_neg (by decide), dif_neg (by decide)]
  rw [dev1_1, dev2_1, dev3_1]
  unfold bodyFrom ghost scr arrs
  rw [at_start1]
  iintro ⟨⟨⟨#HR, Hat, Htok⟩, Hcr, #Hlev, Hls, Harr, ⟨⟨%fk, Hkb⟩, ⟨%fv, Hvb⟩, ⟨%fo, Hob⟩, Hs3, Hs4, ⟨%f5, Hhk⟩, ⟨%f6, Hhv⟩, Hs7⟩, HO, Hwq, Hwo, Hout⟩, Hk⟩
  ihave Hcr := (cred_start1 (F := F)) $$ Hcr
  ihave Htok := (tok_start1 (F := F)) $$ Htok
  icases Hat with ⟨⟨AB, A5, A6, A7, A11, A15, A19, A23, A24, A25, A26, A27, A28, A29, A30⟩, Hun⟩
  icases Hcr with ⟨CB, C23, C24, C25, C26, C27, C28, C29, C30⟩
  icases Htok with ⟨T2b, T3b, T0b, T0_3, T0_4, T2_31, T2_32, T2_33, T2_34, T1_5, T1_6, T1_7, T1_11, T1_15, T1_19⟩
  rw [show owesL (dues 1) = owesL [(2, none), (3, none), (0, none), (0, some 3), (0, some 4), (2, some 31), (2, some 32), (2, some 33), (2, some 34)] from rfl]
  ihave Hob := (oe (ob_pieces 1 fullShare fo)) $$ Hob
  icases Hob with ⟨B0, B1, B2, B3, B4, B5, B6, B7⟩
  unfold lsems
  icases Hls with ⟨S39, S40, S41, S42⟩
  icases Harr with ⟨HX, HK, HV⟩
  icases Hs7 with ⟨%f7, H7⟩
  ihave H7 := (pointsTo_split_subset (Finset.subset_univ kvS1.view.set)).1 $$ H7
  icases H7 with ⟨H7, H7r⟩
  iapply (wp_sig m K 1 _ 2 rfl (by decide) [(3, none), (0, none), (0, some 3), (0, some 4), (2, some 31), (2, some 32), (2, some 33), (2, some 34)]) $$ [HO T2b]
  · isplitr; · iexact HR
    isplitl [HO]; · iexact HO
    isplitl [T2b]; · iexact T2b
    rw [show (barPay (F := F) 2 1 : sProp 𝕄) = iprop(emp) from rfl]; iempintro
  iintro HO
  iapply (wp_sig m K 1 _ 3 rfl (by decide) [(0, none), (0, some 3), (0, some 4), (2, some 31), (2, some 32), (2, some 33), (2, some 34)]) $$ [HO T3b]
  · isplitr; · iexact HR
    isplitl [HO]; · iexact HO
    isplitl [T3b]; · iexact T3b
    rw [show (barPay (F := F) 3 1 : sProp 𝕄) = iprop(emp) from rfl]; iempintro
  iintro HO
  iapply (wp_sig m K 1 _ 0 rfl (by decide) [(0, some 3), (0, some 4), (2, some 31), (2, some 32), (2, some 33), (2, some 34)]) $$ [HO T0b B0 B1 B2 B3 B4 B5 B6 B7]
  · isplitr; · iexact HR
    isplitl [HO]; · iexact HO
    isplitl [T0b]; · iexact T0b
    rw [show (barPay (F := F) 0 1 : sProp 𝕄) = iprop(obAny 1 0 ∗ obAny 1 1 ∗ obAny 1 2 ∗ obAny 1 3 ∗ obAny 1 4 ∗ obAny 1 5 ∗ obAny 1 6 ∗ obAny 1 7) from rfl]
    unfold obAny
    isplitl [B0]; · iexists fo; iexact B0
    isplitl [B1]; · iexists fo; iexact B1
    isplitl [B2]; · iexists fo; iexact B2
    isplitl [B3]; · iexists fo; iexact B3
    isplitl [B4]; · iexists fo; iexact B4
    isplitl [B5]; · iexists fo; iexact B5
    isplitl [B6]; · iexists fo; iexact B6
    iexists fo; iexact B7
  iintro HO
  iapply (wp_bar m K 1 0 2 3 (by decide) (by decide) (by decide) [(0, some 3), (0, some 4), (2, some 31), (2, some 32), (2, some 33), (2, some 34)] (by decide)) $$ [CB HO AB]
  · isplitr; · iexact HR
    isplitr; · iexact Hlev
    isplitl [CB]; · iexact CB
    isplitl [HO]; · iexact HO
    iexact AB
  iintro ⟨HO, AB, HP0, HP2, -⟩
  ihave HP0 := (oe (show (barPay (F := F) 1 0 : sProp 𝕄) = iprop((∃ f, kbH.view.loc ((0 : Dev nD) : Thread nD τ) ↦[kbH.view.set]{fullShare} f) ∗ (∃ f, vbH.view.loc ((0 : Dev nD) : Thread nD τ) ↦[vbH.view.set]{fullShare} f)) from rfl)) $$ HP0
  icases HP0 with ⟨⟨%ek, EK⟩, ⟨%ev, EV⟩⟩
  ihave HP2 := (oe (show (barPay (F := F) 1 2 : sProp 𝕄) = iprop((∃ f, obQ oB0 2 fullShare f) ∗ (∃ f, obQ oB2 2 fullShare f) ∗ (∃ f, obQ oB4 2 fullShare f) ∗ (∃ f, obQ oB6 2 fullShare f)) from rfl)) $$ HP2
  icases HP2 with ⟨⟨%e0, E0⟩, ⟨%e2, E2⟩, ⟨%e4, E4⟩, ⟨%e6, E6⟩⟩
  simp only [k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, Prog.lift, Prog.bind_op, Prog.bind_ret, Prog.pure_eq_ret]
  iapply (wp_fetch 1 39 sem_cp0 kS1 kvS1 kvS1.view.dmaCredit rfl (View.dmaCredit_pos _ (by decide)) (kA m 1) f7 (kvX ((kA m 1)) 0 (by decide)) (kS1_read _)) $$ [HK H7 S39]
  · isplitl [HK]; · iexact HK
    isplitl [H7]; · iexact H7
    iexact S39
  iintro HF
  iapply (wp_fetched 1 39 sem_cp0 [(0, some 3), (0, some 4), (2, some 31), (2, some 32), (2, some 33), (2, some 34)] kS1 kvS1 (by decide) kvS1.view.dmaCredit rfl (kA m 1) (kvX ((kA m 1)) 0 (by decide))) $$ [HF HO]
  · isplitr; · iexact Hlev
    isplitl [HF]; · iexact HF
    iexact HO
  iintro ⟨HO, S39, H7, HK⟩
  iapply (wp_hk (kA m 1) f5) $$ [H7 Hhk]
  · isplitl [H7]; · iexact H7
    iexact Hhk
  iintro ⟨H7, Hhk⟩
  iapply (wp_fetch 1 39 sem_cp0 vS1 kvS1 kvS1.view.dmaCredit rfl (View.dmaCredit_pos _ (by decide)) (vA m 1) (kvX (kA m 1) 0 (by decide)) (kvX ((vA m 1)) 0 (by decide)) (vS1_read _)) $$ [HV H7 S39]
  · isplitl [HV]; · iexact HV
    isplitl [H7]; · iexact H7
    iexact S39
  iintro HF
  iapply (wp_fetched 1 39 sem_cp0 [(0, some 3), (0, some 4), (2, some 31), (2, some 32), (2, some 33), (2, some 34)] vS1 kvS1 (by decide) kvS1.view.dmaCredit rfl (vA m 1) (kvX ((vA m 1)) 0 (by decide))) $$ [HF HO]
  · isplitr; · iexact Hlev
    isplitl [HF]; · iexact HF
    iexact HO
  iintro ⟨HO, S39, H7, HV⟩
  iapply (wp_hv (vA m 1) f6) $$ [H7 Hhv]
  · isplitl [H7]; · iexact H7
    iexact Hhv
  iintro ⟨H7, Hhv⟩
  iapply (wp_send m K 1 (src := hkM) (dst := kbH) _ 0 (dev20_1 (by decide)) 5 3 sem_hs0 sem_hr0 [(0, some 4), (2, some 31), (2, some 32), (2, some 33), (2, some 34)] (by decide) (by decide) (by decide) (by decide) amt_kbH rfl fullShare (haloV (kA m 1)) ek
    (oe rfl) (oe ((landed (src := hkM) (dst := kbH) (c := 1) (d := 0) (haloV (kA m 1)) ek (kbA m) fullShare fun y => halo_read (kA m 0) (kA m 1) inb_S2176x1024_S128x1024_2048_0 y).trans rfl))) $$ [Hhk EK HO T1_5 T0_3]
  · isplitr; · iexact HR
    isplitl [Hhk]; · iexact Hhk
    isplitl [EK]; · iexact EK
    isplitl [HO]; · iexact HO
    isplitl [T1_5]; · iexact T1_5
    iexact T0_3
  iintro ⟨C5, HO⟩
  iapply (wp_send m K 1 (src := hvM) (dst := vbH) _ 0 (dev21_1 (by decide)) 6 4 sem_hs1 sem_hr1 [(2, some 31), (2, some 32), (2, some 33), (2, some 34)] (by decide) (by decide) (by decide) (by decide) amt_vbH rfl fullShare (haloV (vA m 1)) ev
    (oe rfl) (oe ((landed (src := hvM) (dst := vbH) (c := 1) (d := 0) (haloV (vA m 1)) ev (vbA m) fullShare fun y => halo_read (vA m 0) (vA m 1) inb_S2176x1024_S128x1024_2048_0 y).trans rfl))) $$ [Hhv EV HO T1_6 T0_4]
  · isplitr; · iexact HR
    isplitl [Hhv]; · iexact Hhv
    isplitl [EV]; · iexact EV
    isplitl [HO]; · iexact HO
    isplitl [T1_6]; · iexact T1_6
    iexact T0_4
  iintro ⟨C6, HO⟩
  iapply (wp_dwait m K 1 23 sem_cr00 [(2, some 31), (2, some 32), (2, some 33), (2, some 34)] 0 (by decide) (by decide) (by decide) (amt_ob 0 inb_S2048x1024_S256x1024_0_0)) $$ [HO C23 A23]
  · isplitr; · iexact HR
    isplitr; · iexact Hlev
    isplitl [C23]; · iexact C23
    isplitl [HO]; · iexact HO
    iexact A23
  iintro ⟨HO, A23, P23⟩
  ihave P23 := (oe (show (dmaPay m 1 (23 : DmaSem sig).val : sProp 𝕄) = obQ oB0 1 fullShare (obA m) from rfl)) $$ P23
  ihave P23 := (pointsTo_share (PosShare.mem_left_op_right fullShare)).1 $$ P23
  icases P23 with ⟨PL0, PR0⟩
  iapply (wp_send m K 1 (src := oB0) (dst := oB0) _ 2 (dev22_1 (by decide)) 7 31 sem_cs00 sem_fa0 [(2, some 32), (2, some 33), (2, some 34)] (by decide) (by decide) (by decide) (by decide) (amt_ob 0 inb_S2048x1024_S256x1024_0_0) rfl fullShare.left (obA m) e0
    (oe rfl) (oe ((landed (src := oB0) (dst := oB0) (c := 1) (d := 2) (obA m) e0 (obA m) fullShare fun _ => rfl).trans rfl))) $$ [PL0 E0 HO T1_7 T2_31]
  · isplitr; · iexact HR
    isplitl [PL0]; · iexact PL0
    isplitl [E0]; · iexact E0
    isplitl [HO]; · iexact HO
    isplitl [T1_7]; · iexact T1_7
    iexact T2_31
  iintro ⟨C7, HO⟩
  iapply (wp_out 1 0 inb_S2048x1024_S256x1024_0_0 inb_S1x2048x1024_S1x256x1024_0_0_0 fullShare.right (obA m) o (UpTo.zero _ _) ⟨0, rfl⟩ (k0_pay103) rfl) $$ [PR0 Hout]
  · isplitl [PR0]; · iexact PR0
    iexact Hout
  iintro ⟨PR0, %g0, %hg0, Hout⟩
  iapply (wp_dwait m K 1 24 sem_cr01 [(2, some 32), (2, some 33), (2, some 34)] 0 (by decide) (by decide) (by decide) (amt_ob 256 inb_S2048x1024_S256x1024_256_0)) $$ [HO C24 A24]
  · isplitr; · iexact HR
    isplitr; · iexact Hlev
    isplitl [C24]; · iexact C24
    isplitl [HO]; · iexact HO
    iexact A24
  iintro ⟨HO, A24, P24⟩
  ihave P24 := (oe (show (dmaPay m 1 (24 : DmaSem sig).val : sProp 𝕄) = obQ oB1 1 fullShare (obA m) from rfl)) $$ P24
  iapply (wp_out 1 256 inb_S2048x1024_S256x1024_256_0 inb_S1x2048x1024_S1x256x1024_0_256_0 fullShare (obA m) g0 hg0 ⟨1, rfl⟩ (k0_pay104) rfl) $$ [P24 Hout]
  · isplitl [P24]; · iexact P24
    iexact Hout
  iintro ⟨P24, %g1, %hg1, Hout⟩
  iapply (wp_dwait m K 1 25 sem_cr10 [(2, some 32), (2, some 33), (2, some 34)] 0 (by decide) (by decide) (by decide) (amt_ob 512 inb_S2048x1024_S256x1024_512_0)) $$ [HO C25 A25]
  · isplitr; · iexact HR
    isplitr; · iexact Hlev
    isplitl [C25]; · iexact C25
    isplitl [HO]; · iexact HO
    iexact A25
  iintro ⟨HO, A25, P25⟩
  ihave P25 := (oe (show (dmaPay m 1 (25 : DmaSem sig).val : sProp 𝕄) = obQ oB2 1 fullShare (obA m) from rfl)) $$ P25
  ihave P25 := (pointsTo_share (PosShare.mem_left_op_right fullShare)).1 $$ P25
  icases P25 with ⟨PL2, PR2⟩
  iapply (wp_send m K 1 (src := oB2) (dst := oB2) _ 2 (dev23_1 (by decide)) 11 32 sem_cs10 sem_fa1 [(2, some 33), (2, some 34)] (by decide) (by decide) (by decide) (by decide) (amt_ob 512 inb_S2048x1024_S256x1024_512_0) rfl fullShare.left (obA m) e2
    (oe rfl) (oe ((landed (src := oB2) (dst := oB2) (c := 1) (d := 2) (obA m) e2 (obA m) fullShare fun _ => rfl).trans rfl))) $$ [PL2 E2 HO T1_11 T2_32]
  · isplitr; · iexact HR
    isplitl [PL2]; · iexact PL2
    isplitl [E2]; · iexact E2
    isplitl [HO]; · iexact HO
    isplitl [T1_11]; · iexact T1_11
    iexact T2_32
  iintro ⟨C11, HO⟩
  iapply (wp_out 1 512 inb_S2048x1024_S256x1024_512_0 inb_S1x2048x1024_S1x256x1024_0_512_0 fullShare.right (obA m) g1 hg1 ⟨2, rfl⟩ (fun v => k0_pay106 (k0_pay105 v)) rfl) $$ [PR2 Hout]
  · isplitl [PR2]; · iexact PR2
    iexact Hout
  iintro ⟨PR2, %g2, %hg2, Hout⟩
  iapply (wp_dwait m K 1 26 sem_cr11 [(2, some 33), (2, some 34)] 0 (by decide) (by decide) (by decide) (amt_ob 768 inb_S2048x1024_S256x1024_768_0)) $$ [HO C26 A26]
  · isplitr; · iexact HR
    isplitr; · iexact Hlev
    isplitl [C26]; · iexact C26
    isplitl [HO]; · iexact HO
    iexact A26
  iintro ⟨HO, A26, P26⟩
  ihave P26 := (oe (show (dmaPay m 1 (26 : DmaSem sig).val : sProp 𝕄) = obQ oB3 1 fullShare (obA m) from rfl)) $$ P26
  iapply (wp_out 1 768 inb_S2048x1024_S256x1024_768_0 inb_S1x2048x1024_S1x256x1024_0_768_0 fullShare (obA m) g2 hg2 ⟨3, rfl⟩ (k0_pay107) rfl) $$ [P26 Hout]
  · isplitl [P26]; · iexact P26
    iexact Hout
  iintro ⟨P26, %g3, %hg3, Hout⟩
  iapply (wp_dwait m K 1 27 sem_cr20 [(2, some 33), (2, some 34)] 0 (by decide) (by decide) (by decide) (amt_ob 1024 inb_S2048x1024_S256x1024_1024_0)) $$ [HO C27 A27]
  · isplitr; · iexact HR
    isplitr; · iexact Hlev
    isplitl [C27]; · iexact C27
    isplitl [HO]; · iexact HO
    iexact A27
  iintro ⟨HO, A27, P27⟩
  ihave P27 := (oe (show (dmaPay m 1 (27 : DmaSem sig).val : sProp 𝕄) = obQ oB4 1 fullShare (obA m) from rfl)) $$ P27
  ihave P27 := (pointsTo_share (PosShare.mem_left_op_right fullShare)).1 $$ P27
  icases P27 with ⟨PL4, PR4⟩
  iapply (wp_send m K 1 (src := oB4) (dst := oB4) _ 2 (dev24_1 (by decide)) 15 33 sem_cs20 sem_fa2 [(2, some 34)] (by decide) (by decide) (by decide) (by decide) (amt_ob 1024 inb_S2048x1024_S256x1024_1024_0) rfl fullShare.left (obA m) e4
    (oe rfl) (oe ((landed (src := oB4) (dst := oB4) (c := 1) (d := 2) (obA m) e4 (obA m) fullShare fun _ => rfl).trans rfl))) $$ [PL4 E4 HO T1_15 T2_33]
  · isplitr; · iexact HR
    isplitl [PL4]; · iexact PL4
    isplitl [E4]; · iexact E4
    isplitl [HO]; · iexact HO
    isplitl [T1_15]; · iexact T1_15
    iexact T2_33
  iintro ⟨C15, HO⟩
  iapply (wp_out 1 1024 inb_S2048x1024_S256x1024_1024_0 inb_S1x2048x1024_S1x256x1024_0_1024_0 fullShare.right (obA m) g3 hg3 ⟨4, rfl⟩ (k0_pay108) rfl) $$ [PR4 Hout]
  · isplitl [PR4]; · iexact PR4
    iexact Hout
  iintro ⟨PR4, %g4, %hg4, Hout⟩
  iapply (wp_dwait m K 1 28 sem_cr21 [(2, some 34)] 0 (by decide) (by decide) (by decide) (amt_ob 1280 inb_S2048x1024_S256x1024_1280_0)) $$ [HO C28 A28]
  · isplitr; · iexact HR
    isplitr; · iexact Hlev
    isplitl [C28]; · iexact C28
    isplitl [HO]; · iexact HO
    iexact A28
  iintro ⟨HO, A28, P28⟩
  ihave P28 := (oe (show (dmaPay m 1 (28 : DmaSem sig).val : sProp 𝕄) = obQ oB5 1 fullShare (obA m) from rfl)) $$ P28
  iapply (wp_out 1 1280 inb_S2048x1024_S256x1024_1280_0 inb_S1x2048x1024_S1x256x1024_0_1280_0 fullShare (obA m) g4 hg4 ⟨5, rfl⟩ (k0_pay109) rfl) $$ [P28 Hout]
  · isplitl [P28]; · iexact P28
    iexact Hout
  iintro ⟨P28, %g5, %hg5, Hout⟩
  iapply (wp_dwait m K 1 29 sem_cr30 [(2, some 34)] 0 (by decide) (by decide) (by decide) (amt_ob 1536 inb_S2048x1024_S256x1024_1536_0)) $$ [HO C29 A29]
  · isplitr; · iexact HR
    isplitr; · iexact Hlev
    isplitl [C29]; · iexact C29
    isplitl [HO]; · iexact HO
    iexact A29
  iintro ⟨HO, A29, P29⟩
  ihave P29 := (oe (show (dmaPay m 1 (29 : DmaSem sig).val : sProp 𝕄) = obQ oB6 1 fullShare (obA m) from rfl)) $$ P29
  ihave P29 := (pointsTo_share (PosShare.mem_left_op_right fullShare)).1 $$ P29
  icases P29 with ⟨PL6, PR6⟩
  iapply (wp_send m K 1 (src := oB6) (dst := oB6) _ 2 (dev25_1 (by decide)) 19 34 sem_cs30 sem_fa3 [] (by decide) (by decide) (by decide) (by decide) (amt_ob 1536 inb_S2048x1024_S256x1024_1536_0) rfl fullShare.left (obA m) e6
    (oe rfl) (oe ((landed (src := oB6) (dst := oB6) (c := 1) (d := 2) (obA m) e6 (obA m) fullShare fun _ => rfl).trans rfl))) $$ [PL6 E6 HO T1_19 T2_34]
  · isplitr; · iexact HR
    isplitl [PL6]; · iexact PL6
    isplitl [E6]; · iexact E6
    isplitl [HO]; · iexact HO
    isplitl [T1_19]; · iexact T1_19
    iexact T2_34
  iintro ⟨C19, HO⟩
  iapply (wp_out 1 1536 inb_S2048x1024_S256x1024_1536_0 inb_S1x2048x1024_S1x256x1024_0_1536_0 fullShare.right (obA m) g5 hg5 ⟨6, rfl⟩ (k0_pay110) rfl) $$ [PR6 Hout]
  · isplitl [PR6]; · iexact PR6
    iexact Hout
  iintro ⟨PR6, %g6, %hg6, Hout⟩
  iapply (wp_dwait m K 1 30 sem_cr31 [] 0 (by decide) (by decide) (by decide) (amt_ob 1792 inb_S2048x1024_S256x1024_1792_0)) $$ [HO C30 A30]
  · isplitr; · iexact HR
    isplitr; · iexact Hlev
    isplitl [C30]; · iexact C30
    isplitl [HO]; · iexact HO
    iexact A30
  iintro ⟨HO, A30, P30⟩
  ihave P30 := (oe (show (dmaPay m 1 (30 : DmaSem sig).val : sProp 𝕄) = obQ oB7 1 fullShare (obA m) from rfl)) $$ P30
  iapply (wp_out 1 1792 inb_S2048x1024_S256x1024_1792_0 inb_S1x2048x1024_S1x256x1024_0_1792_0 fullShare (obA m) g6 hg6 ⟨7, rfl⟩ (k0_pay111) rfl) $$ [P30 Hout]
  · isplitl [P30]; · iexact P30
    iexact Hout
  iintro ⟨P30, %g7, %hg7, Hout⟩
  iapply (wp_dwait m K 1 5 sem_hs0 [] 1 (by decide) (by decide) (by decide) amt_hk) $$ [HO C5 A5]
  · isplitr; · iexact HR
    isplitr; · iexact Hlev
    isplitl [C5]; · iexact C5
    isplitl [HO]; · iexact HO
    iexact A5
  iintro ⟨HO, A5, P5⟩
  ihave P5 := (oe (show (dmaPay m 1 (5 : DmaSem sig).val : sProp 𝕄) = (hkM.view.loc ((1 : Dev nD) : Thread nD τ) ↦[hkM.view.set]{fullShare} haloV (kA m 1)) from rfl)) $$ P5
  iapply (wp_dwait m K 1 6 sem_hs1 [] 1 (by decide) (by decide) (by decide) amt_hv) $$ [HO C6 A6]
  · isplitr; · iexact HR
    isplitr; · iexact Hlev
    isplitl [C6]; · iexact C6
    isplitl [HO]; · iexact HO
    iexact A6
  iintro ⟨HO, A6, P6⟩
  ihave P6 := (oe (show (dmaPay m 1 (6 : DmaSem sig).val : sProp 𝕄) = (hvM.view.loc ((1 : Dev nD) : Thread nD τ) ↦[hvM.view.set]{fullShare} haloV (vA m 1)) from rfl)) $$ P6
  iapply (wp_dwait m K 1 7 sem_cs00 [] 1 (by decide) (by decide) (by decide) (amt_ob 0 inb_S2048x1024_S256x1024_0_0)) $$ [HO C7 A7]
  · isplitr; · iexact HR
    isplitr; · iexact Hlev
    isplitl [C7]; · iexact C7
    isplitl [HO]; · iexact HO
    iexact A7
  iintro ⟨HO, A7, P7⟩
  ihave P7 := (oe (show (dmaPay m 1 (7 : DmaSem sig).val : sProp 𝕄) = obQ oB0 1 fullShare.left (obA m) from rfl)) $$ P7
  ihave P23 : obQ oB0 1 fullShare (obA m) $$ [P7 PR0]
  · iapply (pointsTo_share (PosShare.mem_left_op_right fullShare)).2
    isplitl [P7]; · iexact P7
    iexact PR0
  iapply (wp_dwait m K 1 11 sem_cs10 [] 1 (by decide) (by decide) (by decide) (amt_ob 512 inb_S2048x1024_S256x1024_512_0)) $$ [HO C11 A11]
  · isplitr; · iexact HR
    isplitr; · iexact Hlev
    isplitl [C11]; · iexact C11
    isplitl [HO]; · iexact HO
    iexact A11
  iintro ⟨HO, A11, P11⟩
  ihave P11 := (oe (show (dmaPay m 1 (11 : DmaSem sig).val : sProp 𝕄) = obQ oB2 1 fullShare.left (obA m) from rfl)) $$ P11
  ihave P25 : obQ oB2 1 fullShare (obA m) $$ [P11 PR2]
  · iapply (pointsTo_share (PosShare.mem_left_op_right fullShare)).2
    isplitl [P11]; · iexact P11
    iexact PR2
  iapply (wp_dwait m K 1 15 sem_cs20 [] 1 (by decide) (by decide) (by decide) (amt_ob 1024 inb_S2048x1024_S256x1024_1024_0)) $$ [HO C15 A15]
  · isplitr; · iexact HR
    isplitr; · iexact Hlev
    isplitl [C15]; · iexact C15
    isplitl [HO]; · iexact HO
    iexact A15
  iintro ⟨HO, A15, P15⟩
  ihave P15 := (oe (show (dmaPay m 1 (15 : DmaSem sig).val : sProp 𝕄) = obQ oB4 1 fullShare.left (obA m) from rfl)) $$ P15
  ihave P27 : obQ oB4 1 fullShare (obA m) $$ [P15 PR4]
  · iapply (pointsTo_share (PosShare.mem_left_op_right fullShare)).2
    isplitl [P15]; · iexact P15
    iexact PR4
  iapply (wp_dwait m K 1 19 sem_cs30 [] 1 (by decide) (by decide) (by decide) (amt_ob 1536 inb_S2048x1024_S256x1024_1536_0)) $$ [HO C19 A19]
  · isplitr; · iexact HR
    isplitr; · iexact Hlev
    isplitl [C19]; · iexact C19
    isplitl [HO]; · iexact HO
    iexact A19
  iintro ⟨HO, A19, P19⟩
  ihave P19 := (oe (show (dmaPay m 1 (19 : DmaSem sig).val : sProp 𝕄) = obQ oB6 1 fullShare.left (obA m) from rfl)) $$ P19
  ihave P29 : obQ oB6 1 fullShare (obA m) $$ [P19 PR6]
  · iapply (pointsTo_share (PosShare.mem_left_op_right fullShare)).2
    isplitl [P19]; · iexact P19
    iexact PR6
  rw [show (hkM : Memref sig .tc .vmem S128x1024 .bf16).view.set = Finset.univ from View.set_whole _]
  rw [show (hvM : Memref sig .tc .vmem S128x1024 .bf16).view.set = Finset.univ from View.set_whole _]
  obtain rfl := hg7.all (by decide)
  rw [wpD, wp_ret]
  imodintro
  iapply Hk
  unfold bodyTo scr arrs lsems
  isplitl [AB A5 A6 A7 A11 A15 A19 A23 A24 A25 A26 A27 A28 A29 A30 Hun]
  · iapply (at_end1 (F := F))
    isplitr [Hun]
    rotate_left
    · iexact Hun
    isplitl [AB]; · iexact AB
    isplitl [A5]; · iexact A5
    isplitl [A6]; · iexact A6
    isplitl [A7]; · iexact A7
    isplitl [A11]; · iexact A11
    isplitl [A15]; · iexact A15
    isplitl [A19]; · iexact A19
    isplitl [A23]; · iexact A23
    isplitl [A24]; · iexact A24
    isplitl [A25]; · iexact A25
    isplitl [A26]; · iexact A26
    isplitl [A27]; · iexact A27
    isplitl [A28]; · iexact A28
    isplitl [A29]; · iexact A29
    iexact A30
  isplitl [S39 S40 S41 S42]
  · isplitl [S39]; · iexact S39
    isplitl [S40]; · iexact S40
    isplitl [S41]; · iexact S41
    iexact S42
  isplitl [HX HK HV]
  · isplitl [HX]; · iexact HX
    isplitl [HK]; · iexact HK
    iexact HV
  isplitr [HO Hwq Hwo Hout]
  · isplitl [Hkb]; · iexists fk; iexact Hkb
    isplitl [Hvb]; · iexists fv; iexact Hvb
    isplitl [P23 P24 P25 P26 P27 P28 P29 P30]
    · iexists (obA m)
      rw [ob_rows 1]
      isplitl [P23]; · iexact P23
      isplitl [P24]; · iexact P24
      isplitl [P25]; · iexact P25
      isplitl [P26]; · iexact P26
      isplitl [P27]; · iexact P27
      isplitl [P28]; · iexact P28
      isplitl [P29]; · iexact P29
      iexact P30
    isplitl [Hs3]; · iexact Hs3
    isplitl [Hs4]; · iexact Hs4
    isplitl [P5]; · iexists _; iexact P5
    isplitl [P6]; · iexists _; iexact P6
    iapply (join_7 1 kvS1.view.set)
    isplitl [H7]; · iexists _; iexact H7
    iexists _; iexact H7r
  isplitl [HO]; · iexists _; iexact HO
  isplitl [Hwq]; · iexact Hwq
  isplitl [Hwo]; · iexact Hwo
  iexact Hout

end Cert.KIProof

end
-- ==== Proof.KI.Body2.lean ====
/-
# Devices 2 and 3

Both hand their rows buffer out. Device 2 takes the pieces in as devices 1 and 3 forward them; device 3 takes them in as
device 0 sends them, and forwards the odd ones to device 2.
-/
module

public import proofs.«01_k».proof.Proof.KI.Steps

@[expose] public section

noncomputable section

namespace Cert.KIProof

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem dev1_2 : (⟨k0_dev1 2, k0_dev1_lt 2⟩ : Dev nD) = 3 := by decide
theorem dev2_2 : (⟨k0_dev2 2, k0_dev2_lt 2⟩ : Dev nD) = 0 := by decide
theorem dev3_2 : (⟨k0_dev3 2, k0_dev3_lt 2⟩ : Dev nD) = 1 := by decide

set_option maxHeartbeats 3200000 in
/-- Device 2's body. -/
theorem body2 (K : Dev nD × Fin 37 → ℕ) (Wq Wo : Vec F S1024x1024 .f32) (o : Vec F S1x2048x1024 .f32) (W : Waits sig Unit) (Kt : PUnit → sProp 𝕄) :
    iprop(bodyFrom m K 2 Wq Wo o W ∗ (bodyTo m 2 Wq Wo (outNV (obA m)) -∗ Kt ⟨⟩))
      ⊢ wpD 2 theBody Kt := by
  unfold theBody; simp only [cc0_body_eq_skeleton]; unfold cc0_body_skel
  simp only [k0_part56_eq_skeleton, k0_part56_skel, semSignalWord, semWaitWord, Prog.lift, Prog.bind_op, Prog.bind_ret, Prog.pure_eq_ret, wp_deviceId]
  rw [dif_neg (show ¬ (k0_cond1 (2 : Dev nD) = 1#1) by decide), dif_neg (show ¬ (k0_cond2 (2 : Dev nD) = 1#1) by decide), dif_neg (show ¬ (k0_cond3 (2 : Dev nD) = 1#1) by decide), dif_pos (by decide)]
  rw [dev1_2, dev2_2, dev3_2]
  unfold bodyFrom ghost scr arrs
  rw [at_start2]
  iintro ⟨⟨⟨#HR, Hat, Htok⟩, Hcr, #Hlev, Hls, Harr, ⟨⟨%fk, Hkb⟩, ⟨%fv, Hvb⟩, ⟨%fo, Hob⟩, Hs3, Hs4, ⟨%f5, Hhk⟩, ⟨%f6, Hhv⟩, Hs7⟩, HO, Hwq, Hwo, Hout⟩, Hk⟩
  ihave Hcr := (cred_start2 (F := F)) $$ Hcr
  ihave Htok := (tok_start2 (F := F)) $$ Htok
  icases Hat with ⟨⟨AB, A31, A32, A33, A34, A35, A36, A37, A38⟩, Hun⟩
  icases Hcr with ⟨CB, C31, C32, C33, C34, C35, C36, C37, C38⟩
  icases Htok with ⟨T3b, T0b, T1b⟩
  rw [show owesL (dues 2) = owesL [(3, none), (0, none), (1, none)] from rfl]
  ihave Hob := (oe (ob_pieces 2 fullShare fo)) $$ Hob
  icases Hob with ⟨B0, B1, B2, B3, B4, B5, B6, B7⟩
  iapply (wp_sig m K 2 _ 3 rfl (by decide) [(0, none), (1, none)]) $$ [HO T3b B1 B3 B5 B7]
  · isplitr; · iexact HR
    isplitl [HO]; · iexact HO
    isplitl [T3b]; · iexact T3b
    rw [show (barPay (F := F) 3 2 : sProp 𝕄) = iprop(obAny 2 1 ∗ obAny 2 3 ∗ obAny 2 5 ∗ obAny 2 7) from rfl]
    unfold obAny
    isplitl [B1]; · iexists fo; iexact B1
    isplitl [B3]; · iexists fo; iexact B3
    isplitl [B5]; · iexists fo; iexact B5
    iexists fo; iexact B7
  iintro HO
  iapply (wp_sig m K 2 _ 0 rfl (by decide) [(1, none)]) $$ [HO T0b]
  · isplitr; · iexact HR
    isplitl [HO]; · iexact HO
    isplitl [T0b]; · iexact T0b
    rw [show (barPay (F := F) 0 2 : sProp 𝕄) = iprop(emp) from rfl]; iempintro
  iintro HO
  iapply (wp_sig m K 2 _ 1 rfl (by decide) []) $$ [HO T1b B0 B2 B4 B6]
  · isplitr; · iexact HR
    isplitl [HO]; · iexact HO
    isplitl [T1b]; · iexact T1b
    rw [show (barPay (F := F) 1 2 : sProp 𝕄) = iprop(obAny 2 0 ∗ obAny 2 2 ∗ obAny 2 4 ∗ obAny 2 6) from rfl]
    unfold obAny
    isplitl [B0]; · iexists fo; iexact B0
    isplitl [B2]; · iexists fo; iexact B2
    isplitl [B4]; · iexists fo; iexact B4
    iexists fo; iexact B6
  iintro HO
  iapply (wp_bar m K 2 0 1 3 (by decide) (by decide) (by decide) [] (by decide)) $$ [CB HO AB]
  · isplitr; · iexact HR
    isplitr; · iexact Hlev
    isplitl [CB]; · iexact CB
    isplitl [HO]; · iexact HO
    iexact AB
  iintro ⟨HO, AB, -, -, -⟩
  simp only [k0_part53_eq_skeleton, k0_part53_skel, k0_part54_eq_skeleton, k0_part54_skel, k0_part55_eq_skeleton, k0_part55_skel, Prog.lift, Prog.bind_op, Prog.bind_ret, Prog.pure_eq_ret]
  iapply (wp_dwait m K 2 31 sem_fa0 [] 1 (by decide) (by decide) (by decide) (amt_ob 0 inb_S2048x1024_S256x1024_0_0)) $$ [HO C31 A31]
  · isplitr; · iexact HR
    isplitr; · iexact Hlev
    isplitl [C31]; · iexact C31
    isplitl [HO]; · iexact HO
    iexact A31
  iintro ⟨HO, A31, P31⟩
  ihave P31 := (oe (show (dmaPay m 2 (31 : DmaSem sig).val : sProp 𝕄) = obQ oB0 2 fullShare (obA m) from rfl)) $$ P31
  iapply (wp_out 2 0 inb_S2048x1024_S256x1024_0_0 inb_S1x2048x1024_S1x256x1024_0_0_0 fullShare (obA m) o (UpTo.zero _ _) ⟨0, rfl⟩ (k0_pay121) rfl) $$ [P31 Hout]
  · isplitl [P31]; · iexact P31
    iexact Hout
  iintro ⟨P31, %g0, %hg0, Hout⟩
  iapply (wp_dwait m K 2 35 sem_fb0 [] 3 (by decide) (by decide) (by decide) (amt_ob 256 inb_S2048x1024_S256x1024_256_0)) $$ [HO C35 A35]
  · isplitr; · iexact HR
    isplitr; · iexact Hlev
    isplitl [C35]; · iexact C35
    isplitl [HO]; · iexact HO
    iexact A35
  iintro ⟨HO, A35, P35⟩
  ihave P35 := (oe (show (dmaPay m 2 (35 : DmaSem sig).val : sProp 𝕄) = obQ oB1 2 fullShare (obA m) from rfl)) $$ P35
  iapply (wp_out 2 256 inb_S2048x1024_S256x1024_256_0 inb_S1x2048x1024_S1x256x1024_0_256_0 fullShare (obA m) g0 hg0 ⟨1, rfl⟩ (k0_pay122) rfl) $$ [P35 Hout]
  · isplitl [P35]; · iexact P35
    iexact Hout
  iintro ⟨P35, %g1, %hg1, Hout⟩
  iapply (wp_dwait m K 2 32 sem_fa1 [] 1 (by decide) (by decide) (by decide) (amt_ob 512 inb_S2048x1024_S256x1024_512_0)) $$ [HO C32 A32]
  · isplitr; · iexact HR
    isplitr; · iexact Hlev
    isplitl [C32]; · iexact C32
    isplitl [HO]; · iexact HO
    iexact A32
  iintro ⟨HO, A32, P32⟩
  ihave P32 := (oe (show (dmaPay m 2 (32 : DmaSem sig).val : sProp 𝕄) = obQ oB2 2 fullShare (obA m) from rfl)) $$ P32
  iapply (wp_out 2 512 inb_S2048x1024_S256x1024_512_0 inb_S1x2048x1024_S1x256x1024_0_512_0 fullShare (obA m) g1 hg1 ⟨2, rfl⟩ (k0_pay123) rfl) $$ [P32 Hout]
  · isplitl [P32]; · iexact P32
    iexact Hout
  iintro ⟨P32, %g2, %hg2, Hout⟩
  iapply (wp_dwait m K 2 36 sem_fb1 [] 3 (by decide) (by decide) (by decide) (amt_ob 768 inb_S2048x1024_S256x1024_768_0)) $$ [HO C36 A36]
  · isplitr; · iexact HR
    isplitr; · iexact Hlev
    isplitl [C36]; · iexact C36
    isplitl [HO]; · iexact HO
    iexact A36
  iintro ⟨HO, A36, P36⟩
  ihave P36 := (oe (show (dmaPay m 2 (36 : DmaSem sig).val : sProp 𝕄) = obQ oB3 2 fullShare (obA m) from rfl)) $$ P36
  iapply (wp_out 2 768 inb_S2048x1024_S256x1024_768_0 inb_S1x2048x1024_S1x256x1024_0_768_0 fullShare (obA m) g2 hg2 ⟨3, rfl⟩ (k0_pay124) rfl) $$ [P36 Hout]
  · isplitl [P36]; · iexact P36
    iexact Hout
  iintro ⟨P36, %g3, %hg3, Hout⟩
  iapply (wp_dwait m K 2 33 sem_fa2 [] 1 (by decide) (by decide) (by decide) (amt_ob 1024 inb_S2048x1024_S256x1024_1024_0)) $$ [HO C33 A33]
  · isplitr; · iexact HR
    isplitr; · iexact Hlev
    isplitl [C33]; · iexact C33
    isplitl [HO]; · iexact HO
    iexact A33
  iintro ⟨HO, A33, P33⟩
  ihave P33 := (oe (show (dmaPay m 2 (33 : DmaSem sig).val : sProp 𝕄) = obQ oB4 2 fullShare (obA m) from rfl)) $$ P33
  iapply (wp_out 2 1024 inb_S2048x1024_S256x1024_1024_0 inb_S1x2048x1024_S1x256x1024_0_1024_0 fullShare (obA m) g3 hg3 ⟨4, rfl⟩ (k0_pay125) rfl) $$ [P33 Hout]
  · isplitl [P33]; · iexact P33
    iexact Hout
  iintro ⟨P33, %g4, %hg4, Hout⟩
  iapply (wp_dwait m K 2 37 sem_fb2 [] 3 (by decide) (by decide) (by decide) (amt_ob 1280 inb_S2048x1024_S256x1024_1280_0)) $$ [HO C37 A37]
  · isplitr; · iexact HR
    isplitr; · iexact Hlev
    isplitl [C37]; · iexact C37
    isplitl [HO]; · iexact HO
    iexact A37
  iintro ⟨HO, A37, P37⟩
  ihave P37 := (oe (show (dmaPay m 2 (37 : DmaSem sig).val : sProp 𝕄) = obQ oB5 2 fullShare (obA m) from rfl)) $$ P37
  iapply (wp_out 2 1280 inb_S2048x1024_S256x1024_1280_0 inb_S1x2048x1024_S1x256x1024_0_1280_0 fullShare (obA m) g4 hg4 ⟨5, rfl⟩ (k0_pay126) rfl) $$ [P37 Hout]
  · isplitl [P37]; · iexact P37
    iexact Hout
  iintro ⟨P37, %g5, %hg5, Hout⟩
  iapply (wp_dwait m K 2 34 sem_fa3 [] 1 (by decide) (by decide) (by decide) (amt_ob 1536 inb_S2048x1024_S256x1024_1536_0)) $$ [HO C34 A34]
  · isplitr; · iexact HR
    isplitr; · iexact Hlev
    isplitl [C34]; · iexact C34
    isplitl [HO]; · iexact HO
    iexact A34
  iintro ⟨HO, A34, P34⟩
  ihave P34 := (oe (show (dmaPay m 2 (34 : DmaSem sig).val : sProp 𝕄) = obQ oB6 2 fullShare (obA m) from rfl)) $$ P34
  iapply (wp_out 2 1536 inb_S2048x1024_S256x1024_1536_0 inb_S1x2048x1024_S1x256x1024_0_1536_0 fullShare (obA m) g5 hg5 ⟨6, rfl⟩ (k0_pay1) rfl) $$ [P34 Hout]
  · isplitl [P34]; · iexact P34
    iexact Hout
  iintro ⟨P34, %g6, %hg6, Hout⟩
  iapply (wp_dwait m K 2 38 sem_fb3 [] 3 (by decide) (by decide) (by decide) (amt_ob 1792 inb_S2048x1024_S256x1024_1792_0)) $$ [HO C38 A38]
  · isplitr; · iexact HR
    isplitr; · iexact Hlev
    isplitl [C38]; · iexact C38
    isplitl [HO]; · iexact HO
    iexact A38
  iintro ⟨HO, A38, P38⟩
  ihave P38 := (oe (show (dmaPay m 2 (38 : DmaSem sig).val : sProp 𝕄) = obQ oB7 2 fullShare (obA m) from rfl)) $$ P38
  iapply (wp_out 2 1792 inb_S2048x1024_S256x1024_1792_0 inb_S1x2048x1024_S1x256x1024_0_1792_0 fullShare (obA m) g6 hg6 ⟨7, rfl⟩ (k0_pay2) rfl) $$ [P38 Hout]
  · isplitl [P38]; · iexact P38
    iexact Hout
  iintro ⟨P38, %g7, %hg7, Hout⟩
  obtain rfl := hg7.all (by decide)
  rw [wpD, wp_ret]
  imodintro
  iapply Hk
  unfold bodyTo scr arrs
  isplitl [AB A31 A32 A33 A34 A35 A36 A37 A38 Hun]
  · iapply (at_end2 (F := F))
    isplitr [Hun]
    rotate_left
    · iexact Hun
    isplitl [AB]; · iexact AB
    isplitl [A31]; · iexact A31
    isplitl [A32]; · iexact A32
    isplitl [A33]; · iexact A33
    isplitl [A34]; · iexact A34
    isplitl [A35]; · iexact A35
    isplitl [A36]; · iexact A36
    isplitl [A37]; · iexact A37
    iexact A38
  isplitl [Hls]; · iexact Hls
  isplitl [Harr]; · iexact Harr
  isplitr [HO Hwq Hwo Hout]
  · isplitl [Hkb]; · iexists fk; iexact Hkb
    isplitl [Hvb]; · iexists fv; iexact Hvb
    isplitl [P31 P35 P32 P36 P33 P37 P34 P38]
    · iexists (obA m)
      rw [ob_rows 2]
      isplitl [P31]; · iexact P31
      isplitl [P35]; · iexact P35
      isplitl [P32]; · iexact P32
      isplitl [P36]; · iexact P36
      isplitl [P33]; · iexact P33
      isplitl [P37]; · iexact P37
      isplitl [P34]; · iexact P34
      iexact P38
    isplitl [Hs3]; · iexact Hs3
    isplitl [Hs4]; · iexact Hs4
    isplitl [Hhk]; · iexists f5; iexact Hhk
    isplitl [Hhv]; · iexists f6; iexact Hhv
    iexact Hs7
  isplitl [HO]; · iexists _; iexact HO
  isplitl [Hwq]; · iexact Hwq
  isplitl [Hwo]; · iexact Hwo
  iexact Hout

theorem dev1_3 : (⟨k0_dev1 3, k0_dev1_lt 3⟩ : Dev nD) = 0 := by decide
theorem dev2_3 : (⟨k0_dev2 3, k0_dev2_lt 3⟩ : Dev nD) = 1 := by decide
theorem dev3_3 : (⟨k0_dev3 3, k0_dev3_lt 3⟩ : Dev nD) = 2 := by decide
theorem dev26_3 (h : k0_cond3 (3 : Dev nD) = 1#1) : (⟨k0_dev26, k0_dev26_lt 3 h⟩ : Dev nD) = 2 := Fin.ext (show k0_dev26 = 2 from by decide)
theorem dev27_3 (h : k0_cond3 (3 : Dev nD) = 1#1) : (⟨k0_dev27, k0_dev27_lt 3 h⟩ : Dev nD) = 2 := Fin.ext (show k0_dev27 = 2 from by decide)
theorem dev28_3 (h : k0_cond3 (3 : Dev nD) = 1#1) : (⟨k0_dev28, k0_dev28_lt 3 h⟩ : Dev nD) = 2 := Fin.ext (show k0_dev28 = 2 from by decide)
theorem dev29_3 (h : k0_cond3 (3 : Dev nD) = 1#1) : (⟨k0_dev29, k0_dev29_lt 3 h⟩ : Dev nD) = 2 := Fin.ext (show k0_dev29 = 2 from by decide)

set_option maxHeartbeats 3200000 in
/-- Device 3's body. -/
theorem body3 (K : Dev nD × Fin 37 → ℕ) (Wq Wo : Vec F S1024x1024 .f32) (o : Vec F S1x2048x1024 .f32) (W : Waits sig Unit) (Kt : PUnit → sProp 𝕄) :
    iprop(bodyFrom m K 3 Wq Wo o W ∗ (bodyTo m 3 Wq Wo (outNV (obA m)) -∗ Kt ⟨⟩))
      ⊢ wpD 3 theBody Kt := by
  unfold theBody; simp only [cc0_body_eq_skeleton]; unfold cc0_body_skel
  simp only [k0_part56_eq_skeleton, k0_part56_skel, semSignalWord, semWaitWord, Prog.lift, Prog.bind_op, Prog.bind_ret, Prog.pure_eq_ret, wp_deviceId]
  rw [dif_neg (show ¬ (k0_cond1 (3 : Dev nD) = 1#1) by decide), dif_neg (show ¬ (k0_cond2 (3 : Dev nD) = 1#1) by decide), dif_pos (show k0_cond3 (3 : Dev nD) = 1#1 by decide), dif_neg (by decide)]
  rw [dev1_3, dev2_3, dev3_3]
  unfold bodyFrom ghost scr arrs
  rw [at_start3]
  iintro ⟨⟨⟨#HR, Hat, Htok⟩, Hcr, #Hlev, Hls, Harr, ⟨⟨%fk, Hkb⟩, ⟨%fv, Hvb⟩, ⟨%fo, Hob⟩, Hs3, Hs4, ⟨%f5, Hhk⟩, ⟨%f6, Hhv⟩, Hs7⟩, HO, Hwq, Hwo, Hout⟩, Hk⟩
  ihave Hcr := (cred_start3 (F := F)) $$ Hcr
  ihave Htok := (tok_start3 (F := F)) $$ Htok
  icases Hat with ⟨⟨AB, A8, A12, A16, A20, A23, A24, A25, A26, A27, A28, A29, A30⟩, Hun⟩
  icases Hcr with ⟨CB, C23, C24, C25, C26, C27, C28, C29, C30⟩
  icases Htok with ⟨T0b, T1b, T2b, T2_35, T2_36, T2_37, T2_38, T3_8, T3_12, T3_16, T3_20⟩
  rw [show owesL (dues 3) = owesL [(0, none), (1, none), (2, none), (2, some 35), (2, some 36), (2, some 37), (2, some 38)] from rfl]
  ihave Hob := (oe (ob_pieces 3 fullShare fo)) $$ Hob
  icases Hob with ⟨B0, B1, B2, B3, B4, B5, B6, B7⟩
  iapply (wp_sig m K 3 _ 0 rfl (by decide) [(1, none), (2, none), (2, some 35), (2, some 36), (2, some 37), (2, some 38)]) $$ [HO T0b B0 B1 B2 B3 B4 B5 B6 B7]
  · isplitr; · iexact HR
    isplitl [HO]; · iexact HO
    isplitl [T0b]; · iexact T0b
    rw [show (barPay (F := F) 0 3 : sProp 𝕄) = iprop(obAny 3 0 ∗ obAny 3 1 ∗ obAny 3 2 ∗ obAny 3 3 ∗ obAny 3 4 ∗ obAny 3 5 ∗ obAny 3 6 ∗ obAny 3 7) from rfl]
    unfold obAny
    isplitl [B0]; · iexists fo; iexact B0
    isplitl [B1]; · iexists fo; iexact B1
    isplitl [B2]; · iexists fo; iexact B2
    isplitl [B3]; · iexists fo; iexact B3
    isplitl [B4]; · iexists fo; iexact B4
    isplitl [B5]; · iexists fo; iexact B5
    isplitl [B6]; · iexists fo; iexact B6
    iexists fo; iexact B7
  iintro HO
  iapply (wp_sig m K 3 _ 1 rfl (by decide) [(2, none), (2, some 35), (2, some 36), (2, some 37), (2, some 38)]) $$ [HO T1b]
  · isplitr; · iexact HR
    isplitl [HO]; · iexact HO
    isplitl [T1b]; · iexact T1b
    rw [show (barPay (F := F) 1 3 : sProp 𝕄) = iprop(emp) from rfl]; iempintro
  iintro HO
  iapply (wp_sig m K 3 _ 2 rfl (by decide) [(2, some 35), (2, some 36), (2, some 37), (2, some 38)]) $$ [HO T2b]
  · isplitr; · iexact HR
    isplitl [HO]; · iexact HO
    isplitl [T2b]; · iexact T2b
    rw [show (barPay (F := F) 2 3 : sProp 𝕄) = iprop(emp) from rfl]; iempintro
  iintro HO
  iapply (wp_bar m K 3 0 1 2 (by decide) (by decide) (by decide) [(2, some 35), (2, some 36), (2, some 37), (2, some 38)] (by decide)) $$ [CB HO AB]
  · isplitr; · iexact HR
    isplitr; · iexact Hlev
    isplitl [CB]; · iexact CB
    isplitl [HO]; · iexact HO
    iexact AB
  iintro ⟨HO, AB, -, -, HP2⟩
  ihave HP2 := (oe (show (barPay (F := F) 3 2 : sProp 𝕄) = iprop((∃ f, obQ oB1 2 fullShare f) ∗ (∃ f, obQ oB3 2 fullShare f) ∗ (∃ f, obQ oB5 2 fullShare f) ∗ (∃ f, obQ oB7 2 fullShare f)) from rfl)) $$ HP2
  icases HP2 with ⟨⟨%e1, E1⟩, ⟨%e3, E3⟩, ⟨%e5, E5⟩, ⟨%e7, E7⟩⟩
  simp only [k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, Prog.lift, Prog.bind_op, Prog.bind_ret, Prog.pure_eq_ret]
  iapply (wp_dwait m K 3 24 sem_cr01 [(2, some 35), (2, some 36), (2, some 37), (2, some 38)] 0 (by decide) (by decide) (by decide) (amt_ob 256 inb_S2048x1024_S256x1024_256_0)) $$ [HO C24 A24]
  · isplitr; · iexact HR
    isplitr; · iexact Hlev
    isplitl [C24]; · iexact C24
    isplitl [HO]; · iexact HO
    iexact A24
  iintro ⟨HO, A24, P24⟩
  ihave P24 := (oe (show (dmaPay m 3 (24 : DmaSem sig).val : sProp 𝕄) = obQ oB1 3 fullShare (obA m) from rfl)) $$ P24
  ihave P24 := (pointsTo_share (PosShare.mem_left_op_right fullShare)).1 $$ P24
  icases P24 with ⟨PL1, PR1⟩
  iapply (wp_send m K 3 (src := oB1) (dst := oB1) _ 2 (dev26_3 (by decide)) 8 35 sem_cs01 sem_fb0 [(2, some 36), (2, some 37), (2, some 38)] (by decide) (by decide) (by decide) (by decide) (amt_ob 256 inb_S2048x1024_S256x1024_256_0) rfl fullShare.left (obA m) e1
    (oe rfl) (oe ((landed (src := oB1) (dst := oB1) (c := 3) (d := 2) (obA m) e1 (obA m) fullShare fun _ => rfl).trans rfl))) $$ [PL1 E1 HO T3_8 T2_35]
  · isplitr; · iexact HR
    isplitl [PL1]; · iexact PL1
    isplitl [E1]; · iexact E1
    isplitl [HO]; · iexact HO
    isplitl [T3_8]; · iexact T3_8
    iexact T2_35
  iintro ⟨C8, HO⟩
  iapply (wp_out 3 256 inb_S2048x1024_S256x1024_256_0 inb_S1x2048x1024_S1x256x1024_0_256_0 fullShare.right (obA m) o (UpTo.zero _ _) ⟨1, rfl⟩ (k0_pay112) rfl) $$ [PR1 Hout]
  · isplitl [PR1]; · iexact PR1
    iexact Hout
  iintro ⟨PR1, %g1, %hg1, Hout⟩
  iapply (wp_dwait m K 3 23 sem_cr00 [(2, some 36), (2, some 37), (2, some 38)] 0 (by decide) (by decide) (by decide) (amt_ob 0 inb_S2048x1024_S256x1024_0_0)) $$ [HO C23 A23]
  · isplitr; · iexact HR
    isplitr; · iexact Hlev
    isplitl [C23]; · iexact C23
    isplitl [HO]; · iexact HO
    iexact A23
  iintro ⟨HO, A23, P23⟩
  ihave P23 := (oe (show (dmaPay m 3 (23 : DmaSem sig).val : sProp 𝕄) = obQ oB0 3 fullShare (obA m) from rfl)) $$ P23
  iapply (wp_out 3 0 inb_S2048x1024_S256x1024_0_0 inb_S1x2048x1024_S1x256x1024_0_0_0 fullShare (obA m) g1 hg1 ⟨0, rfl⟩ (k0_pay113) rfl) $$ [P23 Hout]
  · isplitl [P23]; · iexact P23
    iexact Hout
  iintro ⟨P23, %g0, %hg0, Hout⟩
  iapply (wp_dwait m K 3 26 sem_cr11 [(2, some 36), (2, some 37), (2, some 38)] 0 (by decide) (by decide) (by decide) (amt_ob 768 inb_S2048x1024_S256x1024_768_0)) $$ [HO C26 A26]
  · isplitr; · iexact HR
    isplitr; · iexact Hlev
    isplitl [C26]; · iexact C26
    isplitl [HO]; · iexact HO
    iexact A26
  iintro ⟨HO, A26, P26⟩
  ihave P26 := (oe (show (dmaPay m 3 (26 : DmaSem sig).val : sProp 𝕄) = obQ oB3 3 fullShare (obA m) from rfl)) $$ P26
  ihave P26 := (pointsTo_share (PosShare.mem_left_op_right fullShare)).1 $$ P26
  icases P26 with ⟨PL3, PR3⟩
  iapply (wp_send m K 3 (src := oB3) (dst := oB3) _ 2 (dev27_3 (by decide)) 12 36 sem_cs11 sem_fb1 [(2, some 37), (2, some 38)] (by decide) (by decide) (by decide) (by decide) (amt_ob 768 inb_S2048x1024_S256x1024_768_0) rfl fullShare.left (obA m) e3
    (oe rfl) (oe ((landed (src := oB3) (dst := oB3) (c := 3) (d := 2) (obA m) e3 (obA m) fullShare fun _ => rfl).trans rfl))) $$ [PL3 E3 HO T3_12 T2_36]
  · isplitr; · iexact HR
    isplitl [PL3]; · iexact PL3
    isplitl [E3]; · iexact E3
    isplitl [HO]; · iexact HO
    isplitl [T3_12]; · iexact T3_12
    iexact T2_36
  iintro ⟨C12, HO⟩
  iapply (wp_out 3 768 inb_S2048x1024_S256x1024_768_0 inb_S1x2048x1024_S1x256x1024_0_768_0 fullShare.right (obA m) g0 hg0 ⟨3, rfl⟩ (fun v => k0_pay115 (k0_pay114 v)) rfl) $$ [PR3 Hout]
  · isplitl [PR3]; · iexact PR3
    iexact Hout
  iintro ⟨PR3, %g3, %hg3, Hout⟩
  iapply (wp_dwait m K 3 25 sem_cr10 [(2, some 37), (2, some 38)] 0 (by decide) (by decide) (by decide) (amt_ob 512 inb_S2048x1024_S256x1024_512_0)) $$ [HO C25 A25]
  · isplitr; · iexact HR
    isplitr; · iexact Hlev
    isplitl [C25]; · iexact C25
    isplitl [HO]; · iexact HO
    iexact A25
  iintro ⟨HO, A25, P25⟩
  ihave P25 := (oe (show (dmaPay m 3 (25 : DmaSem sig).val : sProp 𝕄) = obQ oB2 3 fullShare (obA m) from rfl)) $$ P25
  iapply (wp_out 3 512 inb_S2048x1024_S256x1024_512_0 inb_S1x2048x1024_S1x256x1024_0_512_0 fullShare (obA m) g3 hg3 ⟨2, rfl⟩ (k0_pay116) rfl) $$ [P25 Hout]
  · isplitl [P25]; · iexact P25
    iexact Hout
  iintro ⟨P25, %g2, %hg2, Hout⟩
  iapply (wp_dwait m K 3 28 sem_cr21 [(2, some 37), (2, some 38)] 0 (by decide) (by decide) (by decide) (amt_ob 1280 inb_S2048x1024_S256x1024_1280_0)) $$ [HO C28 A28]
  · isplitr; · iexact HR
    isplitr; · iexact Hlev
    isplitl [C28]; · iexact C28
    isplitl [HO]; · iexact HO
    iexact A28
  iintro ⟨HO, A28, P28⟩
  ihave P28 := (oe (show (dmaPay m 3 (28 : DmaSem sig).val : sProp 𝕄) = obQ oB5 3 fullShare (obA m) from rfl)) $$ P28
  ihave P28 := (pointsTo_share (PosShare.mem_left_op_right fullShare)).1 $$ P28
  icases P28 with ⟨PL5, PR5⟩
  iapply (wp_send m K 3 (src := oB5) (dst := oB5) _ 2 (dev28_3 (by decide)) 16 37 sem_cs21 sem_fb2 [(2, some 38)] (by decide) (by decide) (by decide) (by decide) (amt_ob 1280 inb_S2048x1024_S256x1024_1280_0) rfl fullShare.left (obA m) e5
    (oe rfl) (oe ((landed (src := oB5) (dst := oB5) (c := 3) (d := 2) (obA m) e5 (obA m) fullShare fun _ => rfl).trans rfl))) $$ [PL5 E5 HO T3_16 T2_37]
  · isplitr; · iexact HR
    isplitl [PL5]; · iexact PL5
    isplitl [E5]; · iexact E5
    isplitl [HO]; · iexact HO
    isplitl [T3_16]; · iexact T3_16
    iexact T2_37
  iintro ⟨C16, HO⟩
  iapply (wp_out 3 1280 inb_S2048x1024_S256x1024_1280_0 inb_S1x2048x1024_S1x256x1024_0_1280_0 fullShare.right (obA m) g2 hg2 ⟨5, rfl⟩ (k0_pay117) rfl) $$ [PR5 Hout]
  · isplitl [PR5]; · iexact PR5
    iexact Hout
  iintro ⟨PR5, %g5, %hg5, Hout⟩
  iapply (wp_dwait m K 3 27 sem_cr20 [(2, some 38)] 0 (by decide) (by decide) (by decide) (amt_ob 1024 inb_S2048x1024_S256x1024_1024_0)) $$ [HO C27 A27]
  · isplitr; · iexact HR
    isplitr; · iexact Hlev
    isplitl [C27]; · iexact C27
    isplitl [HO]; · iexact HO
    iexact A27
  iintro ⟨HO, A27, P27⟩
  ihave P27 := (oe (show (dmaPay m 3 (27 : DmaSem sig).val : sProp 𝕄) = obQ oB4 3 fullShare (obA m) from rfl)) $$ P27
  iapply (wp_out 3 1024 inb_S2048x1024_S256x1024_1024_0 inb_S1x2048x1024_S1x256x1024_0_1024_0 fullShare (obA m) g5 hg5 ⟨4, rfl⟩ (k0_pay118) rfl) $$ [P27 Hout]
  · isplitl [P27]; · iexact P27
    iexact Hout
  iintro ⟨P27, %g4, %hg4, Hout⟩
  iapply (wp_dwait m K 3 30 sem_cr31 [(2, some 38)] 0 (by decide) (by decide) (by decide) (amt_ob 1792 inb_S2048x1024_S256x1024_1792_0)) $$ [HO C30 A30]
  · isplitr; · iexact HR
    isplitr; · iexact Hlev
    isplitl [C30]; · iexact C30
    isplitl [HO]; · iexact HO
    iexact A30
  iintro ⟨HO, A30, P30⟩
  ihave P30 := (oe (show (dmaPay m 3 (30 : DmaSem sig).val : sProp 𝕄) = obQ oB7 3 fullShare (obA m) from rfl)) $$ P30
  ihave P30 := (pointsTo_share (PosShare.mem_left_op_right fullShare)).1 $$ P30
  icases P30 with ⟨PL7, PR7⟩
  iapply (wp_send m K 3 (src := oB7) (dst := oB7) _ 2 (dev29_3 (by decide)) 20 38 sem_cs31 sem_fb3 [] (by decide) (by decide) (by decide) (by decide) (amt_ob 1792 inb_S2048x1024_S256x1024_1792_0) rfl fullShare.left (obA m) e7
    (oe rfl) (oe ((landed (src := oB7) (dst := oB7) (c := 3) (d := 2) (obA m) e7 (obA m) fullShare fun _ => rfl).trans rfl))) $$ [PL7 E7 HO T3_20 T2_38]
  · isplitr; · iexact HR
    isplitl [PL7]; · iexact PL7
    isplitl [E7]; · iexact E7
    isplitl [HO]; · iexact HO
    isplitl [T3_20]; · iexact T3_20
    iexact T2_38
  iintro ⟨C20, HO⟩
  iapply (wp_out 3 1792 inb_S2048x1024_S256x1024_1792_0 inb_S1x2048x1024_S1x256x1024_0_1792_0 fullShare.right (obA m) g4 hg4 ⟨7, rfl⟩ (k0_pay119) rfl) $$ [PR7 Hout]
  · isplitl [PR7]; · iexact PR7
    iexact Hout
  iintro ⟨PR7, %g7, %hg7, Hout⟩
  iapply (wp_dwait m K 3 29 sem_cr30 [] 0 (by decide) (by decide) (by decide) (amt_ob 1536 inb_S2048x1024_S256x1024_1536_0)) $$ [HO C29 A29]
  · isplitr; · iexact HR
    isplitr; · iexact Hlev
    isplitl [C29]; · iexact C29
    isplitl [HO]; · iexact HO
    iexact A29
  iintro ⟨HO, A29, P29⟩
  ihave P29 := (oe (show (dmaPay m 3 (29 : DmaSem sig).val : sProp 𝕄) = obQ oB6 3 fullShare (obA m) from rfl)) $$ P29
  iapply (wp_out 3 1536 inb_S2048x1024_S256x1024_1536_0 inb_S1x2048x1024_S1x256x1024_0_1536_0 fullShare (obA m) g7 hg7 ⟨6, rfl⟩ (k0_pay120) rfl) $$ [P29 Hout]
  · isplitl [P29]; · iexact P29
    iexact Hout
  iintro ⟨P29, %g6, %hg6, Hout⟩
  iapply (wp_dwait m K 3 8 sem_cs01 [] 3 (by decide) (by decide) (by decide) (amt_ob 256 inb_S2048x1024_S256x1024_256_0)) $$ [HO C8 A8]
  · isplitr; · iexact HR
    isplitr; · iexact Hlev
    isplitl [C8]; · iexact C8
    isplitl [HO]; · iexact HO
    iexact A8
  iintro ⟨HO, A8, P8⟩
  ihave P8 := (oe (show (dmaPay m 3 (8 : DmaSem sig).val : sProp 𝕄) = obQ oB1 3 fullShare.left (obA m) from rfl)) $$ P8
  ihave P24 : obQ oB1 3 fullShare (obA m) $$ [P8 PR1]
  · iapply (pointsTo_share (PosShare.mem_left_op_right fullShare)).2
    isplitl [P8]; · iexact P8
    iexact PR1
  iapply (wp_dwait m K 3 12 sem_cs11 [] 3 (by decide) (by decide) (by decide) (amt_ob 768 inb_S2048x1024_S256x1024_768_0)) $$ [HO C12 A12]
  · isplitr; · iexact HR
    isplitr; · iexact Hlev
    isplitl [C12]; · iexact C12
    isplitl [HO]; · iexact HO
    iexact A12
  iintro ⟨HO, A12, P12⟩
  ihave P12 := (oe (show (dmaPay m 3 (12 : DmaSem sig).val : sProp 𝕄) = obQ oB3 3 fullShare.left (obA m) from rfl)) $$ P12
  ihave P26 : obQ oB3 3 fullShare (obA m) $$ [P12 PR3]
  · iapply (pointsTo_share (PosShare.mem_left_op_right fullShare)).2
    isplitl [P12]; · iexact P12
    iexact PR3
  iapply (wp_dwait m K 3 16 sem_cs21 [] 3 (by decide) (by decide) (by decide) (amt_ob 1280 inb_S2048x1024_S256x1024_1280_0)) $$ [HO C16 A16]
  · isplitr; · iexact HR
    isplitr; · iexact Hlev
    isplitl [C16]; · iexact C16
    isplitl [HO]; · iexact HO
    iexact A16
  iintro ⟨HO, A16, P16⟩
  ihave P16 := (oe (show (dmaPay m 3 (16 : DmaSem sig).val : sProp 𝕄) = obQ oB5 3 fullShare.left (obA m) from rfl)) $$ P16
  ihave P28 : obQ oB5 3 fullShare (obA m) $$ [P16 PR5]
  · iapply (pointsTo_share (PosShare.mem_left_op_right fullShare)).2
    isplitl [P16]; · iexact P16
    iexact PR5
  iapply (wp_dwait m K 3 20 sem_cs31 [] 3 (by decide) (by decide) (by decide) (amt_ob 1792 inb_S2048x1024_S256x1024_1792_0)) $$ [HO C20 A20]
  · isplitr; · iexact HR
    isplitr; · iexact Hlev
    isplitl [C20]; · iexact C20
    isplitl [HO]; · iexact HO
    iexact A20
  iintro ⟨HO, A20, P20⟩
  ihave P20 := (oe (show (dmaPay m 3 (20 : DmaSem sig).val : sProp 𝕄) = obQ oB7 3 fullShare.left (obA m) from rfl)) $$ P20
  ihave P30 : obQ oB7 3 fullShare (obA m) $$ [P20 PR7]
  · iapply (pointsTo_share (PosShare.mem_left_op_right fullShare)).2
    isplitl [P20]; · iexact P20
    iexact PR7
  obtain rfl := hg6.all (by decide)
  rw [wpD, wp_ret]
  imodintro
  iapply Hk
  unfold bodyTo scr arrs
  isplitl [AB A8 A12 A16 A20 A23 A24 A25 A26 A27 A28 A29 A30 Hun]
  · iapply (at_end3 (F := F))
    isplitr [Hun]
    rotate_left
    · iexact Hun
    isplitl [AB]; · iexact AB
    isplitl [A8]; · iexact A8
    isplitl [A12]; · iexact A12
    isplitl [A16]; · iexact A16
    isplitl [A20]; · iexact A20
    isplitl [A23]; · iexact A23
    isplitl [A24]; · iexact A24
    isplitl [A25]; · iexact A25
    isplitl [A26]; · iexact A26
    isplitl [A27]; · iexact A27
    isplitl [A28]; · iexact A28
    isplitl [A29]; · iexact A29
    iexact A30
  isplitl [Hls]; · iexact Hls
  isplitl [Harr]; · iexact Harr
  isplitr [HO Hwq Hwo Hout]
  · isplitl [Hkb]; · iexists fk; iexact Hkb
    isplitl [Hvb]; · iexists fv; iexact Hvb
    isplitl [P23 P24 P25 P26 P27 P28 P29 P30]
    · iexists (obA m)
      rw [ob_rows 3]
      isplitl [P23]; · iexact P23
      isplitl [P24]; · iexact P24
      isplitl [P25]; · iexact P25
      isplitl [P26]; · iexact P26
      isplitl [P27]; · iexact P27
      isplitl [P28]; · iexact P28
      isplitl [P29]; · iexact P29
      iexact P30
    isplitl [Hs3]; · iexact Hs3
    isplitl [Hs4]; · iexact Hs4
    isplitl [Hhk]; · iexists f5; iexact Hhk
    isplitl [Hhv]; · iexists f6; iexact Hhv
    iexact Hs7
  isplitl [HO]; · iexists _; iexact HO
  isplitl [Hwq]; · iexact Hwq
  isplitl [Hwo]; · iexact Hwo
  iexact Hout

end Cert.KIProof

end
-- ==== Proof.KI.Launch.lean ====
/-
# The launch

The protocol's cells and tokens are made at launch, the four bodies are run, and the final memory is read: the argument
arrays as they were, device 0's result the four chunks, the others' result the rounded rows, every counter at zero.
-/
module

public import proofs.«01_k».proof.Proof.KI.Body0
public import proofs.«01_k».proof.Proof.KI.Body1
public import proofs.«01_k».proof.Proof.KI.Body2
public import proofs.«01_k».proof.Proof.Gen.KernelIdeal.Points
public import Idealize.ShloMosaic.Lib.Tactic
public import Idealize.ShloMosaic.Lib.Pipeline.CollectiveSegs

@[expose] public section

noncomputable section

namespace Cert.KIProof

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The windows -/

def s₀ : MemSt nD τ sig (Elt F) := ⟨m, fun _ => 0, ρ⟩

/-- What the two staged inputs hold in the body. -/
def stq (c : Dev nD) : Vec F S1024x1024 .f32 := (win0_0.blk (0 : Fin 1)).view.read (Elt F) (m ((c : Thread nD τ).loc main_arg1))
def sto (c : Dev nD) : Vec F S1024x1024 .f32 := (win0_1.blk (0 : Fin 1)).view.read (Elt F) (m ((c : Thread nD τ).loc main_arg4))

omit [FloatOps F] [Named F] in
theorem blk0_read (f : Vec F S1024x1024 .f32) : (win0_0.blk (0 : Fin 1)).view.read (Elt F) f = f :=
  Memref.readAt_unit_zero (Elt F) main_arg1 (funext fun a => by fin_cases a <;> rfl) _ f
omit [FloatOps F] [Named F] in
theorem blk1_read (f : Vec F S1024x1024 .f32) : (win0_1.blk (0 : Fin 1)).view.read (Elt F) f = f :=
  Memref.readAt_unit_zero (Elt F) main_arg4 (funext fun a => by fin_cases a <;> rfl) _ f
omit [FloatOps F] [Named F] in
theorem blk2_read (f : Vec F S1x2048x1024 .f32) : (win0_2.blk (0 : Fin 1)).view.read (Elt F) f = f :=
  Memref.readAt_unit_zero (Elt F) main_v1 (funext fun a => by fin_cases a <;> rfl) _ f
theorem stq_zero : stq m 0 = wqA m := blk0_read _
theorem sto_zero : sto m 0 = woA m := blk1_read _

/-- After the bodies: the kernel's own counters and the barrier's at zero, the arrays and the scratch buffers. -/
def Φ₁ (c : Dev nD) : sProp 𝕄 :=
  iprop((bigSep Finset.univ fun k : Fin 37 => semVal (kcell (c, k)) 0) ∗ lsems c ∗ arrs m c ∗ scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stq m c
    | ⟨1, _⟩ => sto m c
    | ⟨2, _⟩ => outA m c
  Φ t := match t with
    | ⟨0, _⟩ => iprop(start m c ∗ scr c)
    | ⟨_ + 1, _⟩ => Φ₁ m c
  q _ := fullShare
  owed t := match t with
    | ⟨0, _⟩ => O₀ c
    | ⟨_ + 1, _⟩ => 0

omit [FloatOps F] [Named F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- All of a device's cells closed: each counter at zero. -/
theorem close_cells (K : Dev nD × Fin 37 → ℕ) (c : Dev nD) :
    iprop(records m K ∗ atEnd c) ⊢ |={Set.univ}=> (bigSep Finset.univ fun k : Fin 37 => semVal (kcell (c, k)) 0 : sProp 𝕄) := by
  refine BIBase.Entails.trans ?_ (bigSep_fupd _ _)
  unfold atEnd
  refine (sep_mono_left (BI.bigSep_of_persistent (Finset.univ : Finset (Fin 37)) (records m K))).trans ?_
  rw [← bigSep_sep']
  refine bigSep_mono fun k _ => ?_
  refine BIBase.Entails.trans (sep_mono_left ((records_inv m K).trans (bigSep_elim (Finset.mem_univ (c, k))))) ?_
  refine Rounds.cell_close ER (kRd m) (Set.mem_univ (K (c, k))) (fun h => h) ?_
  intro r hr
  by_cases h : usedK c k = true
  · rw [if_pos h] at hr; exact duties_later m _ r hr
  · have hk : k.val ≠ 0 := fun h0 => h (Bool.or_eq_true_iff.mpr (Or.inl (decide_eq_true h0)))
    have hc : csem k = .dma ⟨k.val + 2, show k.val + 2 < 43 by omega⟩ := if_neg hk
    have hp : payer c ⟨k.val + 2, show k.val + 2 < 43 by omega⟩ = none := by
      have hm : (⟨(k.val + 2) % 43, Nat.mod_lt _ (by decide)⟩ : DmaSem sig) = ⟨k.val + 2, show k.val + 2 < 43 by omega⟩ :=
        Fin.ext (Nat.mod_eq_of_lt (by omega))
      unfold usedK at h
      rw [Bool.or_eq_true, not_or, hm] at h
      exact Option.not_isSome_iff_eq_none.mp h.2
    unfold kcell
    rw [hc]
    exact duties_none m c _ hp r

set_option maxRecDepth 20000 in
theorem body_any (K : Dev nD × Fin 37 → ℕ) (c : Dev nD) (o : Vec F S1x2048x1024 .f32) (W : Waits sig Unit) (Kt : PUnit → sProp 𝕄) :
    iprop(bodyFrom m K c (stq m c) (sto m c) o W ∗ (bodyTo m c (stq m c) (sto m c) (outA m c) -∗ Kt ⟨⟩))
      ⊢ wp frame (wpE (defs₀ (F := F)) 𝒱₀ (c : Thread nD τ) none) Set.univ theBody Kt := by
  match c with
  | ⟨0, _⟩ =>
    rw [show (⟨0, by assumption⟩ : Dev nD) = 0 from rfl, stq_zero, sto_zero, show outA m 0 = out0V (xA m) (wqA m) (kbA m) (vbA m) (woA m) from if_pos rfl]
    exact body0 m K o W Kt
  | ⟨1, _⟩ =>
    rw [show (⟨1, by assumption⟩ : Dev nD) = 1 from rfl, show outA m 1 = outNV (obA m) from if_neg (by decide)]
    exact body1 m K _ _ o W Kt
  | ⟨2, _⟩ =>
    rw [show (⟨2, by assumption⟩ : Dev nD) = 2 from rfl, show outA m 2 = outNV (obA m) from if_neg (by decide)]
    exact body2 m K _ _ o W Kt
  | ⟨3, _⟩ =>
    rw [show (⟨3, by assumption⟩ : Dev nD) = 3 from rfl, show outA m 3 = outNV (obA m) from if_neg (by decide)]
    exact body3 m K _ _ o W Kt

def bodyPre (c : Dev nD) : sProp 𝕄 :=
  iprop((start m c ∗ scr c) ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ m c ∗ (dats m ρ 0 c).owesAt () t0_0.succ ∗ stg c cc0_stg0_0 (stq m c) ∗ stg c cc0_stg1_0 (sto m c) ∗ stg c cc0_stg2_0 (outA m c))

theorem sound_body (c : Dev nD) : bodyPre m ρ c
    ⊢ wp frame (wpE (defs₀ (F := F)) 𝒱₀ (c : Thread nD τ) none) Set.univ theBody (fun _ => bodyPost m ρ c) := by
  refine BIBase.Entails.trans ?_ (wp_fupd _ _ _ _ _)
  unfold bodyPre start
  iintro ⟨⟨⟨⟨%K, Hg⟩, Hcr, Hlev, Hls, Har⟩, Hscr⟩, Ho, ⟨%d0, %g0, %hg0, Hq⟩, ⟨%d1, %g1, %hg1, Hw⟩, ⟨%d2, %g2, %hg2, Hout⟩⟩
  have hq : g0 = stq m c := by rw [hg0]; unfold Dat.before; rw [if_pos (fetch0_0 t0_0)]; rfl
  have hw : g1 = sto m c := by rw [hg1]; unfold Dat.before; rw [if_pos (fetch0_1 t0_0)]; rfl
  subst hq hw
  unfold Dat.owesAt Pipeline.owesWithin
  icases Ho with ⟨%W, %hW, HO⟩
  unfold ghost
  icases Hg with ⟨#HR, Hat, Htok⟩
  iapply (body_any m K c g2 W _)
  unfold bodyFrom ghost
  isplitl [Hat Htok Hcr Hlev Hls Har Hscr HO Hq Hw Hout]
  · isplitl [Hat Htok]
    · isplitr; · iexact HR
      isplitl [Hat]; · iexact Hat
      iexact Htok
    isplitl [Hcr]; · iexact Hcr
    isplitl [Hlev]; · iexact Hlev
    isplitl [Hls]; · iexact Hls
    isplitl [Har]; · iexact Har
    isplitl [Hscr]; · iexact Hscr
    isplitl [HO]; · iexact HO
    isplitl [Hq]; · iexact Hq
    isplitl [Hw]; · iexact Hw
    iexact Hout
  unfold bodyTo
  iintro ⟨Hat, Hls, Har, Hscr, ⟨%W', HO⟩, Hq, Hw, Hout⟩
  imod (close_cells m K c) $$ [Hat] with Hs
  · isplitr; · iexact HR
    iexact Hat
  imodintro
  unfold bodyPost Φ₁ Dat.owesAt Pipeline.owesWithin
  isplitl [Hs Hls Har Hscr]
  · isplitl [Hs]; · iexact Hs
    isplitl [Hls]; · iexact Hls
    isplitl [Har]; · iexact Har
    iexact Hscr
  isplitl [HO]
  · iexists W'
    isplitr; · (ipureintro; exact fun _ _ => Or.inl trivial)
    iexact HO
  isplitl [Hq]
  · iexists _; isplitr; · (ipureintro; rfl)
    iexact Hq
  isplitl [Hw]
  · iexists _; isplitr; · (ipureintro; rfl)
    iexact Hw
  iexists _; isplitr; · (ipureintro; rfl)
  iexact Hout

set_option maxRecDepth 4000 in
theorem body_obligation (c : Dev nD) : BodyObligation (dats (F := F) m ρ 0 c) (defs₀ (F := F)) 𝒱₀ () Set.univ := fun t => by
  rw [fin_N0 t, bigSep_W0, bigSep_W0]
  simp only [owns_whole_eq]
  exact sound_body m ρ c

/-! ## The cells and the tokens -/

abbrev osem : Fin 40 → SemLoc sig := fun k => .dma ⟨k.val + 3, show k.val + 3 < 43 by omega⟩
theorem ownSemFacts : Pipeline.OwnSemFacts cfg0.spec osem := by decide +kernel

theorem share_eq (c : Dev nD) (w : Fin cfg0.W) : (dats m ρ 0 c).share w = fullShare := by unfold Dat.share; split <;> rfl

theorem csem_injective : Function.Injective csem := by
  intro k k' h
  unfold csem at h
  by_cases h1 : k.val = 0 <;> by_cases h2 : k'.val = 0
  · exact Fin.ext (h1.trans h2.symm)
  · rw [if_pos h1, if_neg h2] at h; cases h
  · rw [if_neg h1, if_pos h2] at h; cases h
  · rw [if_neg h1, if_neg h2] at h
    have := congrArg Fin.val (SemLoc.dma.inj h)
    exact Fin.ext (by have h3 : k.val + 2 = k'.val + 2 := this; omega)
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- A token for every device at every cell; a device keeps its own. -/
abbrev tokOf (x : Dev nD × (Dev nD × Fin 37)) : GSem nD τ sig × ℕ × Dev nD := (kcell x.2, 0, x.1)
theorem tokOf_injective : Function.Injective tokOf := by
  rintro ⟨d, x⟩ ⟨d', x'⟩ h
  have h1 : x = x' := kcell_injective (congrArg Prod.fst h)
  have h2 : d = d' := congrArg (fun y : GSem nD τ sig × ℕ × Dev nD => y.2.2) h
  rw [h1, h2]
def allToks : Finset (GSem nD τ sig × ℕ × Dev nD) := Finset.univ.map ⟨tokOf, tokOf_injective⟩

def u₀ : UU := (initOf (Pipeline.cells cfgs cellOf_inj) (Pipeline.launchToks cfgs cellOf_inj), (initOf allCells allToks, 1))

def toks (c : Dev nD) : sProp 𝕄 := bigSep Finset.univ fun ck : Dev nD × Fin 37 => dutyTok ER (kcell ck) 0 c

def G (c : Dev nD) : sProp 𝕄 :=
  iprop((bigSep Finset.univ fun k : Fin 37 => roundState ER (kRd m) (kcell (c, k)) 0)
    ∗ (bigSep Finset.univ fun k : Fin 37 => iprop(atPos ER (kcell (c, k)) 0 ∅ 0 ∗ reached ER (kcell (c, k)) 0)) ∗ toks c)
def G' (c : Dev nD) : sProp 𝕄 := iprop((∃ K, ghost m K c) ∗ lsems c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 37 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod]; rfl
  iintro HX
  imod (Rounds.fund ER (kRd m) allCells allToks) $$ HX with ⟨Hst, Hr, Hat, Htok⟩
  imodintro
  ihave Hst' := (Entails.of_eq (hX fun g => roundState ER (kRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

def protoL : List (Fin 40) := [0, 1, 2, 3, 4, 5, 6, 7, 8, 9, 10, 11, 12, 13, 14, 15, 16, 17, 18, 19, 20, 21, 22, 23, 24, 25, 26, 27, 28, 29, 30, 31, 32, 33, 34, 35]
def cellL : List (Fin 37) := [1, 2, 3, 4, 5, 6, 7, 8, 9, 10, 11, 12, 13, 14, 15, 16, 17, 18, 19, 20, 21, 22, 23, 24, 25, 26, 27, 28, 29, 30, 31, 32, 33, 34, 35, 36]
theorem ownSems0_eq (c : Dev nD) : (Pipeline.ownSems0 (Ix := Unit) (Name := ℕ) (U := UU) (Lvl := ℕ) (Val := Elt F) (τ := τ) osem c : sProp 𝕄)
    = iprop(bigSepL protoL (fun k => semVal ((c : Thread nD τ), osem k) 0) ∗ lsems c) := by
  rw [Pipeline.ownSems0_eq_of_list c osem (protoL ++ [36, 37, 38, 39]) (by decide) (by decide), bigSepL_append]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl
theorem cells_eq (c : Dev nD) : (bigSep Finset.univ fun k : Fin 37 => semVal (kcell (c, k)) 0 : sProp 𝕄)
    = iprop(semVal (barCell c) 0 ∗ bigSepL protoL (fun k => semVal ((c : Thread nD τ), osem k) 0)) := by
  rw [bigSep_univ_eq_bigSepL ([0] ++ cellL) (by decide) (by decide), bigSepL_append]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (kRd m) κ (kcell (c, k))))
          ∗ (bigSep Finset.univ fun k => iprop(atPos ER (kcell (c, k)) 0 ∅ 0 ∗ reached ER (kcell (c, k)) 0)) ∗ toks c ∗ lsems c) := by
  unfold G
  rw [ownSems0_eq, unscopedSems0_eq]
  iintro ⟨⟨Hp, Hls⟩, Hb, Hst, Hat, Htok⟩
  ihave Hv := (Entails.of_eq (cells_eq (F := F) c).symm) $$ [Hp Hb]
  · isplitl [Hb] <;> iassumption
  imod (show iprop((bigSep Finset.univ fun k : Fin 37 => semVal (kcell (c, k)) 0) ∗ bigSep Finset.univ fun k : Fin 37 => roundState ER (kRd m) (kcell (c, k)) 0)
      ⊢ (|={Set.univ}=> bigSep Finset.univ fun k => iprop(∃ κ : ℕ, cellInv ER (kRd m) κ (kcell (c, k))) : sProp 𝕄) from by
        rw [← bigSep_sep']
        exact (bigSep_mono fun k _ => (Rounds.body_intro ER (kRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hls

theorem regroup :
    (bigSep Finset.univ fun c : Dev nD => iprop((bigSep Finset.univ fun k => iprop(∃ κ : ℕ, cellInv ER (kRd m) κ (kcell (c, k))))
          ∗ (bigSep Finset.univ fun k => iprop(atPos ER (kcell (c, k)) 0 ∅ 0 ∗ reached ER (kcell (c, k)) 0)) ∗ toks c ∗ lsems c) : sProp 𝕄)
      ⊢ bigSep Finset.univ (G' m) := by
  rw [bigSep_sep', bigSep_sep', ← bigSep_univ_prod (fun ck : Dev nD × Fin 37 => iprop(∃ κ : ℕ, cellInv ER (kRd m) κ (kcell ck))),
    bigSep_congr (s := Finset.univ) (fun (c : Dev nD) _ => bigSep_sep' Finset.univ (fun k : Fin 37 => (atPos ER (kcell (c, k)) 0 ∅ 0 : sProp 𝕄)) (fun k => reached ER (kcell (c, k)) 0)),
    bigSep_sep', ← bigSep_univ_prod (fun ck : Dev nD × Fin 37 => (reached ER (kcell ck) 0 : sProp 𝕄))]
  iintro ⟨HI, ⟨Hat, #HR⟩, Htok⟩
  ihave HK := (BI.bigSep_exists_pi Finset.univ (fun (ck : Dev nD × Fin 37) (κ : ℕ) => (cellInv ER (kRd m) κ (kcell ck) : sProp 𝕄))) $$ HI
  icases HK with ⟨%K, #HI⟩
  have h (c : Dev nD) : iprop(records m K ∗ (bigSep Finset.univ fun k : Fin 37 => atPos ER (kcell (c, k)) 0 ∅ 0) ∗ toks c ∗ lsems c) ⊢ G' m c := by
    unfold G' ghost toks
    iintro ⟨#H, Ha, Ht, Hl⟩
    isplitl [Ha Ht]
    · iexists K
      isplitr; · iexact H
      isplitl [Ha]; · iexact Ha
      iexact Ht
    iexact Hl
  have hall : iprop(records m K ∗ bigSep Finset.univ fun c : Dev nD => iprop((bigSep Finset.univ fun k : Fin 37 => atPos ER (kcell (c, k)) 0 ∅ 0) ∗ toks c ∗ lsems c))
      ⊢ bigSep Finset.univ (G' m) :=
    (sep_mono_left (BI.bigSep_of_persistent Finset.univ (records m K))).trans (by rw [← bigSep_sep']; exact bigSep_mono fun c _ => h c)
  iapply hall
  isplitr
  · unfold records; isplitl; · iexact HI
    iexact HR
  · iapply (Entails.of_eq (bigSep_sep' Finset.univ (fun c : Dev nD => bigSep Finset.univ fun k : Fin 37 => (atPos ER (kcell (c, k)) 0 ∅ 0 : sProp 𝕄)) (fun c => iprop(toks c ∗ lsems c))).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-! ## What the others owe a device at launch -/

/-- The cell a payment goes to, by number, and the amount of one payment at a cell. -/
def keyD : Option (DmaSem sig) → Fin 37
  | none => 0
  | some q => kOf q
def amtK (k : Fin 37) : ℕ := if k.val = 0 then 1 else amtD (k.val + 2)
def okD : Option (DmaSem sig) → Bool
  | none => true
  | some q => decide (3 ≤ q.val ∧ q.val < 39)

theorem due_kcell (a : Due) (h : okD a.2 = true) (c : Dev nD) (k : Fin 37) :
    due a (kcell (c, k)) () = if a.1 = c ∧ keyD a.2 = k then amtK k else 0 := by
  have hg : ∃ g n, due a = tallyAt g () n ∧ g = kcell (a.1, keyD a.2) ∧ n = amtK (keyD a.2) := by
    obtain ⟨d, o⟩ := a
    cases o with
    | none => exact ⟨_, _, rfl, (kcell_bar d).symm, rfl⟩
    | some q =>
      have hq : 3 ≤ q.val ∧ q.val < 39 := of_decide_eq_true h
      have hk : (kOf q).val = q.val - 2 := by show (q.val - 2) % 37 = _; exact Nat.mod_eq_of_lt (by omega)
      refine ⟨_, _, rfl, (kcell_dma d q hq).symm, ?_⟩
      show amtD q.val = amtK (kOf q)
      unfold amtK
      rw [if_neg (by omega), show (kOf q).val + 2 = q.val by omega]
  obtain ⟨g, n, h1, h2, h3⟩ := hg
  rw [h1, tallyAt_apply]
  by_cases he : a.1 = c ∧ keyD a.2 = k
  · rw [if_pos he, if_pos ⟨by rw [h2, he.1, he.2], rfl⟩, h3, he.2]
  · rw [if_neg he, if_neg fun h' => he (by
      have h4 := kcell_injective (h'.1.trans h2)
      exact ⟨(congrArg Prod.fst h4).symm, (congrArg Prod.snd h4).symm⟩)]

def cnt (c : Dev nD) (k : Fin 37) (l : List Due) : ℕ := l.countP fun a => decide (a.1 = c ∧ keyD a.2 = k)
theorem owesL_kcell (c : Dev nD) (k : Fin 37) : ∀ l : List Due, (l.all fun a => okD a.2) = true → owesL l (kcell (c, k)) () = cnt c k l * amtK k
  | [], _ => by show (0 : ℕ) = 0 * _; rw [Nat.zero_mul]
  | a :: l, h => by
    rw [List.all_cons, Bool.and_eq_true] at h
    unfold owesL cnt
    rw [Pi.add_apply, Finsupp.add_apply, owesL_kcell c k l h.2, due_kcell a h.1, List.countP_cons]
    unfold cnt
    by_cases he : a.1 = c ∧ keyD a.2 = k
    · rw [if_pos he, if_pos (decide_eq_true he), Nat.add_mul, Nat.one_mul]
    · rw [if_neg he, if_neg (fun h' => he (of_decide_eq_true h')), Nat.add_zero, Nat.add_zero]

def cntAll (c : Dev nD) (k : Fin 37) : ℕ := cnt c k (dues 0) + cnt c k (dues 1) + cnt c k (dues 2) + cnt c k (dues 3)
theorem cntAll_eq : ∀ (c : Dev nD) (k : Fin 37), cntAll c k = (if k.val = 0 then 3
    else match payer c ⟨(k.val + 2) % 43, Nat.mod_lt _ (by decide)⟩ with
      | some d => if d = c then 0 else 1
      | none => 0) := by decide +kernel

theorem launch_credit (c : Dev nD) (k : Fin 37) :
    tallyOn (kcell (c, k)) (launchCredit (Pipeline.owing O₀) 0 (kcell (c, k))) = (tallyAt (kcell (c, k)) () (credK c k) : CellTallies nD τ sig Unit) := by
  unfold tallyAt; refine congrArg _ (Finsupp.ext fun u => ?_); cases u
  rw [Pipeline.launchCredit_owing, Finsupp.single_eq_same]
  have hs : ∑ d : Dev nD, O₀ d (kcell (c, k)) () = cntAll c k * amtK k := by
    rw [Fin.sum_univ_four]
    unfold O₀ cntAll
    rw [owesL_kcell c k _ (by decide), owesL_kcell c k _ (by decide), owesL_kcell c k _ (by decide), owesL_kcell c k _ (by decide),
      Nat.add_mul, Nat.add_mul, Nat.add_mul]
  rw [hs, cntAll_eq]
  unfold credK amtK
  by_cases hk : k.val = 0
  · rw [if_pos hk, if_pos hk, if_pos hk]
  · rw [if_neg hk, if_neg hk, if_neg hk]
    split
    · rename_i d hd
      rw [hd]
      show _ = if d = c then 0 else amtD (k.val + 2)
      split
      · rw [Nat.zero_mul]
      · rw [Nat.one_mul]
    · rename_i hd
      rw [hd, Nat.zero_mul]

theorem creds (c : Dev nD) :
    (Pipeline.launchCred O₀ c : sProp 𝕄) ⊢ bigSep Finset.univ fun k : Fin 37 => cred (tallyAt (kcell (c, k)) () (credK c k)) := by
  unfold Pipeline.launchCred
  refine (bigSep_subset (Finset.subset_univ (Finset.univ.map ⟨csem, csem_injective⟩))).trans ?_
  rw [bigSep_map]
  exact bigSep_mono fun k _ => Entails.of_eq (congrArg cred (launch_credit c k))

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [show (Pipeline.unscopedRestP Pipeline.Prefetch.none cfg0.spec c (fun b => m ((c : Thread nD τ).loc b)) : sProp 𝕄) = arrs m c from
    (Pipeline.unscopedRestP_eq_of_list cfg0.spec c Pipeline.Prefetch.none (fun b => m ((c : Thread nD τ).loc b)) [main_arg0, main_arg2, main_arg3] (by decide) (by decide)).trans rfl]
  iintro ⟨Har, Hlev, Hcr, -, HG⟩
  ihave Hc := (creds (F := F) c) $$ Hcr
  unfold start G'
  icases HG with ⟨HG, Hls⟩
  imodintro
  isplitl
  · isplitl [HG]; · iexact HG
    isplitl [Hc]; · iexact Hc
    isplitl [Hlev]; · iexact Hlev
    isplitl [Hls]; · iexact Hls
    iexact Har
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scr c) from rfl, scopedRest0_eq]
  unfold scr
  iintro ⟨Hs, -, Hr⟩
  isplitl [Hs]; · iexact Hs
  iexact Hr

theorem phi1_exit (c : Dev nD) :
    (dats m ρ 0 c).Φ (Fin.last cfg0.N) ⊢ iprop((unscopedSems0 c ∗ arrs m c) ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁ scr
  rw [cells_eq]
  iintro ⟨⟨Hb, Hp⟩, Hls, Har, Hscr⟩
  isplitl [Hb Har]
  · isplitl [Hb] <;> iassumption
  isplitl [Hp Hls]
  · isplitl [Hp] <;> iassumption
  iexact Hscr

theorem waits (c : Dev nD) : (levAts L lv : sProp 𝕄) ⊢ Pipeline.cellsWaits cfgs (dats m ρ) () 0 c :=
  Pipeline.cellsWaits_intro cfgs (dats m ρ) () 0 c fun w s t => by
    have hq : ∀ (w : Fin 3) (s : Fin (spec0 w).nbuf), ((spec0 w).sem s).val < 3 := by decide
    have hl : ∀ q : DmaSem sig, q.val < 3 → ∀ d : Dev nD, lvD d q.val = 0 := by decide
    have h0 : ∀ d : Dev nD, ((dues d).all fun a => decide (0 < lvDue a)) = true := by decide
    rcases t with ⟨_ | _, ht⟩
    · exact mayWait_dma c _ (dues c) (by rw [hl _ (hq w s) c]; exact h0 c)
    · exact mayWait_dma c _ [] rfl

def finalA (c : Dev nD) (w : Fin cfg0.W) : Buf (Elt F) ((cfg0.win w).arr.view.loc (c : Thread nD τ)) := (dats m ρ 0 c).arrAt w cfg0.N

def QC : PUnit × MemSt nD τ sig (Elt F) → Prop := fun r => ∀ c : Dev nD,
  (∀ w : Fin cfg0.W, r.2.mem ((cfg0.win w).arr.view.loc (c : Thread nD τ)) = finalA m ρ c w)
    ∧ ∀ b ∈ ([main_arg0, main_arg2, main_arg3].toFinset : Finset (Ref sig .tc)), r.2.mem ((c : Thread nD τ).loc b) = m ((c : Thread nD τ).loc b)

set_option maxRecDepth 8000 in
/-- From any memory with zero counters the four bodies run to the end; the arrays hold what the windows' data say. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_split _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => iprop(unscopedSems0 c ∗ arrs m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ ∀ b ∈ ([main_arg0, main_arg2, main_arg3].toFinset : Finset (Ref sig .tc)), s.mem ((c : Thread nD τ).loc b) = m ((c : Thread nD τ).loc b))
    (hY := fun c s' => by
      iintro ⟨⟨Hu, Har⟩, -, HSI⟩
      ihave Har := (Entails.of_eq (show arrs m c = bigSep ([main_arg0, main_arg2, main_arg3].toFinset : Finset (Ref sig .tc)) (fun b => (((c : Thread nD τ).loc b) ↦{fullShare} m ((c : Thread nD τ).loc b) : sProp 𝕄)) from
        (bigSep_eq_bigSepL_of_eq (S := ([main_arg0, main_arg2, main_arg3].toFinset : Finset (Ref sig .tc))) [main_arg0, main_arg2, main_arg3] rfl (by decide)
          (fun b => (((c : Thread nD τ).loc b) ↦{fullShare} m ((c : Thread nD τ).loc b) : sProp 𝕄))).symm)) $$ Har
      ihave Hr := (pointsTo_read_all _ (fun b => (c : Thread nD τ).loc b) (fun b => m ((c : Thread nD τ).loc b)) s') $$ [Har HSI]
      · isplitl [Har] <;> iassumption
      icases Hr with ⟨%hr, HSI⟩
      imod (Pipeline.unscopedSems0_read (X := unscopedSems0 c) (c := c) fupd_intro s') $$ [Hu HSI] with ⟨%hu, HSI⟩
      · isplitl [Hu] <;> iassumption
      imodintro
      isplitr; · ipureintro; exact ⟨hu, hr⟩
      iexact HSI)
    (hQ := fun _ h hs => ⟨fun c => ⟨(h c).1, (h c).2.2.2⟩, sem_eq_zero hs fun c => (h c).2.2.1⟩)

theorem finalA_0 (c : Dev nD) : finalA m ρ c (0 : Fin 3) = m ((c : Thread nD τ).loc main_arg1) := (dats (F := F) m ρ 0 c).arrAt_in (0 : Fin 3) rfl _
theorem finalA_1 (c : Dev nD) : finalA m ρ c (1 : Fin 3) = m ((c : Thread nD τ).loc main_arg4) := (dats (F := F) m ρ 0 c).arrAt_in (1 : Fin 3) rfl _
theorem finalA_2 (c : Dev nD) : finalA m ρ c (2 : Fin 3) = outA m c := by
  refine (blk2_read _).symm.trans ?_
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

/-- The run, read at the program's own arrays. -/
theorem run_value : θ_run defs (onTc (τ := τ) (main (F := F))) ⟨m, fun _ => 0, ρ⟩ (fun r => (∀ c : Dev nD,
      r.2.mem ((c.tc : Thread nD τ).loc main_v1) = outA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => ⟨((h.1 c).1 (2 : Fin 3)).trans (finalA_2 m ρ c), (h.1 c).2 main_arg0 (by decide),
    ((h.1 c).1 (0 : Fin 3)).trans (finalA_0 m ρ c), (h.1 c).2 main_arg2 (by decide), (h.1 c).2 main_arg3 (by decide),
    ((h.1 c).1 (1 : Fin 3)).trans (finalA_1 m ρ c)⟩, h.2⟩) (run_main m ρ)

end Cert.KIProof

end
-- ==== Proof.Value.Ref.lean ====
/-
# The reference's result, read at an index

The reference's result is cut into its parts: the mask, the masked scores, the weights, their sum, the weights divided by
it, and the output projection. Each part is then read at an index.
-/
module

public import proofs.«01_k».proof.Proof.Gen.ReferenceIdeal
public import proofs.«01_k».proof.Proof.Gen.ReferenceIdeal.Run
public import Idealize.ShloMosaic.Lib.Pointwise
public import Idealize.ShloMosaic.Lib.IdealHost
public import Idealize.ShloMosaic.Lib.Tactic

@[expose] public section

noncomputable section

namespace Cert.Value

open Idealize.ShloMosaic Idealize.SL.Sem
open Cert.ReferenceIdeal Cert.ReferenceIdeal.Gen

/-- Which keys a query may look at. -/
def msk : IVec S2048x8192 1 :=
  cmpi .sle (absi (subi (broadcastInDim S2048x8192 ![0, 1] bcast_S2048x1_S2048x8192_0_1 (broadcastInDim S2048x1 ![0] bcast_S2048_S2048x1_0 (iotaInDim S2048 32 0))) (broadcastInDim S2048x8192 ![0, 1] bcast_S1x8192_S2048x8192_0_1 (broadcastInDim S1x8192 ![1] bcast_S8192_S1x8192_1 (iotaInDim S8192 32 0))))) (broadcastInDim S2048x8192 ![] bcast_S_S2048x8192 (constantI S_ 32 128#32))

/-- Which queries may look at some key. -/
def keep : IVec S2048 1 := Host.reduce IntOp.ori msk (constantI S_ 1 0#1) reducesTo_S2048x8192_S2048_d1 h_S_

/-- The scores, masked. -/
def sco (X : FVec Ideal S1x2048x1024 .f32) (W : FVec Ideal S1024x1024 .f32) (K : FVec Ideal S1x8192x8x128 .f32) :
    FVec Ideal S1x8x2048x8192 .f32 :=
  select (broadcastInDim S1x8x2048x8192 ![0, 1, 2, 3] bcast_S1x1x2048x8192_S1x8x2048x8192_0_1_2_3 (broadcastInDim S1x1x2048x8192 ![2, 3] bcast_S2048x8192_S1x1x2048x8192_2_3 msk)) (mulf (Host.dotGeneral dot_S1x2048x8x128_S1x8192x8x128_S1x8x2048x8192_3_3_1_1_02_02 none (shapeCast S1x2048x8x128 (Host.dotGeneral dot_S1x2048x1024_S1024x1024_S1x2048x1024_2_0_01_1_n_n none X W) shapeCasts_S1x2048x1024_S1x2048x8x128) K) (broadcastInDim S1x8x2048x8192 ![] bcast_S_S1x8x2048x8192 (constant S_ .f32 0x3DB504F3#32))) (broadcastInDim S1x8x2048x8192 ![] bcast_S_S1x8x2048x8192 (id (constant S_ .f32 0xFF800000#32)))

/-- The weights before their sum is divided out. -/
def wts (s : FVec Ideal S1x8x2048x8192 .f32) : FVec Ideal S1x8x2048x8192 .f32 :=
  Host.exp (subf s (broadcastInDim S1x8x2048x8192 ![0, 1, 2, 3] bcast_S1x8x2048x1_S1x8x2048x8192_0_1_2_3 (broadcastInDim S1x8x2048x1 ![0, 1, 2] bcast_S1x8x2048_S1x8x2048x1_0_1_2 (Host.reduce FloatOps.maximumf s (constant S_ .f32 0xFF800000#32) reducesTo_S1x8x2048x8192_S1x8x2048_d3 h_S_))))

/-- A query's weights summed. -/
def tot (w : FVec Ideal S1x8x2048x8192 .f32) : FVec Ideal S1x8x2048 .f32 :=
  Host.reduceAdd w (constant S_ .f32 0x00000000#32) reducesTo_S1x8x2048x8192_S1x8x2048_d3 h_S_

/-- The weights. -/
def nrm (kp : IVec S2048 1) (w : FVec Ideal S1x8x2048x8192 .f32) : FVec Ideal S1x8x2048x8192 .f32 :=
  select (broadcastInDim S1x8x2048x8192 ![0, 1, 2, 3] bcast_S1x1x2048x1_S1x8x2048x8192_0_1_2_3 (broadcastInDim S1x1x2048x1 ![2] bcast_S2048_S1x1x2048x1_2 kp)) (Host.divf w (broadcastInDim S1x8x2048x8192 ![0, 1, 2, 3] bcast_S1x8x2048x1_S1x8x2048x8192_0_1_2_3 (select (broadcastInDim S1x8x2048x1 ![0, 1, 2, 3] bcast_S1x1x2048x1_S1x8x2048x1_0_1_2_3 (broadcastInDim S1x1x2048x1 ![2] bcast_S2048_S1x1x2048x1_2 kp)) (broadcastInDim S1x8x2048x1 ![0, 1, 2] bcast_S1x8x2048_S1x8x2048x1_0_1_2 (tot w)) (broadcastInDim S1x8x2048x1 ![] bcast_S_S1x8x2048x1 (id (constant S_ .f32 0x3F800000#32)))))) (broadcastInDim S1x8x2048x8192 ![] bcast_S_S1x8x2048x8192 (id (constant S_ .f32 0x00000000#32)))

/-- The output from the weights. -/
def outR (w : FVec Ideal S1x8x2048x8192 .f32) (V : FVec Ideal S1x8192x8x128 .f32) (O : FVec Ideal S1024x1024 .f32) :
    FVec Ideal S1x2048x1024 .f32 :=
  Host.dotGeneral dot_S1x2048x1024_S1024x1024_S1x2048x1024_2_0_01_1_n_n none (shapeCast S1x2048x1024 (transpose S1x2048x8x128 [0, 3, 1, 2] (Host.dotGeneral dot_S1x8192x8x128_S1x8x2048x8192_S1x8x128x2048_1_3_3_2_02_01 none V w) transposes_S1x8x128x2048_S1x2048x8x128_0_3_1_2) shapeCasts_S1x2048x8x128_S1x2048x1024) O

theorem res_eq (m : (ℓ : Loc nD τ sig) → Buf (Elt Ideal) ℓ) (c : Dev nD) :
    Cert.ReferenceIdeal.Value.res_main_v34 (F := Ideal) m c
      = outR (nrm keep (wts (sco (m ((c.tc : Thread nD τ).loc main_arg0)) (m ((c.tc : Thread nD τ).loc main_arg1)) (m ((c.tc : Thread nD τ).loc main_arg2)))))
          (m ((c.tc : Thread nD τ).loc main_arg3)) (m ((c.tc : Thread nD τ).loc main_arg4)) := by
  unfold Cert.ReferenceIdeal.Value.res_main_v34 outR nrm tot wts sco keep msk
  rfl

set_option maxRecDepth 16384

theorem tot_at (w : FVec Ideal S1x8x2048x8192 .f32) (h : Fin 8) (r : Fin 2048) : tot w (ix3 0 h r) = ∑ j : Fin 8192, w (ix4 0 h r j) := by
  pointwise [tot]

theorem nrm_at (kp : IVec S2048 1) (s : FVec Ideal S1x8x2048x8192 .f32)
    (h : Fin 8) (r : Fin 2048) (j : Fin 8192) (hk : kp (ix1 r) = 1#1) : nrm kp s (ix4 0 h r j) = Ideal.div (s (ix4 0 h r j)) (∑ j : Fin 8192, s (ix4 0 h r j)) := by
  pointwise [nrm]
  rw [hk, tot_at]
  rfl

theorem wts_at (s : FVec Ideal S1x8x2048x8192 .f32)
    (h : Fin 8) (r : Fin 2048) (j : Fin 8192) : wts s (ix4 0 h r j) =
    Ideal.exp (s (ix4 0 h r j) - Finset.fold max ⊥ (fun x => s (ix4 0 h r x)) Finset.univ) := by
  have e : Ideal.ofBits FTy.f32 0xFF800000#32 = ⊥ := by simp [Ideal.ofBits, Ideal.ieee]
  pointwise [wts]
  rw [e]

theorem sco_at (X : FVec Ideal S1x2048x1024 .f32) (W : FVec Ideal S1024x1024 .f32) (K : FVec Ideal S1x8192x8x128 .f32)
    (h : Fin 8) (r : Fin 2048) (j : Fin 8192) : sco X W K (ix4 0 h r j) =
     Scalar.select (msk (ix2 r j)) ((∑ x : Fin 128, (∑ x_1 : Fin 1024, X (ix3 0 r x_1) * W (ix2 x_1 ⟨h.val * 128 + x.val, by omega⟩)) * K (ix4 0 j h x)) *
        Ideal.ofBits FTy.f32 1035273459#32) ⊥ := by
  have e : Ideal.ofBits FTy.f32 0xFF800000#32 = ⊥ := by simp [Ideal.ofBits, Ideal.ieee]
  pointwise [sco]
  rw [← e]
  rfl

theorem outR_at (w : FVec Ideal S1x8x2048x8192 .f32) (V : FVec Ideal S1x8192x8x128 .f32) (O : FVec Ideal S1024x1024 .f32)
    (r : Fin 2048) (j : Fin 1024) : outR w V O (ix3 0 r j) =
    ∑ x : Fin 1024, (∑ y : Fin 8192, V (ix4 0 y ⟨x.val / 128, by omega⟩ ⟨x.val % 128, by omega⟩) * w (ix4 0 ⟨x.val / 128, by omega⟩ r y)) * O (ix2 x j) := by
  pointwise [outR]

end Cert.Value
-- ==== Proof.Value.Soft.lean ====
/-
# A masked softmax over a window is the softmax over the whole row

The scores of one query are real numbers. Where the query does not see a key, the score is replaced by `⊥`, whose
exponential is 0. Dividing the weighted sum by the sum of the weights gives the same value whether the exponentials are
taken of the scores (over a window that holds every key the query sees) or of the scores less their maximum (over all keys).
The values that are weighted may be infinite.
-/
module

public import Idealize.ShloMosaic.PureOps.Ideal
public import Idealize.ShloMosaic.Lib.IdealHost

@[expose] public section

noncomputable section

namespace Cert.Value

open Idealize.ShloMosaic
open scoped BigOperators

/-- An extended real that is a real. -/
def Fine (a : EReal) : Prop := ∃ r : ℝ, a = (r : EReal)

theorem Fine.mul {a b : EReal} (ha : Fine a) (hb : Fine b) : Fine (a * b) := by
  obtain ⟨x, rfl⟩ := ha
  obtain ⟨y, rfl⟩ := hb
  exact ⟨x * y, (EReal.coe_mul x y).symm⟩

theorem coe_sum {ι : Type} (S : Finset ι) (f : ι → ℝ) : ((∑ i ∈ S, f i : ℝ) : EReal) = ∑ i ∈ S, (f i : EReal) :=
  map_sum (⟨⟨Real.toEReal, EReal.coe_zero⟩, EReal.coe_add⟩ : ℝ →+ EReal) f S

theorem Fine.sum {ι : Type} {S : Finset ι} {f : ι → EReal} (h : ∀ i, Fine (f i)) : Fine (∑ i ∈ S, f i) := by
  choose g hg using h
  exact ⟨∑ i ∈ S, g i, by simp only [hg, coe_sum]⟩

/-- A real that is not negative may be multiplied into a sum of extended reals. -/
theorem sum_mul {ι : Type} (S : Finset ι) (f : ι → EReal) {c : ℝ} (hc : 0 ≤ c) :
    (∑ i ∈ S, f i) * (c : EReal) = ∑ i ∈ S, f i * (c : EReal) := by
  induction S using Finset.cons_induction with
  | empty => simp
  | cons a S ha ih =>
    rw [Finset.sum_cons, Finset.sum_cons, EReal.right_distrib_of_nonneg_of_ne_top (by exact_mod_cast hc) (EReal.coe_ne_top c), ih]

theorem window {n k : ℕ} (k0 : ℕ) (hk : k0 + n ≤ k) (f : Fin k → EReal)
    (h : ∀ j : Fin k, ¬(k0 ≤ j.val ∧ j.val < k0 + n) → f j = 0) :
    ∑ t : Fin n, f ⟨k0 + t.val, by omega⟩ = ∑ j, f j :=
  Fintype.sum_of_injective (fun t : Fin n => (⟨k0 + t.val, by omega⟩ : Fin k))
    (fun a b e => Fin.ext (by have := congrArg Fin.val e; dsimp only at this; omega)) _ _
    (fun j hj => h j fun hw => hj ⟨⟨j.val - k0, by omega⟩, Fin.ext (by dsimp only; omega)⟩) fun _ => rfl

/-- The masked score. -/
def sm {k : ℕ} (s : Fin k → EReal) (P : Fin k → Prop) [DecidablePred P] (j : Fin k) : EReal := if P j then s j else ⊥

theorem soft {n k : ℕ} (s : Fin k → EReal) (hs : ∀ j, Fine (s j)) (P : Fin k → Prop) [DecidablePred P]
    (k0 : ℕ) (hk : k0 + n ≤ k) (hP : ∀ j : Fin k, P j → k0 ≤ j.val ∧ j.val < k0 + n) (j0 : Fin k) (h0 : P j0) (v : Fin k → EReal) :
    (∑ t : Fin n, Ideal.exp (sm s P ⟨k0 + t.val, by omega⟩) * v ⟨k0 + t.val, by omega⟩)
        * Ideal.div 1 (∑ t : Fin n, Ideal.exp (sm s P ⟨k0 + t.val, by omega⟩))
      = ∑ j, v j * Ideal.div (Ideal.exp (sm s P j - Finset.fold max ⊥ (fun x => sm s P x) Finset.univ))
          (∑ j, Ideal.exp (sm s P j - Finset.fold max ⊥ (fun x => sm s P x) Finset.univ)) := by
  choose a ha using hs
  have hE : ∀ j, Ideal.exp (sm s P j) = ((if P j then Real.exp (a j) else 0 : ℝ) : EReal) := fun j => by
    unfold sm
    split <;> simp [ha]
  set e : Fin k → ℝ := fun j => if P j then Real.exp (a j) else 0 with he
  have he0 : ∀ j, 0 ≤ e j := fun j => by simp only [he]; split <;> positivity
  have hpos : 0 < ∑ j, e j := Finset.sum_pos' (fun j _ => he0 j) ⟨j0, Finset.mem_univ _, by simp only [he, if_pos h0]; positivity⟩
  obtain ⟨μ, hμ⟩ : Fine (Finset.fold max ⊥ (fun x => sm s P x) Finset.univ) := by
    have h1 : Finset.fold max ⊥ (fun x => sm s P x) Finset.univ ≠ ⊤ := by
      refine ne_of_lt ((Finset.fold_max_lt _).2 ⟨bot_lt_top, fun x _ => ?_⟩)
      unfold sm
      split
      · rw [ha]; exact EReal.coe_lt_top _
      · exact bot_lt_top
    have h2 : Finset.fold max ⊥ (fun x => sm s P x) Finset.univ ≠ ⊥ :=
      ne_of_gt ((Finset.lt_fold_max _).2 (Or.inr ⟨j0, Finset.mem_univ _, by unfold sm; rw [if_pos h0, ha]; exact EReal.bot_lt_coe _⟩))
    exact ⟨_, (EReal.coe_toReal h1 h2).symm⟩
  have hM : ∀ j, Ideal.exp (sm s P j - (μ : EReal)) = ((e j * Real.exp (-μ) : ℝ) : EReal) := fun j => by
    unfold sm
    simp only [he]
    split
    · rw [ha, ← EReal.coe_sub, Ideal.exp_coe, sub_eq_add_neg, Real.exp_add]
    · rw [EReal.bot_sub, Ideal.exp_bot, zero_mul, EReal.coe_zero]
  have hS : ((∑ j, e j * Real.exp (-μ) : ℝ)) ≠ 0 := by
    rw [← Finset.sum_mul]; positivity
  have hw : ∀ j : Fin k, ¬(k0 ≤ j.val ∧ j.val < k0 + n) → Ideal.exp (sm s P j) = 0 := fun j hj => by
    rw [hE]; simp only [if_neg fun h => hj (hP j h), EReal.coe_zero]
  rw [window k0 hk (fun j => Ideal.exp (sm s P j) * v j) (fun j hj => by rw [hw j hj, zero_mul]),
    window k0 hk (fun j => Ideal.exp (sm s P j)) hw, hμ]
  simp only [hM, hE]
  rw [← coe_sum, ← coe_sum]
  simp only [Ideal.div_coe hS]
  rw [Ideal.div_coe hpos.ne', one_mul, sum_mul _ _ (by positivity)]
  refine Finset.sum_congr rfl fun j _ => ?_
  change ((e j : ℝ) : EReal) * v j * _ = _
  rw [mul_comm ((e j : ℝ) : EReal), mul_assoc, ← EReal.coe_mul, ← EReal.coe_mul, ← Finset.sum_mul]
  have : Real.exp (-μ) ≠ 0 := (Real.exp_pos _).ne'
  congr 2
  field_simp

end Cert.Value
-- ==== Proof.Value.Ker.lean ====
/-
# The kernel's result, read at an index

At the extended reals a format change is the identity, so the kernel's narrowed arrays are its arrays. A chunk's window of
rows is read as rows of the whole key and value arrays: rows below 2048 are device 0's, the 128 after them device 1's.
-/
module

public import proofs.«01_k».proof.Proof.KI.Values
public import proofs.«01_k».proof.Proof.Value.Ref
public import proofs.«01_k».proof.Proof.Value.Soft
public import Idealize.ShloMosaic.Lib.Layout
public import Idealize.ShloMosaic.Lib.Routing.OpsOrder

@[expose] public section

noncomputable section

namespace Cert.Value

open Idealize.ShloMosaic Idealize.SL.Sem
open Cert.KernelIdeal Cert.KernelIdeal.Gen Cert.KIProof

set_option maxRecDepth 16384

/-- The rule by which a query sees a key. -/
def sees (r j : ℕ) : Prop := r ≤ j + 128 ∧ j ≤ r + 128

instance (r j : ℕ) : Decidable (sees r j) := inferInstanceAs (Decidable (_ ∧ _))

theorem word_sees (r j : ℕ) (hr : r < 8192) (hj : j < 8192) :
    IntOp.cmpi CmpIPredicate.sle (IntOp.absi (IntOp.subi (BitVec.ofNat 32 r) (BitVec.ofNat 32 j))) 128#32 = 1#1 ↔ sees r j := by
  have b : ∀ v, BitVec.ofBool v = 1#1 ↔ v = true := by decide
  have e : (BitVec.ofNat 32 r - BitVec.ofNat 32 j).toNat = if j ≤ r then r - j else 4294967296 + r - j := by
    rw [BitVec.toNat_sub, BitVec.toNat_ofNat, BitVec.toNat_ofNat]
    split <;> omega
  show BitVec.ofBool (BitVec.sle (IntOp.absi (BitVec.ofNat 32 r - BitVec.ofNat 32 j)) 128#32) = 1#1 ↔ _
  generalize BitVec.ofNat 32 r - BitVec.ofNat 32 j = x at e
  have h : (IntOp.absi x).toNat = if j ≤ r then r - j else j - r := by
    unfold IntOp.absi
    split at e <;> rename_i g
    · rw [if_neg (by rw [BitVec.msb_eq_decide, e, decide_eq_true_eq]; omega), e, if_pos g]
    · rw [if_pos (by rw [BitVec.msb_eq_decide, e, decide_eq_true_eq]; omega), BitVec.toNat_neg, e, if_neg g]
      omega
  rw [b, BitVec.sle_eq_decide, decide_eq_true_eq, BitVec.toInt_eq_toNat_cond, h, show (128#32).toInt = 128 from rfl]
  unfold sees
  split at h <;> split <;> omega

theorem maskC_at (c : Fin 4) (i : Fin 512) (j : Fin 768) : maskC c (ix2 i j) = 1#1 ↔ sees (512 * c.val + i.val) (ks c + j.val) := by
  rw [← word_sees _ _ (by omega) (by unfold ks; omega), BitVec.ofNat_add, BitVec.ofNat_add]
  pointwise [maskC, maskW]
  rfl

theorem msk_at (r : Fin 2048) (j : Fin 8192) : msk (ix2 r j) = 1#1 ↔ sees r.val j.val := by
  rw [← word_sees _ _ (by omega) (by omega)]
  pointwise [msk]

theorem keep_at (r : Fin 2048) : keep (ix1 r) = 1#1 := by
  pointwise [keep]
  exact (Routing.fold_ori _ _).2 ⟨⟨r.val, by omega⟩, Finset.mem_univ _, (msk_at _ _).2 (by unfold sees; dsimp only; omega)⟩

/-- The scale of the scores. -/
theorem scale : ∃ r : ℝ, 0 ≤ r ∧ Ideal.ofBits FTy.f32 1035273459#32 = (r : EReal) := by
  refine ⟨_, ?_, by simp only [Ideal.ofBits, Ideal.ieee]; rw [if_neg (by decide), if_neg (by decide)]⟩
  rw [if_neg (by decide)]
  positivity

theorem select_sm {k : ℕ} (s : Fin k → EReal) (P : Fin k → Prop) [DecidablePred P] (j : Fin k) (b : BitVec 1) (h : b = 1#1 ↔ P j)
    (a : EReal) (ha : a = s j) : Scalar.select b a ⊥ = sm s P j := by
  subst ha
  unfold Scalar.select sm
  exact if_congr h rfl rfl

theorem pay18_at (mk : IVec S512x768 1) (q : FVec Ideal S512x128 .bf16) (k v : Vec Ideal S768x128 .bf16) (i : Fin 512) (d : Fin 128) :
    k0_pay18 mk q k v (ix2 i d)
      = (∑ x : Fin 768, Ideal.exp (Scalar.select (mk (ix2 i x)) (∑ y : Fin 128, q (ix2 i y) * k (ix2 x y)) ⊥) * v (ix2 x d))
        * Ideal.div 1 (∑ x : Fin 768, Ideal.exp (Scalar.select (mk (ix2 i x)) (∑ y : Fin 128, q (ix2 i y) * k (ix2 x y)) ⊥)) := by
  have e : (Named.named κ "mask" 3253731328#32 : Ideal .f32) = ⊥ := rfl
  pointwise [k0_pay18]
  rw [e]

theorem qC_at (x : Vec Ideal S1x2048x1024 .f32) (W : Vec Ideal S1024x1024 .f32) (c : Fin 4) (i : Fin 512) (d : Fin 1024) :
    qC x W c (ix2 i d) = (∑ y : Fin 1024, x (ix3 0 ⟨512 * c.val + i.val, by omega⟩ y) * W (ix2 y d)) * Ideal.ofBits FTy.f32 1035273459#32 := by
  simp only [ix3_eq_valueIdx]
  pointwise [qC, k0_pay14, k0_pay3, xC]

theorem oc_at (x : Vec Ideal S1x2048x1024 .f32) (W : Vec Ideal S1024x1024 .f32) (kb vb : Vec Ideal S2176x1024 .bf16) (O : Vec Ideal S1024x1024 .f32) (c : Fin 4) (i : Fin 512) (d : Fin 1024) :
    oc x W kb vb O c (ix2 i d) = ∑ y : Fin 1024, ctxC (qC x W c) kb vb c (ix2 i y) * O (ix2 y d) := by
  pointwise [oc, k0_pay4]

/-- The narrowed rows device 0 holds of an array all four devices share out. -/
def win (A : FVec Ideal Cert.ReferenceIdeal.S1x8192x8x128 .f32) : Vec Ideal S2176x1024 .bf16 :=
  kbV (F := Ideal) (Layout.block ⟨4, ![1, 2048, 8, 128]⟩ ⟨4, ![1, 8192, 8, 128]⟩ 1 4 0 A)
    (Layout.block ⟨4, ![1, 2048, 8, 128]⟩ ⟨4, ![1, 8192, 8, 128]⟩ 1 4 1 A)

/-- A window's row of the narrowed array is a row of the whole array. -/
theorem kh_at (A : FVec Ideal Cert.ReferenceIdeal.S1x8192x8x128 .f32) (c : Fin 4) (h : Fin 8) (t : Fin 768) (l : Fin 128) :
    @Eq EReal (kh (win A) c h (ix2 t l))
      (A (ix4 0 ⟨ks c + t.val, by unfold ks; omega⟩ h l)) := by
  have hd : (128 * h.val + l.val) / 128 = h.val := by omega
  have hm : (128 * h.val + l.val) % 128 = l.val := by omega
  show (if g : ks c + t.val < 2048 then _ else _) = _
  split
  · refine congrArg A (funext fun b => Fin.ext ?_)
    match b with
    | ⟨0, _⟩ => rfl
    | ⟨1, _⟩ => exact (congrArg (· + (ks c + t.val)) (Nat.zero_mul 2048)).trans (Nat.zero_add _)
    | ⟨2, _⟩ => exact hd
    | ⟨3, _⟩ => exact hm
  · refine congrArg A (funext fun b => Fin.ext ?_)
    match b with
    | ⟨0, _⟩ => rfl
    | ⟨1, _⟩ => show 1 * 2048 + (ks c + t.val - 2048) = ks c + t.val; omega
    | ⟨2, _⟩ => exact hd
    | ⟨3, _⟩ => exact hm

/-- One attention head: the kernel's windowed form is the reference's. -/
theorem head_eq (X : FVec Ideal S1x2048x1024 .f32) (W : FVec Ideal S1024x1024 .f32) (K V : FVec Ideal Cert.ReferenceIdeal.S1x8192x8x128 .f32)
    (hX : ∀ i, Fine (X i)) (hW : ∀ i, Fine (W i)) (hK : ∀ (j : Fin 8192) (h : Fin 8) (l : Fin 128), Fine (K (ix4 0 j h l)))
    (c : Fin 4) (i : Fin 512) (h : Fin 8) (d : Fin 128) (r : Fin 2048) (hr : r.val = 512 * c.val + i.val) :
    @Eq EReal (head (F := Ideal) (qC X W c) (win K) (win V) c h (ix2 i d))
      (∑ y : Fin 8192, V (ix4 0 y h d) * nrm keep (wts (sco X W K)) (ix4 0 h r y)) := by
  obtain ⟨z, hz, ez⟩ := scale
  set s : Fin 8192 → EReal := fun j => (∑ x : Fin 128, (∑ y : Fin 1024, X (ix3 0 r y) * W (ix2 y ⟨h.val * 128 + x.val, by omega⟩)) * K (ix4 0 j h x)) * Ideal.ofBits FTy.f32 1035273459#32 with es
  have hs : ∀ j, Fine (s j) := fun j => .mul (.sum fun x => .mul (.sum fun y => .mul (hX _) (hW _)) (hK _ _ _)) ⟨z, ez⟩
  have hsel : ∀ t : Fin 768, Scalar.select (maskC c (ix2 i t)) (∑ y : Fin 128, qh (F := Ideal) (qC (F := Ideal) X W c) h (ix2 i y)
      * kh (F := Ideal) (win K) c h (ix2 t y)) ⊥
      = sm s (fun j => sees r.val j.val) ⟨ks c + t.val, by unfold ks; omega⟩ := fun t =>
    select_sm s _ _ _ ((maskC_at c i t).trans (by rw [hr])) _ (by
      simp only [es, ez, sum_mul _ _ hz]
      refine Finset.sum_congr rfl fun y _ => ?_
      rw [kh_at]
      have hq : qh (F := Ideal) (qC (F := Ideal) X W c) h (ix2 i y) = qC X W c (ix2 i ⟨h.val * 128 + y.val, by omega⟩) := by
        rw [ix2_eq_valueIdx i (⟨h.val * 128 + y.val, by omega⟩ : Fin 1024)]
        exact congrArg (fun n : Fin 1024 => qC (F := Ideal) X W c (ValueIdx.ix2 i n))
          (show (⟨128 * h.val + y.val, by omega⟩ : Fin 1024) = ⟨h.val * 128 + y.val, by omega⟩ from Fin.ext (by dsimp only; omega))
      rw [hq, qC_at, ez, mul_right_comm]
      rw [show r = ⟨512 * c.val + i.val, by omega⟩ from Fin.ext hr])
  have hw : ∀ y, nrm keep (wts (sco X W K)) (ix4 0 h r y) = Ideal.div (Ideal.exp (sm s (fun j => sees r.val j.val) y - Finset.fold max ⊥ (fun x => sm s (fun j => sees r.val j.val) x) Finset.univ))
          (∑ j, Ideal.exp (sm s (fun j => sees r.val j.val) j - Finset.fold max ⊥ (fun x => sm s (fun j => sees r.val j.val) x) Finset.univ)) := fun y => by
    have hsc : ∀ j, sco X W K (ix4 0 h r j) = sm s (fun j => sees r.val j.val) j := fun j => by
      rw [sco_at]
      exact select_sm s _ _ _ (msk_at r j) _ rfl
    rw [nrm_at _ _ _ _ _ (keep_at r)]
    simp only [wts_at, hsc]
  simp only [hw]
  rw [← soft s hs (fun j => sees r.val j.val) (ks c) (n := 768) (by unfold ks; omega) (fun j hj => by unfold sees at hj; unfold ks; omega)
    ⟨r.val, by omega⟩ (by unfold sees; dsimp only; omega)]
  show k0_pay18 _ _ _ _ _ = _
  rw [pay18_at]
  simp only [hsel]
  simp only [kh_at]

end Cert.Value
-- ==== Proof.Value.Total.lean ====
/-
# The kernel's result is the reference's

Row by row: each head agrees, so the output projection does; the narrowing and widening the other devices' result passes
through is the identity at the extended reals, so every device holds the same array.
-/
module

public import proofs.«01_k».proof.Proof.Value.Ker
public import proofs.«01_k».proof.Proof.KI.Launch
public import proofs.«01_k».proof.Defs

@[expose] public section

noncomputable section

namespace Cert.Value

open Idealize.ShloMosaic Idealize.SL.Sem
open Cert.KernelIdeal Cert.KernelIdeal.Gen Cert.KIProof

/-- An absolute value below infinity is that of a real. -/
theorem fine_of_lt (a : EReal) (h : FloatOps.cmpf (F := Ideal) (φ := .f32) CmpFPredicate.olt (FloatOps.hostAbsf (F := Ideal) (φ := .f32) a) (Ideal.ofBits .f32 0x7F800000#32) = 1#1) : Fine a := by
  have e : Ideal.ofBits .f32 0x7F800000#32 = ⊤ := by simp [Ideal.ofBits, Ideal.ieee]
  rw [e] at h
  have hb : ∀ v, BitVec.ofBool v = 1#1 ↔ v = true := by decide
  have l : max a (-a) < ⊤ := of_decide_eq_true ((hb _).1 h)
  induction a with
  | bot => simp at l
  | top => simp at l
  | coe r => exact ⟨r, rfl⟩

theorem pre_fine [h : Cert.Pre_finite_KernelIdeal.Facts] (X : FVec Ideal S1x2048x1024 .f32) (W : FVec Ideal S1024x1024 .f32)
    (K V : FVec Ideal S1x2048x8x128 .f32) (O : FVec Ideal S1024x1024 .f32)
    (hp : (Cert.Pre_finite_KernelIdeal.fn (F := Ideal) X W K V O).1 = (fun _ => 1#1)
      ∧ (Cert.Pre_finite_KernelIdeal.fn (F := Ideal) X W K V O).2.1 = (fun _ => 1#1)
      ∧ (Cert.Pre_finite_KernelIdeal.fn (F := Ideal) X W K V O).2.2 = (fun _ => 1#1)) :
    (∀ i, Fine (X i)) ∧ (∀ i, Fine (W i)) ∧ ∀ i, Fine (K i) :=
  ⟨fun i => fine_of_lt _ (congrFun hp.1 i), fun i => fine_of_lt _ (congrFun hp.2.1 i), fun i => fine_of_lt _ (congrFun hp.2.2 i)⟩

/-- Every element of an array shared out over four devices is an element of one device's block. -/
theorem fine_blocks (A : FVec Ideal Cert.ReferenceIdeal.S1x8192x8x128 .f32)
    (h : ∀ (c : Fin 4) i, Fine (Layout.block ⟨4, ![1, 2048, 8, 128]⟩ ⟨4, ![1, 8192, 8, 128]⟩ 1 4 c A (by decide) i))
    (j : Fin 8192) (a : Fin 8) (l : Fin 128) : Fine (A (ix4 0 j a l)) := by
  have e := h ⟨j.val / 2048, by omega⟩ (ix4 0 ⟨j.val % 2048, by omega⟩ a l)
  rw [Layout.block_apply] at e
  refine (congrArg (fun i => Fine (A i)) (funext fun b => Fin.ext ?_)).mp e
  match b with
  | ⟨0, _⟩ => rfl
  | ⟨1, _⟩ => exact Nat.div_add_mod' j.val 2048
  | ⟨2, _⟩ => rfl
  | ⟨3, _⟩ => rfl

theorem ocV_eq (X : FVec Ideal S1x2048x1024 .f32) (W O : FVec Ideal S1024x1024 .f32) (K V : FVec Ideal Cert.ReferenceIdeal.S1x8192x8x128 .f32)
    (hX : ∀ i, Fine (X i)) (hW : ∀ i, Fine (W i)) (hK : ∀ (j : Fin 8192) (h : Fin 8) (l : Fin 128), Fine (K (ix4 0 j h l)))
    (r : Fin 2048) (e : Fin 1024) :
    @Eq EReal (ocV (F := Ideal) X W (win K) (win V) O r e) (outR (nrm keep (wts (sco X W K))) V O (ix3 0 r e)) := by
  rw [outR_at]
  unfold ocV
  rw [← ix2_eq_valueIdx, oc_at]
  refine Finset.sum_congr rfl fun x _ => congrArg (· * O (ix2 x e)) ?_
  rw [← head_eq X W K V hX hW hK ⟨r.val / 512, by omega⟩ ⟨r.val % 512, by omega⟩ _ _ r (by dsimp only; omega), ix2_eq_valueIdx, ix2_eq_valueIdx]
  rfl

theorem out_eq (X : FVec Ideal S1x2048x1024 .f32) (W O : FVec Ideal S1024x1024 .f32) (K V : FVec Ideal Cert.ReferenceIdeal.S1x8192x8x128 .f32)
    (hX : ∀ i, Fine (X i)) (hW : ∀ i, Fine (W i)) (hK : ∀ (j : Fin 8192) (h : Fin 8) (l : Fin 128), Fine (K (ix4 0 j h l))) :
    out0V (F := Ideal) X W (win K) (win V) O = outR (nrm keep (wts (sco X W K))) V O := by
  funext i
  refine (ocV_eq X W O K V hX hW hK (i 1) (i 2)).trans (congrArg _ (funext fun b => ?_))
  match b with
  | ⟨0, _⟩ => exact (Subsingleton.elim (α := Fin 1) _ _)
  | ⟨1, _⟩ => rfl
  | ⟨2, _⟩ => rfl

theorem outN_eq (X : FVec Ideal S1x2048x1024 .f32) (W O : FVec Ideal S1024x1024 .f32) (kb vb : Vec Ideal S2176x1024 .bf16) :
    outNV (F := Ideal) (obV (F := Ideal) X W kb vb O) = out0V (F := Ideal) X W kb vb O := rfl

theorem pre_facts : Cert.Pre_finite_KernelIdeal.Facts := ⟨by decide, by decide, by decide⟩

theorem pre_facts' : Cert.Pre_finite_ReferenceIdeal.Facts := ⟨by decide, by decide, by decide⟩

/-- Every device's result is the reference's. -/
theorem value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal_finite_KernelIdeal (hPre_finite_KernelIdeal := pre_facts) m)
    (h0 : m (((0 : Dev nD).tc : Thread nD τ).loc main_arg0) = m' (((0 : Dev Cert.ReferenceIdeal.nD).tc : Thread Cert.ReferenceIdeal.nD Cert.ReferenceIdeal.τ).loc Cert.ReferenceIdeal.main_arg0))
    (h1 : m (((0 : Dev nD).tc : Thread nD τ).loc main_arg1) = m' (((0 : Dev Cert.ReferenceIdeal.nD).tc : Thread Cert.ReferenceIdeal.nD Cert.ReferenceIdeal.τ).loc Cert.ReferenceIdeal.main_arg1))
    (h2 : ∀ c : Dev nD, m ((c.tc : Thread nD τ).loc main_arg2) = Layout.block ⟨4, ![1, 2048, 8, 128]⟩ ⟨4, ![1, 8192, 8, 128]⟩ 1 4 c (m' (((0 : Dev Cert.ReferenceIdeal.nD).tc : Thread Cert.ReferenceIdeal.nD Cert.ReferenceIdeal.τ).loc Cert.ReferenceIdeal.main_arg2)))
    (h3 : ∀ c : Dev nD, m ((c.tc : Thread nD τ).loc main_arg3) = Layout.block ⟨4, ![1, 2048, 8, 128]⟩ ⟨4, ![1, 8192, 8, 128]⟩ 1 4 c (m' (((0 : Dev Cert.ReferenceIdeal.nD).tc : Thread Cert.ReferenceIdeal.nD Cert.ReferenceIdeal.τ).loc Cert.ReferenceIdeal.main_arg3)))
    (h4 : m (((0 : Dev nD).tc : Thread nD τ).loc main_arg4) = m' (((0 : Dev Cert.ReferenceIdeal.nD).tc : Thread Cert.ReferenceIdeal.nD Cert.ReferenceIdeal.τ).loc Cert.ReferenceIdeal.main_arg4))
    (c : Dev nD) : outA m c = Cert.ReferenceIdeal.Value.res_main_v34 (F := Ideal) m' 0 := by
  letI := pre_facts
  obtain ⟨hX, hW, -⟩ := pre_fine _ _ _ _ _ (hp 0)
  have hK := fine_blocks _ fun c i => by rw [← h2 c]; exact (pre_fine _ _ _ _ _ (hp c)).2.2 i
  have e : outA m c = out0V (xA m) (wqA m) (kbA m) (vbA m) (woA m) := by
    unfold outA
    split
    · rfl
    · exact outN_eq _ _ _ _ _
  rw [e, res_eq, ← h0, ← h1, ← h4]
  refine Eq.trans ?_ (out_eq _ _ _ _ _ hX hW hK)
  unfold kbA vbA kA vA win
  rw [← h2 0, ← h2 1, ← h3 0, ← h3 1]
  rfl

end Cert.Value
-- ==== Proof.lean ====
/- The proof of the certificate's claims: the two kernels' runs (Proof/KB for the program as printed, Proof/KI, the same
   text, for the idealized one, whose mask constant is named), the reference's run, the named constant, and the equality of
   the two results (Proof/Value). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KI.Launch
public import proofs.«01_k».proof.Proof.KB.Launch
public import proofs.«01_k».proof.Proof.Value.Total
public import Idealize.ShloMosaic.Lib.Quiescent
public import Idealize.ShloMosaic.Adequacy
public import Idealize.ShloMosaic.Init

@[expose] public section

noncomputable section

namespace Cert.Proof

open Idealize.ShloMosaic Idealize.SL.Sem

theorem frame_kernel : Cert.quiescent_Kernel := fun m g _ =>
  (θ_run Cert.Kernel.defs _ _).mono (fun _ h => ⟨fun c => (h.1 c).2, h.2⟩) (Cert.KBProof.run_value (F := Bits) m g)

theorem frame_ideal : Cert.quiescent_KernelIdeal := fun m g _ =>
  (θ_run Cert.KernelIdeal.defs _ _).mono (fun _ h => ⟨fun c => (h.1 c).2, h.2⟩) (Cert.KIProof.run_value (F := Ideal) m g)

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem preserves : Cert.preserves_Kernel_KernelIdeal :=
  IdealRules.named_const.statement Cert.KernelIdeal.κ "mask" .f32 0xC1F00000#32 ⊥ rfl

theorem values : Cert.algebraic_KernelIdeal_ReferenceIdeal_pre_finite_KernelIdeal (hPre_finite_KernelIdeal := Cert.Value.pre_facts) :=
  fun m g m' g' hp h => ⟨Cert.ReferenceIdeal.Value.res_main_v34 (F := Ideal) m' 0,
    (θ_run Cert.KernelIdeal.defs _ _).mono
      (fun _ r c => ⟨(r.1 c).1.trans (Cert.Value.value m m' hp (h 0).1 (h 0).2.1 (fun c => (h c).2.2.1) (fun c => (h c).2.2.2.1) (h 0).2.2.2.2 c), (r.1 c).2⟩)
      (Cert.KIProof.run_value (F := Ideal) m g),
    (θ_run Cert.ReferenceIdeal.defs _ _).mono (fun _ r => r 0) (Cert.ReferenceIdeal.Value.run (F := Ideal) m' g')⟩

theorem claim : Cert.Claim :=
  ⟨Cert.Kernel.Gen.facts, Cert.KernelIdeal.Gen.facts, Cert.ReferenceIdeal.Gen.facts, Cert.Value.pre_facts, Cert.Value.pre_facts',
    frame_kernel, frame_ideal, fun m g _ => frame_ideal m g trivial, frame_reference, fun m g _ => frame_reference m g trivial, preserves, values⟩

end Cert.Proof

end
